-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)) (v3 : (c : Dev Cert.KernelIdeal.nD) → Buf (Elt Ideal) ((c.tc : Thread Cert.KernelIdeal.nD Cert.KernelIdeal.τ).loc Cert.KernelIdeal.main_v28_3)) (v4 : (c : Dev Cert.KernelIdeal.nD) → Buf (Elt Ideal) ((c.tc : Thread Cert.KernelIdeal.nD Cert.KernelIdeal.τ).loc Cert.KernelIdeal.main_v28_4)) (v5 : (c : Dev Cert.KernelIdeal.nD) → Buf (Elt Ideal) ((c.tc : Thread Cert.KernelIdeal.nD Cert.KernelIdeal.τ).loc Cert.KernelIdeal.main_v28_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_v28_3) = v3 c
          ∧ r.2.mem ((c.tc : Thread Cert.KernelIdeal.nD Cert.KernelIdeal.τ).loc Cert.KernelIdeal.main_v28_4) = v4 c
          ∧ r.2.mem ((c.tc : Thread Cert.KernelIdeal.nD Cert.KernelIdeal.τ).loc Cert.KernelIdeal.main_v28_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16_0) = v0 c
          ∧ r.2.mem ((c.tc : Thread Cert.ReferenceIdeal.nD Cert.ReferenceIdeal.τ).loc Cert.ReferenceIdeal.main_v16_1) = v1 c
          ∧ r.2.mem ((c.tc : Thread Cert.ReferenceIdeal.nD Cert.ReferenceIdeal.τ).loc Cert.ReferenceIdeal.main_v16_2) = v2 c
          ∧ r.2.mem ((c.tc : Thread Cert.ReferenceIdeal.nD Cert.ReferenceIdeal.τ).loc Cert.ReferenceIdeal.main_v16_3) = v3 c
          ∧ r.2.mem ((c.tc : Thread Cert.ReferenceIdeal.nD Cert.ReferenceIdeal.τ).loc Cert.ReferenceIdeal.main_v16_4) = v4 c
          ∧ r.2.mem ((c.tc : Thread Cert.ReferenceIdeal.nD Cert.ReferenceIdeal.τ).loc Cert.ReferenceIdeal.main_v16_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2 : Shape := ⟨2, ![4, 2]⟩
abbrev S4 : Shape := ⟨1, ![4]⟩
abbrev S4x2x32 : Shape := ⟨3, ![4, 2, 32]⟩
abbrev S30x4x3x1024x64 : Shape := ⟨5, ![30, 4, 3, 1024, 64]⟩
abbrev S30x4x3x1024 : Shape := ⟨4, ![30, 4, 3, 1024]⟩
abbrev S49152x576 : Shape := ⟨2, ![49152, 576]⟩
abbrev S49152 : Shape := ⟨1, ![49152]⟩
abbrev S30x576 : Shape := ⟨2, ![30, 576]⟩
abbrev S30x288x960 : Shape := ⟨3, ![30, 288, 960]⟩
abbrev S30x18x960 : Shape := ⟨3, ![30, 18, 960]⟩
abbrev S30x288x576 : Shape := ⟨3, ![30, 288, 576]⟩
abbrev S30x18x576 : Shape := ⟨3, ![30, 18, 576]⟩
abbrev S30x288x3072 : Shape := ⟨3, ![30, 288, 3072]⟩
abbrev S30x18x3072 : Shape := ⟨3, ![30, 18, 3072]⟩
abbrev S30x768x576 : Shape := ⟨3, ![30, 768, 576]⟩
abbrev S30x48x576 : Shape := ⟨3, ![30, 48, 576]⟩
abbrev S_ : Shape := ⟨0, ![]⟩
abbrev S4x2x1 : Shape := ⟨3, ![4, 2, 1]⟩
abbrev S4x2x576 : Shape := ⟨3, ![4, 2, 576]⟩
abbrev S8x576 : Shape := ⟨2, ![8, 576]⟩
abbrev S8x1 : Shape := ⟨2, ![8, 1]⟩
abbrev S8x32 : Shape := ⟨2, ![8, 32]⟩
abbrev S8x128 : Shape := ⟨2, ![8, 128]⟩
abbrev S30x4x3x64x1024 : Shape := ⟨5, ![30, 4, 3, 64, 1024]⟩
abbrev S30x3x4x1024 : Shape := ⟨4, ![30, 3, 4, 1024]⟩
abbrev S30x1x576 : Shape := ⟨3, ![30, 1, 576]⟩
abbrev S30x8x576 : Shape := ⟨3, ![30, 8, 576]⟩
abbrev S30x9x8x64 : Shape := ⟨4, ![30, 9, 8, 64]⟩
abbrev S30x8x192 : Shape := ⟨3, ![30, 8, 192]⟩
abbrev S30x8x3 : Shape := ⟨3, ![30, 8, 3]⟩
abbrev S1x4x3x64x1024 : Shape := ⟨5, ![1, 4, 3, 64, 1024]⟩
abbrev S1x3x4x1024 : Shape := ⟨4, ![1, 3, 4, 1024]⟩
abbrev S1x1x576 : Shape := ⟨3, ![1, 1, 576]⟩
abbrev S1x288x960 : Shape := ⟨3, ![1, 288, 960]⟩
abbrev S1x18x960 : Shape := ⟨3, ![1, 18, 960]⟩
abbrev S1x288x576 : Shape := ⟨3, ![1, 288, 576]⟩
abbrev S1x18x576 : Shape := ⟨3, ![1, 18, 576]⟩
abbrev S1x288x3072 : Shape := ⟨3, ![1, 288, 3072]⟩
abbrev S1x18x3072 : Shape := ⟨3, ![1, 18, 3072]⟩
abbrev S1x768x576 : Shape := ⟨3, ![1, 768, 576]⟩
abbrev S1x48x576 : Shape := ⟨3, ![1, 48, 576]⟩
abbrev S1x8x576 : Shape := ⟨3, ![1, 8, 576]⟩
abbrev S1x9x8x64 : Shape := ⟨4, ![1, 9, 8, 64]⟩
abbrev S1x8x192 : Shape := ⟨3, ![1, 8, 192]⟩
abbrev S1x8x3 : Shape := ⟨3, ![1, 8, 3]⟩
abbrev S1x576 : Shape := ⟨2, ![1, 576]⟩
abbrev S8 : Shape := ⟨1, ![8]⟩
abbrev S1x288x256 : Shape := ⟨3, ![1, 288, 256]⟩
abbrev S288x256 : Shape := ⟨2, ![288, 256]⟩
abbrev S72x256 : Shape := ⟨2, ![72, 256]⟩
abbrev S8x288 : Shape := ⟨2, ![8, 288]⟩
abbrev S1x9x256 : Shape := ⟨3, ![1, 9, 256]⟩
abbrev S9x256 : Shape := ⟨2, ![9, 256]⟩
abbrev S32x256 : Shape := ⟨2, ![32, 256]⟩
abbrev S1x256 : Shape := ⟨2, ![1, 256]⟩
abbrev S8x256 : Shape := ⟨2, ![8, 256]⟩
abbrev S1x288x192 : Shape := ⟨3, ![1, 288, 192]⟩
abbrev S288x192 : Shape := ⟨2, ![288, 192]⟩
abbrev S72x192 : Shape := ⟨2, ![72, 192]⟩
abbrev S1x9x192 : Shape := ⟨3, ![1, 9, 192]⟩
abbrev S9x192 : Shape := ⟨2, ![9, 192]⟩
abbrev S32x192 : Shape := ⟨2, ![32, 192]⟩
abbrev S1x192 : Shape := ⟨2, ![1, 192]⟩
abbrev S8x192 : Shape := ⟨2, ![8, 192]⟩
abbrev S8x960 : Shape := ⟨2, ![8, 960]⟩
abbrev S8x768 : Shape := ⟨2, ![8, 768]⟩
abbrev S8x64 : Shape := ⟨2, ![8, 64]⟩
abbrev S8x3 : Shape := ⟨2, ![8, 3]⟩
abbrev S72x1 : Shape := ⟨2, ![72, 1]⟩
abbrev S1x1x3x64x1024 : Shape := ⟨5, ![1, 1, 3, 64, 1024]⟩
abbrev S3x64x1024 : Shape := ⟨3, ![3, 64, 1024]⟩
abbrev S192x1024 : Shape := ⟨2, ![192, 1024]⟩
abbrev S72x1024 : Shape := ⟨2, ![72, 1024]⟩
abbrev S1x1x1x1024 : Shape := ⟨4, ![1, 1, 1, 1024]⟩
abbrev S1x1024 : Shape := ⟨2, ![1, 1024]⟩
abbrev S24x1024 : Shape := ⟨2, ![24, 1024]⟩
abbrev S1 : Shape := ⟨1, ![1]⟩
abbrev S72x8 : Shape := ⟨2, ![72, 8]⟩
abbrev S128x8 : Shape := ⟨2, ![128, 8]⟩
abbrev S1x8 : Shape := ⟨2, ![1, 8]⟩
abbrev S24x8 : Shape := ⟨2, ![24, 8]⟩
abbrev S72 : Shape := ⟨1, ![72]⟩
abbrev S1x1x8x64 : Shape := ⟨4, ![1, 1, 8, 64]⟩
abbrev S1x288x64 : Shape := ⟨3, ![1, 288, 64]⟩
abbrev S288x64 : Shape := ⟨2, ![288, 64]⟩
abbrev S72x64 : Shape := ⟨2, ![72, 64]⟩
abbrev S1x9x64 : Shape := ⟨3, ![1, 9, 64]⟩
abbrev S9x64 : Shape := ⟨2, ![9, 64]⟩
abbrev S32x64 : Shape := ⟨2, ![32, 64]⟩
abbrev S1x64 : Shape := ⟨2, ![1, 64]⟩
abbrev S8x3072 : Shape := ⟨2, ![8, 3072]⟩
abbrev S8x1536 : Shape := ⟨2, ![8, 1536]⟩
abbrev S1x768x256 : Shape := ⟨3, ![1, 768, 256]⟩
abbrev S768x256 : Shape := ⟨2, ![768, 256]⟩
abbrev S192x256 : Shape := ⟨2, ![192, 256]⟩
abbrev S1x24x256 : Shape := ⟨3, ![1, 24, 256]⟩
abbrev S24x256 : Shape := ⟨2, ![24, 256]⟩
abbrev S1x768x64 : Shape := ⟨3, ![1, 768, 64]⟩
abbrev S768x64 : Shape := ⟨2, ![768, 64]⟩
abbrev S192x64 : Shape := ⟨2, ![192, 64]⟩
abbrev S1x24x64 : Shape := ⟨3, ![1, 24, 64]⟩
abbrev S24x64 : Shape := ⟨2, ![24, 64]⟩

abbrev nBuf : Space → Nat
  | .hbm => 58
  | .vmem => 45
  | .smem => 1
  | _ => 0

abbrev bufTy : (tb : Table) → Fin (tcTables nBuf tb) → BufTy
  | .hbm, ⟨0, _⟩ => ⟨S4x2, .i32⟩
  | .hbm, ⟨1, _⟩ => ⟨S4, .i32⟩
  | .hbm, ⟨2, _⟩ => ⟨S4x2x32, .f32⟩
  | .hbm, ⟨3, _⟩ => ⟨S4x2x32, .f32⟩
  | .hbm, ⟨4, _⟩ => ⟨S30x4x3x1024x64, .i8⟩
  | .hbm, ⟨5, _⟩ => ⟨S30x4x3x1024, .f32⟩
  | .hbm, ⟨6, _⟩ => ⟨S30x4x3x1024x64, .i8⟩
  | .hbm, ⟨7, _⟩ => ⟨S30x4x3x1024, .f32⟩
  | .hbm, ⟨8, _⟩ => ⟨S49152x576, .i8⟩
  | .hbm, ⟨9, _⟩ => ⟨S49152, .f32⟩
  | .hbm, ⟨10, _⟩ => ⟨S30x576, .f32⟩
  | .hbm, ⟨11, _⟩ => ⟨S30x576, .f32⟩
  | .hbm, ⟨12, _⟩ => ⟨S30x288x960, .i8⟩
  | .hbm, ⟨13, _⟩ => ⟨S30x18x960, .bf16⟩
  | .hbm, ⟨14, _⟩ => ⟨S30x288x576, .i8⟩
  | .hbm, ⟨15, _⟩ => ⟨S30x18x576, .bf16⟩
  | .hbm, ⟨16, _⟩ => ⟨S30x288x3072, .i8⟩
  | .hbm, ⟨17, _⟩ => ⟨S30x18x3072, .bf16⟩
  | .hbm, ⟨18, _⟩ => ⟨S30x768x576, .i8⟩
  | .hbm, ⟨19, _⟩ => ⟨S30x48x576, .bf16⟩
  | .hbm, ⟨20, _⟩ => ⟨S_, .i32⟩
  | .hbm, ⟨21, _⟩ => ⟨S4x2, .i32⟩
  | .hbm, ⟨22, _⟩ => ⟨S4x2, .i1⟩
  | .hbm, ⟨23, _⟩ => ⟨S_, .i32⟩
  | .hbm, ⟨24, _⟩ => ⟨S4x2, .i32⟩
  | .hbm, ⟨25, _⟩ => ⟨S4x2, .i32⟩
  | .hbm, ⟨26, _⟩ => ⟨S4x2, .i32⟩
  | .hbm, ⟨27, _⟩ => ⟨S4x2x1, .i32⟩
  | .hbm, ⟨28, _⟩ => ⟨S4x2x576, .i8⟩
  | .hbm, ⟨29, _⟩ => ⟨S8x576, .i8⟩
  | .hbm, ⟨30, _⟩ => ⟨S_, .i32⟩
  | .hbm, ⟨31, _⟩ => ⟨S4x2, .i32⟩
  | .hbm, ⟨32, _⟩ => ⟨S4x2, .i1⟩
  | .hbm, ⟨33, _⟩ => ⟨S_, .i32⟩
  | .hbm, ⟨34, _⟩ => ⟨S4x2, .i32⟩
  | .hbm, ⟨35, _⟩ => ⟨S4x2, .i32⟩
  | .hbm, ⟨36, _⟩ => ⟨S4x2, .i32⟩
  | .hbm, ⟨37, _⟩ => ⟨S4x2x1, .i32⟩
  | .hbm, ⟨38, _⟩ => ⟨S4x2, .f32⟩
  | .hbm, ⟨39, _⟩ => ⟨S8x1, .f32⟩
  | .hbm, ⟨40, _⟩ => ⟨S8x32, .f32⟩
  | .hbm, ⟨41, _⟩ => ⟨S8x32, .f32⟩
  | .hbm, ⟨42, _⟩ => ⟨S8x128, .f32⟩
  | .hbm, ⟨43, _⟩ => ⟨S8x32, .f32⟩
  | .hbm, ⟨44, _⟩ => ⟨S8x32, .f32⟩
  | .hbm, ⟨45, _⟩ => ⟨S8x128, .f32⟩
  | .hbm, ⟨46, _⟩ => ⟨S30x4x3x64x1024, .i8⟩
  | .hbm, ⟨47, _⟩ => ⟨S30x4x3x64x1024, .i8⟩
  | .hbm, ⟨48, _⟩ => ⟨S30x3x4x1024, .f32⟩
  | .hbm, ⟨49, _⟩ => ⟨S30x3x4x1024, .f32⟩
  | .hbm, ⟨50, _⟩ => ⟨S30x1x576, .f32⟩
  | .hbm, ⟨51, _⟩ => ⟨S30x1x576, .f32⟩
  | .hbm, ⟨52, _⟩ => ⟨S30x8x576, .f32⟩
  | .hbm, ⟨53, _⟩ => ⟨S30x9x8x64, .f32⟩
  | .hbm, ⟨54, _⟩ => ⟨S30x8x192, .i8⟩
  | .hbm, ⟨55, _⟩ => ⟨S30x8x3, .f32⟩
  | .hbm, ⟨56, _⟩ => ⟨S30x8x192, .i8⟩
  | .hbm, ⟨57, _⟩ => ⟨S30x8x3, .f32⟩
  | .local _ .vmem, ⟨0, _⟩ => ⟨S8x576, .i8⟩
  | .local _ .vmem, ⟨1, _⟩ => ⟨S8x1, .f32⟩
  | .local _ .vmem, ⟨2, _⟩ => ⟨S8x128, .f32⟩
  | .local _ .vmem, ⟨3, _⟩ => ⟨S8x128, .f32⟩
  | .local _ .vmem, ⟨4, _⟩ => ⟨S1x4x3x64x1024, .i8⟩
  | .local _ .vmem, ⟨5, _⟩ => ⟨S1x4x3x64x1024, .i8⟩
  | .local _ .vmem, ⟨6, _⟩ => ⟨S1x3x4x1024, .f32⟩
  | .local _ .vmem, ⟨7, _⟩ => ⟨S1x3x4x1024, .f32⟩
  | .local _ .vmem, ⟨8, _⟩ => ⟨S1x4x3x64x1024, .i8⟩
  | .local _ .vmem, ⟨9, _⟩ => ⟨S1x4x3x64x1024, .i8⟩
  | .local _ .vmem, ⟨10, _⟩ => ⟨S1x3x4x1024, .f32⟩
  | .local _ .vmem, ⟨11, _⟩ => ⟨S1x3x4x1024, .f32⟩
  | .local _ .vmem, ⟨12, _⟩ => ⟨S1x1x576, .f32⟩
  | .local _ .vmem, ⟨13, _⟩ => ⟨S1x1x576, .f32⟩
  | .local _ .vmem, ⟨14, _⟩ => ⟨S1x1x576, .f32⟩
  | .local _ .vmem, ⟨15, _⟩ => ⟨S1x1x576, .f32⟩
  | .local _ .vmem, ⟨16, _⟩ => ⟨S1x288x960, .i8⟩
  | .local _ .vmem, ⟨17, _⟩ => ⟨S1x288x960, .i8⟩
  | .local _ .vmem, ⟨18, _⟩ => ⟨S1x18x960, .bf16⟩
  | .local _ .vmem, ⟨19, _⟩ => ⟨S1x18x960, .bf16⟩
  | .local _ .vmem, ⟨20, _⟩ => ⟨S1x288x576, .i8⟩
  | .local _ .vmem, ⟨21, _⟩ => ⟨S1x288x576, .i8⟩
  | .local _ .vmem, ⟨22, _⟩ => ⟨S1x18x576, .bf16⟩
  | .local _ .vmem, ⟨23, _⟩ => ⟨S1x18x576, .bf16⟩
  | .local _ .vmem, ⟨24, _⟩ => ⟨S1x288x3072, .i8⟩
  | .local _ .vmem, ⟨25, _⟩ => ⟨S1x288x3072, .i8⟩
  | .local _ .vmem, ⟨26, _⟩ => ⟨S1x18x3072, .bf16⟩
  | .local _ .vmem, ⟨27, _⟩ => ⟨S1x18x3072, .bf16⟩
  | .local _ .vmem, ⟨28, _⟩ => ⟨S1x768x576, .i8⟩
  | .local _ .vmem, ⟨29, _⟩ => ⟨S1x768x576, .i8⟩
  | .local _ .vmem, ⟨30, _⟩ => ⟨S1x48x576, .bf16⟩
  | .local _ .vmem, ⟨31, _⟩ => ⟨S1x48x576, .bf16⟩
  | .local _ .vmem, ⟨32, _⟩ => ⟨S1x8x576, .f32⟩
  | .local _ .vmem, ⟨33, _⟩ => ⟨S1x8x576, .f32⟩
  | .local _ .vmem, ⟨34, _⟩ => ⟨S1x9x8x64, .f32⟩
  | .local _ .vmem, ⟨35, _⟩ => ⟨S1x9x8x64, .f32⟩
  | .local _ .vmem, ⟨36, _⟩ => ⟨S1x8x192, .i8⟩
  | .local _ .vmem, ⟨37, _⟩ => ⟨S1x8x192, .i8⟩
  | .local _ .vmem, ⟨38, _⟩ => ⟨S1x8x3, .f32⟩
  | .local _ .vmem, ⟨39, _⟩ => ⟨S1x8x3, .f32⟩
  | .local _ .vmem, ⟨40, _⟩ => ⟨S1x8x192, .i8⟩
  | .local _ .vmem, ⟨41, _⟩ => ⟨S1x8x192, .i8⟩
  | .local _ .vmem, ⟨42, _⟩ => ⟨S1x8x3, .f32⟩
  | .local _ .vmem, ⟨43, _⟩ => ⟨S1x8x3, .f32⟩
  | .local _ .vmem, ⟨44, _⟩ => ⟨S8x576, .f32⟩
  | .local _ .smem, ⟨0, _⟩ => ⟨S4, .i32⟩
  | _, _ => ⟨S4x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .smem, ⟨0, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_1 : Ref sig .tc := ⟨.hbm, 30, rfl⟩
abbrev main_v8 : Ref sig .tc := ⟨.hbm, 31, rfl⟩
abbrev main_v9 : Ref sig .tc := ⟨.hbm, 32, rfl⟩
abbrev main_c_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28_0 : Ref sig .tc := ⟨.hbm, 52, rfl⟩
abbrev main_v28_1 : Ref sig .tc := ⟨.hbm, 53, rfl⟩
abbrev main_v28_2 : Ref sig .tc := ⟨.hbm, 54, rfl⟩
abbrev main_v28_3 : Ref sig .tc := ⟨.hbm, 55, rfl⟩
abbrev main_v28_4 : Ref sig .tc := ⟨.hbm, 56, rfl⟩
abbrev main_v28_5 : Ref sig .tc := ⟨.hbm, 57, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_scratch0 : Ref sig .tc := ⟨.vmem, 44, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44

abbrev nD : Nat := 1
abbrev τ : Topo := Topo.v7x

variable {F : FTy → Type} [FloatOps F]

abbrev grid0 : Pipeline.Grid := ⟨1, ![30], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x576 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x3x64x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x3x64x1024 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x4x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x576 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x576 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x288x960 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x18x960 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x288x576 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x18x576 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x288x3072 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x18x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x768x576 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x48x576 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x576 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x9x8x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x192 .i8 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x8x3 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x8x192 .i8 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x8x3 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ReferenceIdeal.lean ====
abbrev S4x2 : Shape := ⟨2, ![4, 2]⟩
abbrev S4 : Shape := ⟨1, ![4]⟩
abbrev S4x2x32 : Shape := ⟨3, ![4, 2, 32]⟩
abbrev S30x4x3x1024x64 : Shape := ⟨5, ![30, 4, 3, 1024, 64]⟩
abbrev S30x4x3x1024 : Shape := ⟨4, ![30, 4, 3, 1024]⟩
abbrev S49152x576 : Shape := ⟨2, ![49152, 576]⟩
abbrev S49152 : Shape := ⟨1, ![49152]⟩
abbrev S30x576 : Shape := ⟨2, ![30, 576]⟩
abbrev S30x288x960 : Shape := ⟨3, ![30, 288, 960]⟩
abbrev S30x18x960 : Shape := ⟨3, ![30, 18, 960]⟩
abbrev S30x288x576 : Shape := ⟨3, ![30, 288, 576]⟩
abbrev S30x18x576 : Shape := ⟨3, ![30, 18, 576]⟩
abbrev S30x288x3072 : Shape := ⟨3, ![30, 288, 3072]⟩
abbrev S30x18x3072 : Shape := ⟨3, ![30, 18, 3072]⟩
abbrev S30x768x576 : Shape := ⟨3, ![30, 768, 576]⟩
abbrev S30x48x576 : Shape := ⟨3, ![30, 48, 576]⟩
abbrev S_ : Shape := ⟨0, ![]⟩
abbrev S4x2x1 : Shape := ⟨3, ![4, 2, 1]⟩
abbrev S4x2x576 : Shape := ⟨3, ![4, 2, 576]⟩
abbrev S8x576 : Shape := ⟨2, ![8, 576]⟩
abbrev S8x1 : Shape := ⟨2, ![8, 1]⟩
abbrev S30x8x576 : Shape := ⟨3, ![30, 8, 576]⟩
abbrev S30x9x8x64 : Shape := ⟨4, ![30, 9, 8, 64]⟩
abbrev S30x8x192 : Shape := ⟨3, ![30, 8, 192]⟩
abbrev S30x8x3 : Shape := ⟨3, ![30, 8, 3]⟩
abbrev S4x1024 : Shape := ⟨2, ![4, 1024]⟩
abbrev S4x1 : Shape := ⟨2, ![4, 1]⟩
abbrev S2x2 : Shape := ⟨2, ![2, 2]⟩
abbrev S4x2x1x32 : Shape := ⟨4, ![4, 2, 1, 32]⟩
abbrev S1x576 : Shape := ⟨2, ![1, 576]⟩
abbrev S576 : Shape := ⟨1, ![576]⟩
abbrev S8 : Shape := ⟨1, ![8]⟩
abbrev S1x288x960 : Shape := ⟨3, ![1, 288, 960]⟩
abbrev S288x960 : Shape := ⟨2, ![288, 960]⟩
abbrev S1x18x960 : Shape := ⟨3, ![1, 18, 960]⟩
abbrev S18x960 : Shape := ⟨2, ![18, 960]⟩
abbrev S9x960 : Shape := ⟨2, ![9, 960]⟩
abbrev S9x32x960 : Shape := ⟨3, ![9, 32, 960]⟩
abbrev S9x1x960 : Shape := ⟨3, ![9, 1, 960]⟩
abbrev S8x288 : Shape := ⟨2, ![8, 288]⟩
abbrev S8x960 : Shape := ⟨2, ![8, 960]⟩
abbrev S4x2x15x64 : Shape := ⟨4, ![4, 2, 15, 64]⟩
abbrev S4x2x9x64 : Shape := ⟨4, ![4, 2, 9, 64]⟩
abbrev S4x2x9x32 : Shape := ⟨4, ![4, 2, 9, 32]⟩
abbrev S4x2x3x64 : Shape := ⟨4, ![4, 2, 3, 64]⟩
abbrev S4x2x3x32 : Shape := ⟨4, ![4, 2, 3, 32]⟩
abbrev S4x2x3 : Shape := ⟨3, ![4, 2, 3]⟩
abbrev S4x2x3x1 : Shape := ⟨4, ![4, 2, 3, 1]⟩
abbrev S1x4x3x1024x64 : Shape := ⟨5, ![1, 4, 3, 1024, 64]⟩
abbrev S4x3x1024x64 : Shape := ⟨4, ![4, 3, 1024, 64]⟩
abbrev S1x4x3x1024 : Shape := ⟨4, ![1, 4, 3, 1024]⟩
abbrev S4x3x1024 : Shape := ⟨3, ![4, 3, 1024]⟩
abbrev S4x2x3x3x64 : Shape := ⟨5, ![4, 2, 3, 3, 64]⟩
abbrev S4x3x2 : Shape := ⟨3, ![4, 3, 2]⟩
abbrev S4x3x1x1x2 : Shape := ⟨5, ![4, 3, 1, 1, 2]⟩
abbrev S4x3x1024x2x3 : Shape := ⟨5, ![4, 3, 1024, 2, 3]⟩
abbrev S4x3x3x2x1024 : Shape := ⟨5, ![4, 3, 3, 2, 1024]⟩
abbrev S4x3x2x2x3 : Shape := ⟨5, ![4, 3, 2, 2, 3]⟩
abbrev S4x3x3x2x2 : Shape := ⟨5, ![4, 3, 3, 2, 2]⟩
abbrev S4x1x1x1x1024 : Shape := ⟨5, ![4, 1, 1, 1, 1024]⟩
abbrev S4x3x1x1x1024 : Shape := ⟨5, ![4, 3, 1, 1, 1024]⟩
abbrev S1x1x1x2x2 : Shape := ⟨5, ![1, 1, 1, 2, 2]⟩
abbrev S4x3x3x2 : Shape := ⟨4, ![4, 3, 3, 2]⟩
abbrev S4x3x3x2x1 : Shape := ⟨5, ![4, 3, 3, 2, 1]⟩
abbrev S4x3x64x3x2 : Shape := ⟨5, ![4, 3, 64, 3, 2]⟩
abbrev S4x2x3x3 : Shape := ⟨4, ![4, 2, 3, 3]⟩
abbrev S4x2x3x3x1 : Shape := ⟨5, ![4, 2, 3, 3, 1]⟩
abbrev S1x288x576 : Shape := ⟨3, ![1, 288, 576]⟩
abbrev S288x576 : Shape := ⟨2, ![288, 576]⟩
abbrev S1x18x576 : Shape := ⟨3, ![1, 18, 576]⟩
abbrev S18x576 : Shape := ⟨2, ![18, 576]⟩
abbrev S9x576 : Shape := ⟨2, ![9, 576]⟩
abbrev S9x32x576 : Shape := ⟨3, ![9, 32, 576]⟩
abbrev S9x1x576 : Shape := ⟨3, ![9, 1, 576]⟩
abbrev S1x288x3072 : Shape := ⟨3, ![1, 288, 3072]⟩
abbrev S288x3072 : Shape := ⟨2, ![288, 3072]⟩
abbrev S1x18x3072 : Shape := ⟨3, ![1, 18, 3072]⟩
abbrev S18x3072 : Shape := ⟨2, ![18, 3072]⟩
abbrev S9x3072 : Shape := ⟨2, ![9, 3072]⟩
abbrev S9x32x3072 : Shape := ⟨3, ![9, 32, 3072]⟩
abbrev S9x1x3072 : Shape := ⟨3, ![9, 1, 3072]⟩
abbrev S8x3072 : Shape := ⟨2, ![8, 3072]⟩
abbrev S8x1536 : Shape := ⟨2, ![8, 1536]⟩
abbrev S1x768x576 : Shape := ⟨3, ![1, 768, 576]⟩
abbrev S768x576 : Shape := ⟨2, ![768, 576]⟩
abbrev S1x48x576 : Shape := ⟨3, ![1, 48, 576]⟩
abbrev S48x576 : Shape := ⟨2, ![48, 576]⟩
abbrev S24x576 : Shape := ⟨2, ![24, 576]⟩
abbrev S24x32x576 : Shape := ⟨3, ![24, 32, 576]⟩
abbrev S24x1x576 : Shape := ⟨3, ![24, 1, 576]⟩
abbrev S8x768 : Shape := ⟨2, ![8, 768]⟩
abbrev S1x8x576 : Shape := ⟨3, ![1, 8, 576]⟩
abbrev S8x9x64 : Shape := ⟨3, ![8, 9, 64]⟩
abbrev S9x8x64 : Shape := ⟨3, ![9, 8, 64]⟩
abbrev S1x9x8x64 : Shape := ⟨4, ![1, 9, 8, 64]⟩
abbrev S8x192 : Shape := ⟨2, ![8, 192]⟩
abbrev S1x8x192 : Shape := ⟨3, ![1, 8, 192]⟩
abbrev S8x3 : Shape := ⟨2, ![8, 3]⟩
abbrev S1x8x3 : Shape := ⟨3, ![1, 8, 3]⟩

abbrev nBuf : Space → Nat
  | .hbm => 46
  | .vmem => 25
  | .smem => 0
  | _ => 0

abbrev bufTy : (tb : Table) → Fin (tcTables nBuf tb) → BufTy
  | .hbm, ⟨0, _⟩ => ⟨S4x2, .i32⟩
  | .hbm, ⟨1, _⟩ => ⟨S4, .i32⟩
  | .hbm, ⟨2, _⟩ => ⟨S4x2x32, .f32⟩
  | .hbm, ⟨3, _⟩ => ⟨S4x2x32, .f32⟩
  | .hbm, ⟨4, _⟩ => ⟨S30x4x3x1024x64, .i8⟩
  | .hbm, ⟨5, _⟩ => ⟨S30x4x3x1024, .f32⟩
  | .hbm, ⟨6, _⟩ => ⟨S30x4x3x1024x64, .i8⟩
  | .hbm, ⟨7, _⟩ => ⟨S30x4x3x1024, .f32⟩
  | .hbm, ⟨8, _⟩ => ⟨S49152x576, .i8⟩
  | .hbm, ⟨9, _⟩ => ⟨S49152, .f32⟩
  | .hbm, ⟨10, _⟩ => ⟨S30x576, .f32⟩
  | .hbm, ⟨11, _⟩ => ⟨S30x576, .f32⟩
  | .hbm, ⟨12, _⟩ => ⟨S30x288x960, .i8⟩
  | .hbm, ⟨13, _⟩ => ⟨S30x18x960, .bf16⟩
  | .hbm, ⟨14, _⟩ => ⟨S30x288x576, .i8⟩
  | .hbm, ⟨15, _⟩ => ⟨S30x18x576, .bf16⟩
  | .hbm, ⟨16, _⟩ => ⟨S30x288x3072, .i8⟩
  | .hbm, ⟨17, _⟩ => ⟨S30x18x3072, .bf16⟩
  | .hbm, ⟨18, _⟩ => ⟨S30x768x576, .i8⟩
  | .hbm, ⟨19, _⟩ => ⟨S30x48x576, .bf16⟩
  | .hbm, ⟨20, _⟩ => ⟨S_, .i32⟩
  | .hbm, ⟨21, _⟩ => ⟨S4x2, .i32⟩
  | .hbm, ⟨22, _⟩ => ⟨S4x2, .i1⟩
  | .hbm, ⟨23, _⟩ => ⟨S_, .i32⟩
  | .hbm, ⟨24, _⟩ => ⟨S4x2, .i32⟩
  | .hbm, ⟨25, _⟩ => ⟨S4x2, .i32⟩
  | .hbm, ⟨26, _⟩ => ⟨S4x2, .i32⟩
  | .hbm, ⟨27, _⟩ => ⟨S4x2x1, .i32⟩
  | .hbm, ⟨28, _⟩ => ⟨S4x2x576, .i8⟩
  | .hbm, ⟨29, _⟩ => ⟨S8x576, .i8⟩
  | .hbm, ⟨30, _⟩ => ⟨S_, .i32⟩
  | .hbm, ⟨31, _⟩ => ⟨S4x2, .i32⟩
  | .hbm, ⟨32, _⟩ => ⟨S4x2, .i1⟩
  | .hbm, ⟨33, _⟩ => ⟨S_, .i32⟩
  | .hbm, ⟨34, _⟩ => ⟨S4x2, .i32⟩
  | .hbm, ⟨35, _⟩ => ⟨S4x2, .i32⟩
  | .hbm, ⟨36, _⟩ => ⟨S4x2, .i32⟩
  | .hbm, ⟨37, _⟩ => ⟨S4x2x1, .i32⟩
  | .hbm, ⟨38, _⟩ => ⟨S4x2, .f32⟩
  | .hbm, ⟨39, _⟩ => ⟨S8x1, .f32⟩
  | .hbm, ⟨40, _⟩ => ⟨S30x8x576, .f32⟩
  | .hbm, ⟨41, _⟩ => ⟨S30x9x8x64, .f32⟩
  | .hbm, ⟨42, _⟩ => ⟨S30x8x192, .i8⟩
  | .hbm, ⟨43, _⟩ => ⟨S30x8x3, .f32⟩
  | .hbm, ⟨44, _⟩ => ⟨S30x8x192, .i8⟩
  | .hbm, ⟨45, _⟩ => ⟨S30x8x3, .f32⟩
  | .local _ .vmem, ⟨0, _⟩ => ⟨S4, .i32⟩
  | .local _ .vmem, ⟨1, _⟩ => ⟨S8x576, .i8⟩
  | .local _ .vmem, ⟨2, _⟩ => ⟨S8x1, .f32⟩
  | .local _ .vmem, ⟨3, _⟩ => ⟨S4x2x32, .f32⟩
  | .local _ .vmem, ⟨4, _⟩ => ⟨S4x2x32, .f32⟩
  | .local _ .vmem, ⟨5, _⟩ => ⟨S30x4x3x1024x64, .i8⟩
  | .local _ .vmem, ⟨6, _⟩ => ⟨S30x4x3x1024, .f32⟩
  | .local _ .vmem, ⟨7, _⟩ => ⟨S30x4x3x1024x64, .i8⟩
  | .local _ .vmem, ⟨8, _⟩ => ⟨S30x4x3x1024, .f32⟩
  | .local _ .vmem, ⟨9, _⟩ => ⟨S30x576, .f32⟩
  | .local _ .vmem, ⟨10, _⟩ => ⟨S30x576, .f32⟩
  | .local _ .vmem, ⟨11, _⟩ => ⟨S30x288x960, .i8⟩
  | .local _ .vmem, ⟨12, _⟩ => ⟨S30x18x960, .bf16⟩
  | .local _ .vmem, ⟨13, _⟩ => ⟨S30x288x576, .i8⟩
  | .local _ .vmem, ⟨14, _⟩ => ⟨S30x18x576, .bf16⟩
  | .local _ .vmem, ⟨15, _⟩ => ⟨S30x288x3072, .i8⟩
  | .local _ .vmem, ⟨16, _⟩ => ⟨S30x18x3072, .bf16⟩
  | .local _ .vmem, ⟨17, _⟩ => ⟨S30x768x576, .i8⟩
  | .local _ .vmem, ⟨18, _⟩ => ⟨S30x48x576, .bf16⟩
  | .local _ .vmem, ⟨19, _⟩ => ⟨S30x8x576, .f32⟩
  | .local _ .vmem, ⟨20, _⟩ => ⟨S30x9x8x64, .f32⟩
  | .local _ .vmem, ⟨21, _⟩ => ⟨S30x8x192, .i8⟩
  | .local _ .vmem, ⟨22, _⟩ => ⟨S30x8x3, .f32⟩
  | .local _ .vmem, ⟨23, _⟩ => ⟨S30x8x192, .i8⟩
  | .local _ .vmem, ⟨24, _⟩ => ⟨S30x8x3, .f32⟩
  | _, _ => ⟨S4x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_1 : Ref sig .tc := ⟨.hbm, 30, rfl⟩
abbrev main_v8 : Ref sig .tc := ⟨.hbm, 31, rfl⟩
abbrev main_v9 : Ref sig .tc := ⟨.hbm, 32, rfl⟩
abbrev main_c_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev main_v16_2 : Ref sig .tc := ⟨.hbm, 42, rfl⟩
abbrev main_v16_3 : Ref sig .tc := ⟨.hbm, 43, rfl⟩
abbrev main_v16_4 : Ref sig .tc := ⟨.hbm, 44, rfl⟩
abbrev main_v16_5 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c30_i32 : BitVec 32 := 30#32
  let v19 : BitVec 32 := Scalar.addi c0_i32 c30_i32
  let c1_i32 : BitVec 32 := 1#32
  ⟨c0_i32, v19, c1_i32⟩
def k0_off1 (k0_t1 : Fin k0_t1_loop.trips) : Fin 2 → Nat :=
  let c0_i32 : BitVec 32 := 0#32
  let c1_i32 : BitVec 32 := 1#32
  let arg25 : BitVec 32 := Scf.iv c0_i32 c1_i32 k0_t1
  let v21 : Index := Scalar.indexCast arg25
  let c0_11 : Index := 0#32
  ![v21.toNat, 0]
def k0_off2 (k0_t1 : Fin k0_t1_loop.trips) : Fin 3 → Nat :=
  let c0_i32 : BitVec 32 := 0#32
  let c1_i32 : BitVec 32 := 1#32
  let arg25 : BitVec 32 := Scf.iv c0_i32 c1_i32 k0_t1
  let v37 : Index := Scalar.indexCast arg25
  let c0_14 : Index := 0#32
  let c0_15 : Index := 0#32
  ![v37.toNat, 0, 0]
def k0_off3 (k0_t1 : Fin k0_t1_loop.trips) : Fin 3 → Nat :=
  let c0_i32 : BitVec 32 := 0#32
  let c1_i32 : BitVec 32 := 1#32
  let arg25 : BitVec 32 := Scf.iv c0_i32 c1_i32 k0_t1
  let v40 : Index := Scalar.indexCast arg25
  let c0_16 : Index := 0#32
  let c0_17 : Index := 0#32
  ![v40.toNat, 0, 0]
def k0_off4 (k0_t1 : Fin k0_t1_loop.trips) : Fin 5 → Nat :=
  let c0_i32 : BitVec 32 := 0#32
  let c1_i32 : BitVec 32 := 1#32
  let arg25 : BitVec 32 := Scf.iv c0_i32 c1_i32 k0_t1
  let v144 : Index := Scalar.indexCast arg25
  let c0_33 : Index := 0#32
  let c0_34 : Index := 0#32
  let c0_35 : Index := 0#32
  let c0_36 : Index := 0#32
  ![v144.toNat, 0, 0, 0, 0]
def k0_off5 (k0_t1 : Fin k0_t1_loop.trips) : Fin 4 → Nat :=
  let c0_i32 : BitVec 32 := 0#32
  let c1_i32 : BitVec 32 := 1#32
  let arg25 : BitVec 32 := Scf.iv c0_i32 c1_i32 k0_t1
  let v147 : Index := Scalar.indexCast arg25
  let c0_37 : Index := 0#32
  let c0_38 : Index := 0#32
  let c0_39 : Index := 0#32
  ![v147.toNat, 0, 0, 0]
def k0_off6 (k0_t1 : Fin k0_t1_loop.trips) : Fin 3 → Nat :=
  let c0_i32 : BitVec 32 := 0#32
  let c1_i32 : BitVec 32 := 1#32
  let arg25 : BitVec 32 := Scf.iv c0_i32 c1_i32 k0_t1
  let v225 : Index := Scalar.indexCast arg25
  let c0_61 : Index := 0#32
  let c0_62 : Index := 0#32
  ![v225.toNat, 0, 0]
def k0_off7 (k0_t1 : Fin k0_t1_loop.trips) : Fin 3 → Nat :=
  let c0_i32 : BitVec 32 := 0#32
  let c1_i32 : BitVec 32 := 1#32
  let arg25 : BitVec 32 := Scf.iv c0_i32 c1_i32 k0_t1
  let v228 : Index := Scalar.indexCast arg25
  let c0_63 : Index := 0#32
  let c0_64 : Index := 0#32
  ![v228.toNat, 0, 0]
def k0_off8 (k0_t1 : Fin k0_t1_loop.trips) : Fin 3 → Nat :=
  let c0_i32 : BitVec 32 := 0#32
  let c1_i32 : BitVec 32 := 1#32
  let arg25 : BitVec 32 := Scf.iv c0_i32 c1_i32 k0_t1
  let v281 : Index := Scalar.indexCast arg25
  let c0_77 : Index := 0#32
  let c0_78 : Index := 0#32
  ![v281.toNat, 0, 0]
def k0_off9 (k0_t1 : Fin k0_t1_loop.trips) : Fin 3 → Nat :=
  let c0_i32 : BitVec 32 := 0#32
  let c1_i32 : BitVec 32 := 1#32
  let arg25 : BitVec 32 := Scf.iv c0_i32 c1_i32 k0_t1
  let v284 : Index := Scalar.indexCast arg25
  let c0_79 : Index := 0#32
  let c0_80 : Index := 0#32
  ![v284.toNat, 0, 0]
def k0_off10 (k0_t1 : Fin k0_t1_loop.trips) : Fin 3 → Nat :=
  let c0_i32 : BitVec 32 := 0#32
  let c1_i32 : BitVec 32 := 1#32
  let arg25 : BitVec 32 := Scf.iv c0_i32 c1_i32 k0_t1
  let v325 : Index := Scalar.indexCast arg25
  let c0_89 : Index := 0#32
  let c0_90 : Index := 0#32
  ![v325.toNat, 0, 0]
def k0_off11 (k0_t1 : Fin k0_t1_loop.trips) : Fin 3 → Nat :=
  let c0_i32 : BitVec 32 := 0#32
  let c1_i32 : BitVec 32 := 1#32
  let arg25 : BitVec 32 := Scf.iv c0_i32 c1_i32 k0_t1
  let v328 : Index := Scalar.indexCast arg25
  let c0_91 : Index := 0#32
  let c0_92 : Index := 0#32
  ![v328.toNat, 0, 0]
def k0_off12 (k0_t1 : Fin k0_t1_loop.trips) : Fin 3 → Nat :=
  let c0_i32 : BitVec 32 := 0#32
  let c1_i32 : BitVec 32 := 1#32
  let arg25 : BitVec 32 := Scf.iv c0_i32 c1_i32 k0_t1
  let v365 : Index := Scalar.indexCast arg25
  let c0_101 : Index := 0#32
  let c0_102 : Index := 0#32
  ![v365.toNat, 0, 0]
def k0_off13 (k0_t1 : Fin k0_t1_loop.trips) : Fin 4 → Nat :=
  let c0_i32 : BitVec 32 := 0#32
  let c1_i32 : BitVec 32 := 1#32
  let arg25 : BitVec 32 := Scf.iv c0_i32 c1_i32 k0_t1
  let v371 : Index := Scalar.indexCast arg25
  let c0_103 : Index := 0#32
  let c0_104 : Index := 0#32
  let c0_105 : Index := 0#32
  ![v371.toNat, 0, 0, 0]
def k0_off14 (k0_t1 : Fin k0_t1_loop.trips) : Fin 3 → Nat :=
  let c0_i32 : BitVec 32 := 0#32
  let c1_i32 : BitVec 32 := 1#32
  let arg25 : BitVec 32 := Scf.iv c0_i32 c1_i32 k0_t1
  let v376 : Index := Scalar.indexCast arg25
  let c0_106 : Index := 0#32
  let c0_107 : Index := 0#32
  ![v376.toNat, 0, 0]
def k0_off15 (k0_t1 : Fin k0_t1_loop.trips) : Fin 3 → Nat :=
  let c0_i32 : BitVec 32 := 0#32
  let c1_i32 : BitVec 32 := 1#32
  let arg25 : BitVec 32 := Scf.iv c0_i32 c1_i32 k0_t1
  let v381 : Index := Scalar.indexCast arg25
  let c0_108 : Index := 0#32
  let c0_109 : Index := 0#32
  ![v381.toNat, 0, 0]
abbrev stage0_0 : Fin 1 → Memref sig .tc .vmem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x576 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S30x4x3x1024x64 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S30x4x3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S30x4x3x1024x64 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S30x4x3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S30x576 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S30x576 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S30x288x960 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S30x18x960 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S30x288x576 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S30x18x576 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S30x288x3072 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S30x18x3072 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S30x768x576 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S30x48x576 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S30x8x576 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S30x9x8x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S30x8x192 .i8 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S30x8x3 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S30x8x192 .i8 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S30x8x3 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
-- ==== Proof.Run.Kernel.RunA.lean ====
/- The run of the whole kernel body at the first grid point: the generated module of the same name,
   with a larger budget. The definition's proof term is long (the body is one straight line of some
   1300 operations), and walking it once more at the end takes more than the generated budget. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (19, 20, 21, 22, 23, 24) at anything, handed back at some contents nothing names. -/
noncomputable def kernelRun0_A (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) :
    { LS0 : List (View.Piece (Elt F) S8x576 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ f, arg26.view.loc (c : Thread nD τ) ↦[arg26.view.set]{fullShare} arg26.view.writes (Elt F) f LS0)) -∗ K ⟨⟩))
          ⊢ wp frame (wpE (defs₀ (F := F)) Variants.none c none) E (cc0_layers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    simp only [cc0_layers_eq_skeleton]; unfold cc0_layers_skel
    simp only [k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _; iexact HS0

end Cert.Kernel.Gen

end
-- ==== Proof.Run.Kernel.RunB.lean ====
/- The run of the whole kernel body at every later grid point: the generated module of the same name,
   with a larger budget. The definition's proof term is long (the body is one straight line of some
   1300 operations), and walking it once more at the end takes more than the generated budget. -/
module

public import proofs.«01_k».proof.Proof.Run.Kernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- What the body's stores leave in each output's staging memref, as pieces (last first) IN CASE B (`scf.if` 0 not taken: points 1, 2, … 29: 29 of 30), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (19, 20, 21, 22, 23, 24) at anything, handed back at some contents nothing names. -/
noncomputable def kernelRun0_B (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) :
    { LS0 : List (View.Piece (Elt F) S8x576 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ f, arg26.view.loc (c : Thread nD τ) ↦[arg26.view.set]{fullShare} arg26.view.writes (Elt F) f LS0)) -∗ K ⟨⟩))
          ⊢ wp frame (wpE (defs₀ (F := F)) Variants.none c none) E (cc0_layers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    simp only [cc0_layers_eq_skeleton]; unfold cc0_layers_skel
    simp only [k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg26.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _; iexact HS0

end Cert.Kernel.Gen

end
-- ==== Proof.Run.Kernel.Frame.lean ====
/- The frame certificate: the generated frame module over the run modules beside it. -/
module

public import proofs.«01_k».proof.Proof.Run.Kernel.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg26`, which the kernel carries between points, cover it: 2 pieces of `S8x576` tiling it (Lib/Ring.lean `Piece.tiledL`). -/
theorem scover0_A_0 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (y : S8x576.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).1 S8x576.size (by sl_kernel_rfl) y

/-- What case A leaves in scratch `arg26`: its pieces read back over junk. -/
def sout0_A_0 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) : Vec F S8x576 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).1)

/-- Case B's pieces for scratch `arg26`, which the kernel carries between points, cover it: 1 piece of `S8x576` tiling it (Lib/Ring.lean `Piece.tiledL`). -/
theorem scover0_B_0 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) (y : S8x576.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).1 S8x576.size (by sl_kernel_rfl) y

/-- What case B leaves in scratch `arg26`: its pieces read back over junk. -/
def sout0_B_0 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) : Vec F S8x576 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x576 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩)
  | n + 1, hn =>
    if h0 : (n + 1) % 30 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn))

/-- `outsAt0` at a point of case A: that case's contents. -/
theorem outsAt0_A (c : Dev nD) (t : Fin cfg0.N) (h0 : t.val % 30 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 30 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)))) ∗ (∃ r, prngReg c r)) := by
  cases n with
  | zero => exact absurd rfl hz
  | succ n => rfl

/-! ## The pipeline's proof data -/

/-- The output windows this certificate FORGETS (19, 20, 21, 22, 23, 24): nothing reads what the kernel leaves in them, so nothing
    of it is named (Lib/Pipeline/Dat.lean `Dat.toRForget`). -/
def forgets0 : Fin 25 → Bool := fun w => w.val == 19 || w.val == 20 || w.val == 21 || w.val == 22 || w.val == 23 || w.val == 24

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨_ + 25, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = PhiS m c (t.val + 1) t.isLt from rfl, PhiS_succ]
  have hN : t.val < 30 := lt_of_lt_of_eq t.isLt (show cfg0.N = 30 from N_0)
  by_cases h0 : t.val % 30 = 0
  · by_cases hz : t.val = 0
    · rw [PhiS_castSucc m c t, PhiS_zero m c _ _ hz, PhiA0_eq]
      rw [outsAt0_A m c t h0]
      unfold sout0_A_0
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [HS0]; · iexact HS0
      iintro ⟨H0, H1, H2, H3, H4, H5, H6, H7, H8, H9, H10, H11, H12, H13, H14, H15, H16, H17, H18, H19, H20, H21, H22, H23, H24, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      iexact H24
    · exfalso; have hN : t.val < 30 := lt_of_lt_of_eq t.isLt (show cfg0.N = 30 from N_0); omega
  · by_cases hz : t.val = 0
    · exfalso; have hN : t.val < 30 := lt_of_lt_of_eq t.isLt (show cfg0.N = 30 from N_0); omega
    · rw [PhiS_castSucc m c t, PhiS_pos m c _ _ hz]
      rw [outsAt0_B m c t h0]
      unfold sout0_B_0
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [HS0]; · iexact HS0
      iintro ⟨H0, H1, H2, H3, H4, H5, H6, H7, H8, H9, H10, H11, H12, H13, H14, H15, H16, H17, H18, H19, H20, H21, H22, H23, H24, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 30 := N_0; omega)

/-! ## The run and the frame -/

-- `θ_run_frame_track_forget`'s implicit arguments are found by unifying its conclusion with this one, which takes unfolding plain
-- definitions in a metavariable's type
set_option backward.isDefEq.respectTransparency.types false in
set_option maxHeartbeats 16000000 in
/-- The frame claim from a run that names the arrays it leaves alone: an input's array and every buffer that no
    window stages hold what they held at the start. -/
theorem frame_of_named (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_arg0 (Pipeline.mem_restRefs_of main_arg0 (by decide) (by decide))).trans (V_main_arg0 m c),
      (Pipeline.RDat.FramePost.arr_in (cfg₁ := cfgs 0) (rdat := rdat) (V := V m) h c 0 rfl).trans ((hA c 0).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      (Pipeline.RDat.FramePost.arr_in (cfg₁ := cfgs 0) (rdat := rdat) (V := V m) h c 11 rfl).trans ((hA c 11).trans (V_main_arg12 m c)),
      (Pipeline.RDat.FramePost.arr_in (cfg₁ := cfgs 0) (rdat := rdat) (V := V m) h c 12 rfl).trans ((hA c 12).trans (V_main_arg13 m c)),
      (Pipeline.RDat.FramePost.arr_in (cfg₁ := cfgs 0) (rdat := rdat) (V := V m) h c 13 rfl).trans ((hA c 13).trans (V_main_arg14 m c)),
      (Pipeline.RDat.FramePost.arr_in (cfg₁ := cfgs 0) (rdat := rdat) (V := V m) h c 14 rfl).trans ((hA c 14).trans (V_main_arg15 m c)),
      (Pipeline.RDat.FramePost.arr_in (cfg₁ := cfgs 0) (rdat := rdat) (V := V m) h c 15 rfl).trans ((hA c 15).trans (V_main_arg16 m c)),
      (Pipeline.RDat.FramePost.arr_in (cfg₁ := cfgs 0) (rdat := rdat) (V := V m) h c 16 rfl).trans ((hA c 16).trans (V_main_arg17 m c)),
      (Pipeline.RDat.FramePost.arr_in (cfg₁ := cfgs 0) (rdat := rdat) (V := V m) h c 17 rfl).trans ((hA c 17).trans (V_main_arg18 m c)),
      (Pipeline.RDat.FramePost.arr_in (cfg₁ := cfgs 0) (rdat := rdat) (V := V m) h c 18 rfl).trans ((hA c 18).trans (V_main_arg19 m c))⟩) h

/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 19, 20, 21, 22, 23, 24) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of_named m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.Kernel.Gen

end
-- ==== Proof.Run.KernelIdeal.RunA.lean ====
/- The run of the whole kernel body at the first grid point: the generated module of the same name,
   with a larger budget. The definition's proof term is long (the body is one straight line of some
   1300 operations), and walking it once more at the end takes more than the generated budget. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) :
    Σ' (L19 : List (View.Piece (Elt F) S1x8x576 .f32)), Σ' (L20 : List (View.Piece (Elt F) S1x9x8x64 .f32)), Σ' (L21 : List (View.Piece (Elt F) S1x8x192 .i8)), Σ' (L22 : List (View.Piece (Elt F) S1x8x3 .f32)), Σ' (L23 : List (View.Piece (Elt F) S1x8x192 .i8)), Σ' (L24 : List (View.Piece (Elt F) S1x8x3 .f32)), { LS0 : List (View.Piece (Elt F) S8x576 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f LS0)) -∗ K ⟨⟩))
          ⊢ wp frame (wpE (defs₀ (F := F)) Variants.none c none) E (cc0_layers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, fun E K => ?run⟩
  case run =>
    simp only [cc0_layers_eq_skeleton]; unfold cc0_layers_skel
    simp only [k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact HS0

end Cert.KernelIdeal.Gen

end
-- ==== Proof.Run.KernelIdeal.RunB.lean ====
/- The run of the whole kernel body at every later grid point: the generated module of the same name,
   with a larger budget. The definition's proof term is long (the body is one straight line of some
   1300 operations), and walking it once more at the end takes more than the generated budget. -/
module

public import proofs.«01_k».proof.Proof.Run.KernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- What the body's stores leave in each output's staging memref, as pieces (last first) IN CASE B (`scf.if` 0 not taken: points 1, 2, … 29: 29 of 30), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) :
    Σ' (L19 : List (View.Piece (Elt F) S1x8x576 .f32)), Σ' (L20 : List (View.Piece (Elt F) S1x9x8x64 .f32)), Σ' (L21 : List (View.Piece (Elt F) S1x8x192 .i8)), Σ' (L22 : List (View.Piece (Elt F) S1x8x3 .f32)), Σ' (L23 : List (View.Piece (Elt F) S1x8x192 .i8)), Σ' (L24 : List (View.Piece (Elt F) S1x8x3 .f32)), { LS0 : List (View.Piece (Elt F) S8x576 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f LS0)) -∗ K ⟨⟩))
          ⊢ wp frame (wpE (defs₀ (F := F)) Variants.none c none) E (cc0_layers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, fun E K => ?run⟩
  case run =>
    simp only [cc0_layers_eq_skeleton]; unfold cc0_layers_skel
    simp only [k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg26.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iexists _; iexact HS0

end Cert.KernelIdeal.Gen

end
-- ==== Proof.Run.KernelIdeal.Outs.lean ====
/- What each output's buffer (and the carried scratch) holds after the body, case by case: the generated
   frame module's first half, over the run modules beside it. -/
module

public import proofs.«01_k».proof.Proof.Run.KernelIdeal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 19 tile its block (1 store of `S1x8x576`, checked by the kernel's evaluation: Lib/Ring.lean `Piece.tiledL`, linear in the pieces, through a loop's `@[irreducible]` trip theorem too), so they cover it. -/
theorem cover0_A_19 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (y : S1x8x576.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).1 S1x8x576.size (by sl_kernel_rfl) y

/-- What case A leaves in output 19's staging buffer: its pieces read back over junk. -/
def out0_A_19 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) : Vec F S1x8x576 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).1)

/-- Case A's pieces for output 20 tile its block (9 stores of `S1x1x8x64`, checked by the kernel's evaluation: Lib/Ring.lean `Piece.tiledL`, linear in the pieces, through a loop's `@[irreducible]` trip theorem too), so they cover it. -/
theorem cover0_A_20 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (y : S1x9x8x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.1 S1x1x8x64.size (by sl_kernel_rfl) y

/-- What case A leaves in output 20's staging buffer: its pieces read back over junk. -/
def out0_A_20 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) : Vec F S1x9x8x64 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.1)

/-- Case A's pieces for output 21 tile its block (1 store of `S1x8x192`, checked by the kernel's evaluation: Lib/Ring.lean `Piece.tiledL`, linear in the pieces, through a loop's `@[irreducible]` trip theorem too), so they cover it. -/
theorem cover0_A_21 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (y : S1x8x192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.1 S1x8x192.size (by sl_kernel_rfl) y

/-- What case A leaves in output 21's staging buffer: its pieces read back over junk. -/
def out0_A_21 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) : Vec F S1x8x192 .i8 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.1)

/-- Case A's pieces for output 22 tile its block (1 store of `S1x8x3`, checked by the kernel's evaluation: Lib/Ring.lean `Piece.tiledL`, linear in the pieces, through a loop's `@[irreducible]` trip theorem too), so they cover it. -/
theorem cover0_A_22 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (y : S1x8x3.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.2.1 S1x8x3.size (by sl_kernel_rfl) y

/-- What case A leaves in output 22's staging buffer: its pieces read back over junk. -/
def out0_A_22 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) : Vec F S1x8x3 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.2.1)

/-- Case A's pieces for output 23 tile its block (1 store of `S1x8x192`, checked by the kernel's evaluation: Lib/Ring.lean `Piece.tiledL`, linear in the pieces, through a loop's `@[irreducible]` trip theorem too), so they cover it. -/
theorem cover0_A_23 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (y : S1x8x192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.2.2.1 S1x8x192.size (by sl_kernel_rfl) y

/-- What case A leaves in output 23's staging buffer: its pieces read back over junk. -/
def out0_A_23 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) : Vec F S1x8x192 .i8 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.2.2.1)

/-- Case A's pieces for output 24 tile its block (1 store of `S1x8x3`, checked by the kernel's evaluation: Lib/Ring.lean `Piece.tiledL`, linear in the pieces, through a loop's `@[irreducible]` trip theorem too), so they cover it. -/
theorem cover0_A_24 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (y : S1x8x3.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.2.2.2.1 S1x8x3.size (by sl_kernel_rfl) y

/-- What case A leaves in output 24's staging buffer: its pieces read back over junk. -/
def out0_A_24 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) : Vec F S1x8x3 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.2.2.2.1)

/-- Case A's pieces for scratch `arg26`, which the kernel carries between points, cover it: 2 pieces of `S8x576` tiling it (Lib/Ring.lean `Piece.tiledL`). -/
theorem scover0_A_0 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (y : S8x576.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.2.2.2.2.1 S8x576.size (by sl_kernel_rfl) y

/-- What case A leaves in scratch `arg26`: its pieces read back over junk. -/
def sout0_A_0 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) : Vec F S8x576 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18).2.2.2.2.2.2.1)

/-- Case B's pieces for output 19 tile its block (1 store of `S1x8x576`, checked by the kernel's evaluation: Lib/Ring.lean `Piece.tiledL`, linear in the pieces, through a loop's `@[irreducible]` trip theorem too), so they cover it. -/
theorem cover0_B_19 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) (y : S1x8x576.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).1 S1x8x576.size (by sl_kernel_rfl) y

/-- What case B leaves in output 19's staging buffer: its pieces read back over junk. -/
def out0_B_19 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) : Vec F S1x8x576 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).1)

/-- Case B's pieces for output 20 tile its block (9 stores of `S1x1x8x64`, checked by the kernel's evaluation: Lib/Ring.lean `Piece.tiledL`, linear in the pieces, through a loop's `@[irreducible]` trip theorem too), so they cover it. -/
theorem cover0_B_20 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) (y : S1x9x8x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.1 S1x1x8x64.size (by sl_kernel_rfl) y

/-- What case B leaves in output 20's staging buffer: its pieces read back over junk. -/
def out0_B_20 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) : Vec F S1x9x8x64 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.1)

/-- Case B's pieces for output 21 tile its block (1 store of `S1x8x192`, checked by the kernel's evaluation: Lib/Ring.lean `Piece.tiledL`, linear in the pieces, through a loop's `@[irreducible]` trip theorem too), so they cover it. -/
theorem cover0_B_21 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) (y : S1x8x192.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.1 S1x8x192.size (by sl_kernel_rfl) y

/-- What case B leaves in output 21's staging buffer: its pieces read back over junk. -/
def out0_B_21 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) : Vec F S1x8x192 .i8 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.1)

/-- Case B's pieces for output 22 tile its block (1 store of `S1x8x3`, checked by the kernel's evaluation: Lib/Ring.lean `Piece.tiledL`, linear in the pieces, through a loop's `@[irreducible]` trip theorem too), so they cover it. -/
theorem cover0_B_22 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) (y : S1x8x3.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.2.1 S1x8x3.size (by sl_kernel_rfl) y

/-- What case B leaves in output 22's staging buffer: its pieces read back over junk. -/
def out0_B_22 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) : Vec F S1x8x3 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.2.1)

/-- Case B's pieces for output 23 tile its block (1 store of `S1x8x192`, checked by the kernel's evaluation: Lib/Ring.lean `Piece.tiledL`, linear in the pieces, through a loop's `@[irreducible]` trip theorem too), so they cover it. -/
theorem cover0_B_23 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) (y : S1x8x192.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.2.2.1 S1x8x192.size (by sl_kernel_rfl) y

/-- What case B leaves in output 23's staging buffer: its pieces read back over junk. -/
def out0_B_23 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) : Vec F S1x8x192 .i8 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.2.2.1)

/-- Case B's pieces for output 24 tile its block (1 store of `S1x8x3`, checked by the kernel's evaluation: Lib/Ring.lean `Piece.tiledL`, linear in the pieces, through a loop's `@[irreducible]` trip theorem too), so they cover it. -/
theorem cover0_B_24 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) (y : S1x8x3.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.2.2.2.1 S1x8x3.size (by sl_kernel_rfl) y

/-- What case B leaves in output 24's staging buffer: its pieces read back over junk. -/
def out0_B_24 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) : Vec F S1x8x3 .f32 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.2.2.2.1)

/-- Case B's pieces for scratch `arg26`, which the kernel carries between points, cover it: 1 piece of `S8x576` tiling it (Lib/Ring.lean `Piece.tiledL`). -/
theorem scover0_B_0 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) (y : S8x576.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.2.2.2.2.1 S8x576.size (by sl_kernel_rfl) y

/-- What case B leaves in scratch `arg26`: its pieces read back over junk. -/
def sout0_B_0 (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i)
    (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32) : Vec F S8x576 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0).2.2.2.2.2.2.1)

end Cert.KernelIdeal.Gen

end
-- ==== Proof.Run.KernelIdeal.Frame.lean ====
/- The frame certificate: the proof data, the body obligation, the run and the frame claim: the generated frame
   module's second half. -/
module

public import proofs.«01_k».proof.Proof.Run.KernelIdeal.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x8x576 .f32 × Vec F S1x9x8x64 .f32 × Vec F S1x8x192 .i8 × Vec F S1x8x3 .f32 × Vec F S1x8x192 .i8 × Vec F S1x8x3 .f32 × Vec F S8x576 .f32
  | 0, hn => (out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), out0_A_21 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), out0_A_23 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), out0_A_24 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩))
  | n + 1, hn =>
    if h0 : (n + 1) % 30 = 0 then
      (out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), out0_A_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), out0_A_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), out0_A_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩))
    else
      (out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.2.2.2.2, out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.2.2.2.2, out0_B_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.2.2.2.2, out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.2.2.2.2, out0_B_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.2.2.2.2, out0_B_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2.2.2.2.2.2)

/-- `outsAt0` at a point of case A: that case's contents. -/
theorem outsAt0_A (c : Dev nD) (t : Fin cfg0.N) (h0 : t.val % 30 = 0) :
    outsAt0 m c t.val t.isLt = (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 30 = 0) :
    outsAt0 m c t.val t.isLt = (out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t.val t.isLt).1
    | ⟨20, _⟩ => (outsAt0 m c t.val t.isLt).2.1
    | ⟨21, _⟩ => (outsAt0 m c t.val t.isLt).2.2.1
    | ⟨22, _⟩ => (outsAt0 m c t.val t.isLt).2.2.2.1
    | ⟨23, _⟩ => (outsAt0 m c t.val t.isLt).2.2.2.2.1
    | ⟨24, _⟩ => (outsAt0 m c t.val t.isLt).2.2.2.2.2.1
    | ⟨_ + 25, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t.val t.isLt).1 := by dsimp only [dats]
theorem after0_20 (c : Dev nD) (t : Fin cfg0.N) : (dats m 0 c).after 20 t = (outsAt0 m c t.val t.isLt).2.1 := by dsimp only [dats]
theorem after0_21 (c : Dev nD) (t : Fin cfg0.N) : (dats m 0 c).after 21 t = (outsAt0 m c t.val t.isLt).2.2.1 := by dsimp only [dats]
theorem after0_22 (c : Dev nD) (t : Fin cfg0.N) : (dats m 0 c).after 22 t = (outsAt0 m c t.val t.isLt).2.2.2.1 := by dsimp only [dats]
theorem after0_23 (c : Dev nD) (t : Fin cfg0.N) : (dats m 0 c).after 23 t = (outsAt0 m c t.val t.isLt).2.2.2.2.1 := by dsimp only [dats]
theorem after0_24 (c : Dev nD) (t : Fin cfg0.N) : (dats m 0 c).after 24 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.succ = PhiS m c (t.val + 1) t.isLt from rfl, PhiS_succ]
  have hN : t.val < 30 := lt_of_lt_of_eq t.isLt (show cfg0.N = 30 from N_0)
  by_cases h0 : t.val % 30 = 0
  · by_cases hz : t.val = 0
    · rw [PhiS_castSucc m c t, PhiS_zero m c _ _ hz, PhiA0_eq]
      rw [outsAt0_A m c t h0]
      unfold out0_A_19 out0_A_20 out0_A_21 out0_A_22 out0_A_23 out0_A_24 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [HS0]; · iexact HS0
      iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H24
      ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 30 := lt_of_lt_of_eq t.isLt (show cfg0.N = 30 from N_0); omega
  · by_cases hz : t.val = 0
    · exfalso; have hN : t.val < 30 := lt_of_lt_of_eq t.isLt (show cfg0.N = 30 from N_0); omega
    · rw [PhiS_castSucc m c t, PhiS_pos m c _ _ hz]
      rw [outsAt0_B m c t h0]
      unfold out0_B_19 out0_B_20 out0_B_21 out0_B_22 out0_B_23 out0_B_24 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [HS0]; · iexact HS0
      iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]
      · unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H24
      ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 30 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.KernelIdeal.Gen

end
-- ==== Proof.KValue.lean ====
/- The kernel's run, block by block: each result is made of what the points wrote back. -/
module

public import proofs.«01_k».proof.Proof.Run.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the run the window is its array. -/
theorem post19 (r : PUnit × MemSt nD τ sig (Elt F)) (h : Pipeline.FramePost cfgs (dats m) 0 (V m) r) (c : Dev nD) :
    r.2.mem ((c : Thread nD τ).loc main_v28_0) = (dats m 0 c).arrAt 19 cfg0.N :=
  (h c).1 19

/-- After the run the window is its array. -/
theorem post20 (r : PUnit × MemSt nD τ sig (Elt F)) (h : Pipeline.FramePost cfgs (dats m) 0 (V m) r) (c : Dev nD) :
    r.2.mem ((c : Thread nD τ).loc main_v28_1) = (dats m 0 c).arrAt 20 cfg0.N :=
  (h c).1 20

/-- After the run the window is its array. -/
theorem post21 (r : PUnit × MemSt nD τ sig (Elt F)) (h : Pipeline.FramePost cfgs (dats m) 0 (V m) r) (c : Dev nD) :
    r.2.mem ((c : Thread nD τ).loc main_v28_2) = (dats m 0 c).arrAt 21 cfg0.N :=
  (h c).1 21

/-- After the run the window is its array. -/
theorem post22 (r : PUnit × MemSt nD τ sig (Elt F)) (h : Pipeline.FramePost cfgs (dats m) 0 (V m) r) (c : Dev nD) :
    r.2.mem ((c : Thread nD τ).loc main_v28_3) = (dats m 0 c).arrAt 22 cfg0.N :=
  (h c).1 22

/-- After the run the window is its array. -/
theorem post23 (r : PUnit × MemSt nD τ sig (Elt F)) (h : Pipeline.FramePost cfgs (dats m) 0 (V m) r) (c : Dev nD) :
    r.2.mem ((c : Thread nD τ).loc main_v28_4) = (dats m 0 c).arrAt 23 cfg0.N :=
  (h c).1 23

/-- After the run the window is its array. -/
theorem post24 (r : PUnit × MemSt nD τ sig (Elt F)) (h : Pipeline.FramePost cfgs (dats m) 0 (V m) r) (c : Dev nD) :
    r.2.mem ((c : Thread nD τ).loc main_v28_5) = (dats m 0 c).arrAt 24 cfg0.N :=
  (h c).1 24

/-- The run leaves this argument as it was. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The run leaves this argument as it was. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- The run leaves this argument as it was. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The run leaves this argument as it was. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run leaves this argument as it was. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run leaves this argument as it was. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run leaves this argument as it was. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The run leaves this argument as it was. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The run leaves this argument as it was. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The run leaves this argument as it was. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The run leaves this argument as it was. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The run leaves this argument as it was. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- The run leaves this argument as it was. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 11).trans (((dats m 0 c).arrAt_in 11 rfl _).trans ((A_eq m c 11).trans (V_main_arg12 m c)))

/-- The run leaves this argument as it was. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 12).trans (((dats m 0 c).arrAt_in 12 rfl _).trans ((A_eq m c 12).trans (V_main_arg13 m c)))

/-- The run leaves this argument as it was. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 13).trans (((dats m 0 c).arrAt_in 13 rfl _).trans ((A_eq m c 13).trans (V_main_arg14 m c)))

/-- The run leaves this argument as it was. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 14).trans (((dats m 0 c).arrAt_in 14 rfl _).trans ((A_eq m c 14).trans (V_main_arg15 m c)))

/-- The run leaves this argument as it was. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).1 15).trans (((dats m 0 c).arrAt_in 15 rfl _).trans ((A_eq m c 15).trans (V_main_arg16 m c)))

/-- The run leaves this argument as it was. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).1 16).trans (((dats m 0 c).arrAt_in 16 rfl _).trans ((A_eq m c 16).trans (V_main_arg17 m c)))

/-- The run leaves this argument as it was. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).1 17).trans (((dats m 0 c).arrAt_in 17 rfl _).trans ((A_eq m c 17).trans (V_main_arg18 m c)))

/-- The run leaves this argument as it was. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).1 18).trans (((dats m 0 c).arrAt_in 18 rfl _).trans ((A_eq m c 18).trans (V_main_arg19 m c)))

/-- The run: every result is its array, every argument as it was. -/
theorem run_blocks : θ_run defs (onTc (τ := τ) (main (F := F))) ⟨m, fun _ => 0, ρ⟩ fun r => ∀ c : Dev nD,
      r.2.mem ((c : Thread nD τ).loc main_v28_0) = (dats m 0 c).arrAt 19 cfg0.N
      ∧ r.2.mem ((c : Thread nD τ).loc main_v28_1) = (dats m 0 c).arrAt 20 cfg0.N
      ∧ r.2.mem ((c : Thread nD τ).loc main_v28_2) = (dats m 0 c).arrAt 21 cfg0.N
      ∧ r.2.mem ((c : Thread nD τ).loc main_v28_3) = (dats m 0 c).arrAt 22 cfg0.N
      ∧ r.2.mem ((c : Thread nD τ).loc main_v28_4) = (dats m 0 c).arrAt 23 cfg0.N
      ∧ r.2.mem ((c : Thread nD τ).loc main_v28_5) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨post19 m r h c,
      post20 m r h c,
      post21 m r h c,
      post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c⟩)
    (run_main m ρ)

end Cert.KernelIdeal.Value
end
-- ==== Proof.KInputs.lean ====
/- What each point of the kernel reads, as entries of the arguments. -/
module

public import proofs.«01_k».proof.Proof.Run.KernelIdeal.Frame
public import Idealize.ShloMosaic.Lib.Pipeline.ValueKit
public import Idealize.ShloMosaic.Lib.StableHlo.RunClose

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (c : Dev nD)

theorem index11 : ∀ t : Fin cfg0.N, win0_11.index t = ![t.val, 0, 0] := (by decide +kernel : ∀ t : Fin grid0.N, _)

theorem wq_at (t : Fin cfg0.N) (x : S1x288x960.Idx) (y : S30x288x960.Idx) (h0 : (y 0).val = t.val) (h1 : (y 1).val = (x 1).val) (h2 : (y 2).val = (x 2).val) :
    iblk m c 11 t x = m ((c : Thread nD τ).loc main_arg12) y := by
  blk_simp [iblk]
  rw [V_main_arg12 m c]
  refine congrArg _ ?_
  blk_ext [index11]

theorem index12 : ∀ t : Fin cfg0.N, win0_12.index t = ![t.val, 0, 0] := (by decide +kernel : ∀ t : Fin grid0.N, _)

theorem gq_at (t : Fin cfg0.N) (x : S1x18x960.Idx) (y : S30x18x960.Idx) (h0 : (y 0).val = t.val) (h1 : (y 1).val = (x 1).val) (h2 : (y 2).val = (x 2).val) :
    iblk m c 12 t x = m ((c : Thread nD τ).loc main_arg13) y := by
  blk_simp [iblk]
  rw [V_main_arg13 m c]
  refine congrArg _ ?_
  blk_ext [index12]

theorem index13 : ∀ t : Fin cfg0.N, win0_13.index t = ![t.val, 0, 0] := (by decide +kernel : ∀ t : Fin grid0.N, _)

theorem wo_at (t : Fin cfg0.N) (x : S1x288x576.Idx) (y : S30x288x576.Idx) (h0 : (y 0).val = t.val) (h1 : (y 1).val = (x 1).val) (h2 : (y 2).val = (x 2).val) :
    iblk m c 13 t x = m ((c : Thread nD τ).loc main_arg14) y := by
  blk_simp [iblk]
  rw [V_main_arg14 m c]
  refine congrArg _ ?_
  blk_ext [index13]

theorem index14 : ∀ t : Fin cfg0.N, win0_14.index t = ![t.val, 0, 0] := (by decide +kernel : ∀ t : Fin grid0.N, _)

theorem go_at (t : Fin cfg0.N) (x : S1x18x576.Idx) (y : S30x18x576.Idx) (h0 : (y 0).val = t.val) (h1 : (y 1).val = (x 1).val) (h2 : (y 2).val = (x 2).val) :
    iblk m c 14 t x = m ((c : Thread nD τ).loc main_arg15) y := by
  blk_simp [iblk]
  rw [V_main_arg15 m c]
  refine congrArg _ ?_
  blk_ext [index14]

theorem index15 : ∀ t : Fin cfg0.N, win0_15.index t = ![t.val, 0, 0] := (by decide +kernel : ∀ t : Fin grid0.N, _)

theorem wgu_at (t : Fin cfg0.N) (x : S1x288x3072.Idx) (y : S30x288x3072.Idx) (h0 : (y 0).val = t.val) (h1 : (y 1).val = (x 1).val) (h2 : (y 2).val = (x 2).val) :
    iblk m c 15 t x = m ((c : Thread nD τ).loc main_arg16) y := by
  blk_simp [iblk]
  rw [V_main_arg16 m c]
  refine congrArg _ ?_
  blk_ext [index15]

theorem index16 : ∀ t : Fin cfg0.N, win0_16.index t = ![t.val, 0, 0] := (by decide +kernel : ∀ t : Fin grid0.N, _)

theorem ggu_at (t : Fin cfg0.N) (x : S1x18x3072.Idx) (y : S30x18x3072.Idx) (h0 : (y 0).val = t.val) (h1 : (y 1).val = (x 1).val) (h2 : (y 2).val = (x 2).val) :
    iblk m c 16 t x = m ((c : Thread nD τ).loc main_arg17) y := by
  blk_simp [iblk]
  rw [V_main_arg17 m c]
  refine congrArg _ ?_
  blk_ext [index16]

theorem index17 : ∀ t : Fin cfg0.N, win0_17.index t = ![t.val, 0, 0] := (by decide +kernel : ∀ t : Fin grid0.N, _)

theorem wd_at (t : Fin cfg0.N) (x : S1x768x576.Idx) (y : S30x768x576.Idx) (h0 : (y 0).val = t.val) (h1 : (y 1).val = (x 1).val) (h2 : (y 2).val = (x 2).val) :
    iblk m c 17 t x = m ((c : Thread nD τ).loc main_arg18) y := by
  blk_simp [iblk]
  rw [V_main_arg18 m c]
  refine congrArg _ ?_
  blk_ext [index17]

theorem index18 : ∀ t : Fin cfg0.N, win0_18.index t = ![t.val, 0, 0] := (by decide +kernel : ∀ t : Fin grid0.N, _)

theorem gd_at (t : Fin cfg0.N) (x : S1x48x576.Idx) (y : S30x48x576.Idx) (h0 : (y 0).val = t.val) (h1 : (y 1).val = (x 1).val) (h2 : (y 2).val = (x 2).val) :
    iblk m c 18 t x = m ((c : Thread nD τ).loc main_arg19) y := by
  blk_simp [iblk]
  rw [V_main_arg19 m c]
  refine congrArg _ ?_
  blk_ext [index18]

/-- The rows the token ids pick, a negative id counting from the end. -/
def tokens (i : IVec S4x2 32) : IVec S4x2x1 32 :=
  broadcastInDim S4x2x1 ![0, 1] bcast_S4x2_S4x2x1_0_1 (select (cmpi .slt i (broadcastInDim S4x2 ![] bcast_S_S4x2 (constantI S_ 32 0#32)))
    (addi i (broadcastInDim S4x2 ![] bcast_S_S4x2 (constantI S_ 32 49152#32))) i)

theorem V_main_v18 : V m c main_v18 = concatenate S8x128 1 [⟨S8x32, shapeCast S8x32 (m ((c : Thread nD τ).loc main_arg2)) shapeCasts_S4x2x32_S8x32⟩, ⟨S8x32, shapeCast S8x32 (m ((c : Thread nD τ).loc main_arg2)) shapeCasts_S4x2x32_S8x32⟩, ⟨S8x32, shapeCast S8x32 (m ((c : Thread nD τ).loc main_arg2)) shapeCasts_S4x2x32_S8x32⟩, ⟨S8x32, shapeCast S8x32 (m ((c : Thread nD τ).loc main_arg2)) shapeCasts_S4x2x32_S8x32⟩] concatenates_S8x32_S8x32_S8x32_S8x32_S8x128_d1 := by
  show StableHlo.after hostOps0 _ (Proc.devRef .tc main_v18) = _
  after_results_simp
  rfl

theorem V_main_v21 : V m c main_v21 = concatenate S8x128 1 [⟨S8x32, (negf (F := Ideal) (shapeCast S8x32 (m ((c : Thread nD τ).loc main_arg3) : FVec Ideal S4x2x32 .f32) shapeCasts_S4x2x32_S8x32 : FVec Ideal S8x32 .f32) : FVec Ideal S8x32 .f32)⟩, ⟨S8x32, shapeCast S8x32 (m ((c : Thread nD τ).loc main_arg3)) shapeCasts_S4x2x32_S8x32⟩, ⟨S8x32, (negf (F := Ideal) (shapeCast S8x32 (m ((c : Thread nD τ).loc main_arg3) : FVec Ideal S4x2x32 .f32) shapeCasts_S4x2x32_S8x32 : FVec Ideal S8x32 .f32) : FVec Ideal S8x32 .f32)⟩, ⟨S8x32, shapeCast S8x32 (m ((c : Thread nD τ).loc main_arg3)) shapeCasts_S4x2x32_S8x32⟩] concatenates_S8x32_S8x32_S8x32_S8x32_S8x128_d1 := by
  show StableHlo.after hostOps0 _ (Proc.devRef .tc main_v21) = _
  after_results_simp
  rfl

theorem V_main_v22 : V m c main_v22 = transpose S30x4x3x64x1024 [0, 1, 2, 4, 3] (m ((c : Thread nD τ).loc main_arg4)) transposes_S30x4x3x1024x64_S30x4x3x64x1024_0_1_2_4_3 := by
  show StableHlo.after hostOps0 _ (Proc.devRef .tc main_v22) = _
  after_results_simp

theorem V_main_v23 : V m c main_v23 = transpose S30x4x3x64x1024 [0, 1, 2, 4, 3] (m ((c : Thread nD τ).loc main_arg6)) transposes_S30x4x3x1024x64_S30x4x3x64x1024_0_1_2_4_3 := by
  show StableHlo.after hostOps0 _ (Proc.devRef .tc main_v23) = _
  after_results_simp

theorem V_main_v24 : V m c main_v24 = transpose S30x3x4x1024 [0, 2, 1, 3] (m ((c : Thread nD τ).loc main_arg5)) transposes_S30x4x3x1024_S30x3x4x1024_0_2_1_3 := by
  show StableHlo.after hostOps0 _ (Proc.devRef .tc main_v24) = _
  after_results_simp

theorem V_main_v25 : V m c main_v25 = transpose S30x3x4x1024 [0, 2, 1, 3] (m ((c : Thread nD τ).loc main_arg7)) transposes_S30x4x3x1024_S30x3x4x1024_0_2_1_3 := by
  show StableHlo.after hostOps0 _ (Proc.devRef .tc main_v25) = _
  after_results_simp

theorem V_main_v26 : V m c main_v26 = broadcastInDim S30x1x576 ![0, 2] bcast_S30x576_S30x1x576_0_2 (m ((c : Thread nD τ).loc main_arg10)) := by
  show StableHlo.after hostOps0 _ (Proc.devRef .tc main_v26) = _
  after_results_simp

theorem V_main_v27 : V m c main_v27 = broadcastInDim S30x1x576 ![0, 2] bcast_S30x576_S30x1x576_0_2 (m ((c : Thread nD τ).loc main_arg11)) := by
  show StableHlo.after hostOps0 _ (Proc.devRef .tc main_v27) = _
  after_results_simp

theorem V_main_v7 : V m c main_v7 = shapeCast S8x576 (Host.gather gather_S49152x576_S4x2x1_S4x2x576_2_0_n_n_0_2_1576 (m ((c : Thread nD τ).loc main_arg8)) (tokens (m ((c : Thread nD τ).loc main_arg0)))) shapeCasts_S4x2x576_S8x576 := by
  show StableHlo.after hostOps0 _ (Proc.devRef .tc main_v7) = _
  after_results_simp
  rfl

theorem V_main_v15 : V m c main_v15 = shapeCast S8x1 (Host.gather gather_S49152_S4x2x1_S4x2_n_0_n_n_0_2_1 (m ((c : Thread nD τ).loc main_arg9)) (tokens (m ((c : Thread nD τ).loc main_arg0)))) shapeCasts_S4x2_S8x1 := by
  show StableHlo.after hostOps0 _ (Proc.devRef .tc main_v15) = _
  after_results_simp
  rfl

theorem index0 : ∀ t : Fin cfg0.N, win0_0.index t = ![0] := (by decide +kernel : ∀ t : Fin grid0.N, _)

theorem whole0 (t : Fin cfg0.N) : iblk m c 0 t = V m c main_arg1 := by
  funext x
  blk_simp [iblk]
  refine congrArg _ ?_
  blk_ext [index0]

theorem index1 : ∀ t : Fin cfg0.N, win0_1.index t = ![0, 0] := (by decide +kernel : ∀ t : Fin grid0.N, _)

theorem whole1 (t : Fin cfg0.N) : iblk m c 1 t = V m c main_v7 := by
  funext x
  blk_simp [iblk]
  refine congrArg _ ?_
  blk_ext [index1]

theorem index2 : ∀ t : Fin cfg0.N, win0_2.index t = ![0, 0] := (by decide +kernel : ∀ t : Fin grid0.N, _)

theorem whole2 (t : Fin cfg0.N) : iblk m c 2 t = V m c main_v15 := by
  funext x
  blk_simp [iblk]
  refine congrArg _ ?_
  blk_ext [index2]

theorem index3 : ∀ t : Fin cfg0.N, win0_3.index t = ![0, 0] := (by decide +kernel : ∀ t : Fin grid0.N, _)

theorem whole3 (t : Fin cfg0.N) : iblk m c 3 t = V m c main_v18 := by
  funext x
  blk_simp [iblk]
  refine congrArg _ ?_
  blk_ext [index3]

theorem index4 : ∀ t : Fin cfg0.N, win0_4.index t = ![0, 0] := (by decide +kernel : ∀ t : Fin grid0.N, _)

theorem whole4 (t : Fin cfg0.N) : iblk m c 4 t = V m c main_v21 := by
  funext x
  blk_simp [iblk]
  refine congrArg _ ?_
  blk_ext [index4]

theorem index5 : ∀ t : Fin cfg0.N, win0_5.index t = ![t.val, 0, 0, 0, 0] := (by decide +kernel : ∀ t : Fin grid0.N, _)

theorem ck_at (t : Fin cfg0.N) (x : S1x4x3x64x1024.Idx) (y : S30x4x3x1024x64.Idx) (h0 : (y 0).val = t.val) (h1 : (y 1).val = (x 1).val) (h2 : (y 2).val = (x 2).val) (h3 : (y 3).val = (x 4).val) (h4 : (y 4).val = (x 3).val) :
    iblk m c 5 t x = m ((c : Thread nD τ).loc main_arg4) y := by
  blk_simp [iblk]
  rw [V_main_v22 m c]
  refine transpose_apply _ _ _ _ y fun a => ?_
  idx_bounds x
  fin_cases a
  · show (y 0).val = ((win0_5.blk t).view.emb x 0).val
    blk_simp [index5]
    omega
  · show (y 1).val = ((win0_5.blk t).view.emb x 1).val
    blk_simp [index5]
    omega
  · show (y 2).val = ((win0_5.blk t).view.emb x 2).val
    blk_simp [index5]
    omega
  · show (y 4).val = ((win0_5.blk t).view.emb x 3).val
    blk_simp [index5]
    omega
  · show (y 3).val = ((win0_5.blk t).view.emb x 4).val
    blk_simp [index5]
    omega

theorem index7 : ∀ t : Fin cfg0.N, win0_7.index t = ![t.val, 0, 0, 0, 0] := (by decide +kernel : ∀ t : Fin grid0.N, _)

theorem cv_at (t : Fin cfg0.N) (x : S1x4x3x64x1024.Idx) (y : S30x4x3x1024x64.Idx) (h0 : (y 0).val = t.val) (h1 : (y 1).val = (x 1).val) (h2 : (y 2).val = (x 2).val) (h3 : (y 3).val = (x 4).val) (h4 : (y 4).val = (x 3).val) :
    iblk m c 7 t x = m ((c : Thread nD τ).loc main_arg6) y := by
  blk_simp [iblk]
  rw [V_main_v23 m c]
  refine transpose_apply _ _ _ _ y fun a => ?_
  idx_bounds x
  fin_cases a
  · show (y 0).val = ((win0_7.blk t).view.emb x 0).val
    blk_simp [index7]
    omega
  · show (y 1).val = ((win0_7.blk t).view.emb x 1).val
    blk_simp [index7]
    omega
  · show (y 2).val = ((win0_7.blk t).view.emb x 2).val
    blk_simp [index7]
    omega
  · show (y 4).val = ((win0_7.blk t).view.emb x 3).val
    blk_simp [index7]
    omega
  · show (y 3).val = ((win0_7.blk t).view.emb x 4).val
    blk_simp [index7]
    omega

theorem index6 : ∀ t : Fin cfg0.N, win0_6.index t = ![t.val, 0, 0, 0] := (by decide +kernel : ∀ t : Fin grid0.N, _)

theorem cks_at (t : Fin cfg0.N) (x : S1x3x4x1024.Idx) (y : S30x4x3x1024.Idx) (h0 : (y 0).val = t.val) (h1 : (y 1).val = (x 2).val) (h2 : (y 2).val = (x 1).val) (h3 : (y 3).val = (x 3).val) :
    iblk m c 6 t x = m ((c : Thread nD τ).loc main_arg5) y := by
  blk_simp [iblk]
  rw [V_main_v24 m c]
  refine transpose_apply _ _ _ _ y fun a => ?_
  idx_bounds x
  fin_cases a
  · show (y 0).val = ((win0_6.blk t).view.emb x 0).val
    blk_simp [index6]
    omega
  · show (y 2).val = ((win0_6.blk t).view.emb x 1).val
    blk_simp [index6]
    omega
  · show (y 1).val = ((win0_6.blk t).view.emb x 2).val
    blk_simp [index6]
    omega
  · show (y 3).val = ((win0_6.blk t).view.emb x 3).val
    blk_simp [index6]
    omega

theorem index8 : ∀ t : Fin cfg0.N, win0_8.index t = ![t.val, 0, 0, 0] := (by decide +kernel : ∀ t : Fin grid0.N, _)

theorem cvs_at (t : Fin cfg0.N) (x : S1x3x4x1024.Idx) (y : S30x4x3x1024.Idx) (h0 : (y 0).val = t.val) (h1 : (y 1).val = (x 2).val) (h2 : (y 2).val = (x 1).val) (h3 : (y 3).val = (x 3).val) :
    iblk m c 8 t x = m ((c : Thread nD τ).loc main_arg7) y := by
  blk_simp [iblk]
  rw [V_main_v25 m c]
  refine transpose_apply _ _ _ _ y fun a => ?_
  idx_bounds x
  fin_cases a
  · show (y 0).val = ((win0_8.blk t).view.emb x 0).val
    blk_simp [index8]
    omega
  · show (y 2).val = ((win0_8.blk t).view.emb x 1).val
    blk_simp [index8]
    omega
  · show (y 1).val = ((win0_8.blk t).view.emb x 2).val
    blk_simp [index8]
    omega
  · show (y 3).val = ((win0_8.blk t).view.emb x 3).val
    blk_simp [index8]
    omega

theorem index9 : ∀ t : Fin cfg0.N, win0_9.index t = ![t.val, 0, 0] := (by decide +kernel : ∀ t : Fin grid0.N, _)

theorem an_at (t : Fin cfg0.N) (x : S1x1x576.Idx) (y : S30x576.Idx) (h0 : (y 0).val = t.val) (h1 : (y 1).val = (x 2).val) :
    iblk m c 9 t x = m ((c : Thread nD τ).loc main_arg10) y := by
  blk_simp [iblk]
  rw [V_main_v26 m c]
  refine broadcastInDim_apply _ _ _ _ y fun a => ?_
  idx_bounds x
  fin_cases a
  · show (y 0).val = ((win0_9.blk t).view.emb x 0).val
    blk_simp [index9]
    omega
  · show (y 1).val = ((win0_9.blk t).view.emb x 2).val
    blk_simp [index9]
    omega

theorem index10 : ∀ t : Fin cfg0.N, win0_10.index t = ![t.val, 0, 0] := (by decide +kernel : ∀ t : Fin grid0.N, _)

theorem mn_at (t : Fin cfg0.N) (x : S1x1x576.Idx) (y : S30x576.Idx) (h0 : (y 0).val = t.val) (h1 : (y 1).val = (x 2).val) :
    iblk m c 10 t x = m ((c : Thread nD τ).loc main_arg11) y := by
  blk_simp [iblk]
  rw [V_main_v27 m c]
  refine broadcastInDim_apply _ _ _ _ y fun a => ?_
  idx_bounds x
  fin_cases a
  · show (y 0).val = ((win0_10.blk t).view.emb x 0).val
    blk_simp [index10]
    omega
  · show (y 1).val = ((win0_10.blk t).view.emb x 2).val
    blk_simp [index10]
    omega

end Cert.KernelIdeal.Value
-- ==== Proof.Block.lean ====
/- One block of an int4 linear layer: how the kernel unpacks two weights a byte, scales them group by
   group and multiplies, and the sum over the signed weights that this computes over exact reals. -/
module

public import Idealize.ShloMosaic.Lib.Pointwise
public import Idealize.ShloMosaic.Lib.BitcastFour
public import Idealize.ShloMosaic.Lib.MatmulPlain
public import Idealize.ShloMosaic.Lib.ValueIdx
public import Idealize.ShloMosaic.Lib.ValueLayout
public import Idealize.ShloMosaic.Lib.Pipeline.Value

@[expose] public section

set_option maxRecDepth 16384

noncomputable section

namespace Cert.Block

open Idealize.ShloMosaic Idealize.ShloMosaic.TcCoe Idealize.SL.Sem
open Idealize.ShloMosaic.ValueIdx hiding constant_apply ix0 ix1 ix2 ix3 ix4 ix5 ix6

/-- A matrix shape. -/
abbrev Mat (a b : ℕ) : Shape := ⟨2, ![a, b]⟩

/-- A matrix shape with a unit axis in front. -/
abbrev Mat1 (a b : ℕ) : Shape := ⟨3, ![1, a, b]⟩

/-! ## The operations -/

/-- What the shapes of one block must satisfy: `K` packed rows in `G` groups of 32, `K4` words a column, `n` columns. -/
structure Facts (D K K4 G n : ℕ) : Prop where
  castW : (Mat1 K n).ShapeCasts (Mat K n)
  castG : (Mat1 G n).ShapeCasts (Mat G n)
  toWords : (Mat K n).Bitcasts 8 (Mat K4 n) 32
  toBytes : (Mat K4 n).Bitcasts 32 (Mat K n) 8
  piece : ∀ i : Fin G, (Mat K n).Slices ![32 * i.val, 0] (Mat 32 n)
  row : ∀ i : Fin G, (Mat G n).Slices ![i.val, 0] (Mat 1 n)
  spread : (Mat 1 n).Broadcasts (Mat 32 n)
  stack : Shape.Concatenates (List.replicate G (Mat 32 n)) (Mat K n) 0
  left : (Mat 8 D).Slices ![0, 0] (Mat 8 K)
  right : (Mat 8 D).Slices ![0, K] (Mat 8 K)

section Ops
variable {F : FTy → Type} [FloatOps F] {D K K4 G n : ℕ}

/-- The bytes read as words, four rows a word. -/
def words (f : Facts D K K4 G n) (w : Vec F (Mat1 K n) .i8) : IVec (Mat K4 n) 32 :=
  bitcast (Mat K4 n) 32 (shapeCast (Mat K n) w f.castW) f.toWords

/-- The low halves of the bytes, sixteenfold: shifted up inside the words and masked. -/
def lowCodes (f : Facts D K K4 G n) (w : Vec F (Mat1 K n) .i8) : FVec F (Mat K n) .bf16 :=
  sitofp .bf16 (bitcast (Mat K n) 8 (andi (shli (words f w) (broadcast (Mat K4 n) 4#32)) (broadcast (Mat K4 n) 4042322160#32)) f.toBytes)

/-- The high halves of the bytes, sixteenfold: masked. -/
def highCodes (f : Facts D K K4 G n) (w : Vec F (Mat1 K n) .i8) : FVec F (Mat K n) .bf16 :=
  sitofp .bf16 (bitcast (Mat K n) 8 (andi (words f w) (broadcast (Mat K4 n) 4042322160#32)) f.toBytes)

/-- Group `i` of the codes times its row of scales. -/
def group (f : Facts D K K4 G n) (codes : FVec F (Mat K n) .bf16) (g : Vec F (Mat1 G n) .bf16) (i : Fin G) : FVec F (Mat 32 n) .bf16 :=
  mulf (extractStridedSlice (Mat 32 n) ![32 * i.val, 0] codes (f.piece i))
    (broadcastTo (Mat 32 n) (extractStridedSlice (Mat 1 n) ![i.val, 0] (shapeCast (Mat G n) g f.castG) (f.row i)) f.spread)

/-- The shapes of the stacked groups. -/
theorem stack_groups (f : Facts D K K4 G n) (p : Fin G → (Mat 32 n).Idx → F .bf16) :
    Shape.Concatenates ((List.ofFn fun i : Fin G => (⟨Mat 32 n, p i⟩ : (s : Shape) × (s.Idx → F .bf16))).map (·.1)) (Mat K n) 0 := by
  have e : (List.ofFn fun i : Fin G => (⟨Mat 32 n, p i⟩ : (s : Shape) × (s.Idx → F .bf16))).map (·.1) = List.replicate G (Mat 32 n) := by
    rw [List.map_ofFn]; exact List.ofFn_const G _
  rw [e]; exact f.stack

/-- The codes scaled: the groups one under another. -/
def scaled (f : Facts D K K4 G n) (codes : FVec F (Mat K n) .bf16) (g : Vec F (Mat1 G n) .bf16) : FVec F (Mat K n) .bf16 :=
  concatenate (Mat K n) 0 (List.ofFn fun i : Fin G => (⟨Mat 32 n, group f codes g i⟩ : (s : Shape) × (s.Idx → F .bf16))) (stack_groups f _)

/-- One block: the two half products added, a sixteenth taken. -/
def block (f : Facts D K K4 G n) (h : FVec F (Mat 8 D) .bf16) (w : Vec F (Mat1 K n) .i8) (gl gh : Vec F (Mat1 G n) .bf16) :
    FVec F (Mat 8 n) .f32 :=
  mulf
    (addf
      (matmul (DotDims.plain 8 K n) none (extractStridedSlice (Mat 8 K) ![0, 0] h f.left) (scaled f (lowCodes f w) gl)
        (constant (Mat 8 n) .f32 0x00000000#32))
      (matmul (DotDims.plain 8 K n) none (extractStridedSlice (Mat 8 K) ![0, K] h f.right) (scaled f (highCodes f w) gh)
        (constant (Mat 8 n) .f32 0x00000000#32)))
    (broadcast (Mat 8 n) (Scalar.ofBits .f32 0x3D800000#32))

end Ops

/-! ## The values -/

/-- The low half of a byte as a signed number. -/
def lo (b : BitVec 8) : EReal := (((b <<< 4).sshiftRight 4).toInt : ℝ)
/-- The high half of a byte as a signed number. -/
def hi (b : BitVec 8) : EReal := ((b.sshiftRight 4).toInt : ℝ)

theorem low_byte : ∀ b : BitVec 8, ((b <<< 4) &&& 0xF0#8).toInt = 16 * ((b <<< 4).sshiftRight 4).toInt := by decide +kernel
theorem high_byte : ∀ b : BitVec 8, (b &&& 0xF0#8).toInt = 16 * (b.sshiftRight 4).toInt := by decide +kernel

/-- A leading unit axis dropped, at an index. -/
theorem drop1_apply {α : Type} {a b : ℕ} (x : (Mat1 a b).Idx → α) (h : (Mat1 a b).ShapeCasts (Mat a b)) (i : Fin a) (j : Fin b) :
    shapeCast (Mat a b) x h (ix2 i j) = x (ix3 0 i j) := shapeCast_1ab_ab_apply x h i j

/-- A matrix slice at an index. -/
theorem slice_apply {α : Type} {a b p q : ℕ} {o : Fin (Mat p q).rank → ℕ} (x : (Mat p q).Idx → α) (h : (Mat p q).Slices o (Mat a b)) (i : Fin a) (j : Fin b)
    (i' : Fin p) (j' : Fin q) (hi : i'.val = o 0 + i.val) (hj : j'.val = o 1 + j.val) :
    extractStridedSlice (Mat a b) o x h (ix2 i j) = x (ix2 i' j') := by
  unfold extractStridedSlice
  congr 1
  funext c
  apply Fin.ext
  match c with
  | ⟨0, _⟩ => exact hi.symm
  | ⟨1, _⟩ => exact hj.symm

/-- Words back to bytes: bit `q` of row `p` is bit `8 b + q` of word row `a` where `p = 4 a + b`. -/
theorem toBytes_getLsbD {R r n : ℕ} (x : (Mat r n).Idx → BitVec 32) (h : (Mat r n).Bitcasts 32 (Mat R n) 8) (p : Fin R) (l : Fin n)
    (q : ℕ) (hq : q < 8) (a : Fin r) (ha : a.val = p.val / 4) :
    (bitcast (Mat R n) 8 x h (ix2 p l)).getLsbD q = (x (ix2 a l)).getLsbD (8 * (p.val % 4) + q) := by
  rw [bitcast_getLsbD x h _ q hq (by decide)]
  have hr : (Mat R n).row (ix2 p l) = p.val := rfl
  have e1 : ((Mat R n).row (ix2 p l) * 8 + q) / 32 = p.val / 4 := by rw [hr]; omega
  have e2 : ((Mat R n).row (ix2 p l) * 8 + q) % 32 = 8 * (p.val % 4) + q := by rw [hr]; omega
  rw [e2]
  congr 2
  funext c
  match c with
  | ⟨0, _⟩ => exact Fin.ext ((h.srcIdx_row _ _ _ ⟨0, Nat.zero_lt_two⟩ rfl).trans (e1.trans ha.symm))
  | ⟨1, _⟩ => exact Fin.ext (h.srcIdx_other _ _ _ ⟨1, Nat.one_lt_two⟩ (by show ¬ 1 + 2 = 2; omega))

theorem mask_bit : ∀ (b : Fin 4) (q : Fin 8), (4042322160#32).getLsbD (8 * b.val + q.val) = decide (4 ≤ q.val) := by decide +kernel
theorem f0_bit : ∀ q : Fin 8, (0xF0#8).getLsbD q.val = decide (4 ≤ q.val) := by decide +kernel

variable {D K K4 G n : ℕ}

/-- A word of the block: byte `b` of word row `a` is row `4 a + b`. -/
theorem words_bit (f : Facts D K K4 G n) (w : Vec Ideal (Mat1 K n) .i8) (a : Fin K4) (l : Fin n) (p : Fin K) (ha : a.val = p.val / 4)
    (q : ℕ) (hq : q < 8) : (words (F := Ideal) f w (ix2 a l)).getLsbD (8 * (p.val % 4) + q) = (w (ix3 0 p l) : BitVec 8).getLsbD q := by
  unfold words
  refine (bitcast_8_32_getLsbD_ix2 _ _ a l (8 * (p.val % 4) + q) (by omega) p (by omega)).trans ?_
  refine (congrArg (fun v : BitVec 8 => v.getLsbD _) (drop1_apply w f.castW p l)).trans ?_
  congr 1; omega

theorem lowByte (f : Facts D K K4 G n) (hK : K = 4 * K4) (w : Vec Ideal (Mat1 K n) .i8) (p : Fin K) (l : Fin n) :
    bitcast (Mat K n) 8 (andi (shli (words (F := Ideal) f w) (broadcast (Mat K4 n) 4#32)) (broadcast (Mat K4 n) 4042322160#32)) f.toBytes (ix2 p l)
      = ((w (ix3 0 p l) : BitVec 8) <<< 4) &&& 0xF0#8 := by
  have hp : p.val / 4 < K4 := by have := p.isLt; omega
  apply BitVec.eq_of_getLsbD_eq
  intro q hq
  rw [toBytes_getLsbD _ _ p l q hq ⟨p.val / 4, hp⟩ rfl]
  show (((words (F := Ideal) f w (ix2 ⟨p.val / 4, hp⟩ l)) <<< (4#32 : BitVec 32)) &&& 4042322160#32).getLsbD (8 * (p.val % 4) + q) = _
  rw [BitVec.getLsbD_and, BitVec.getLsbD_and, f0_bit ⟨q, hq⟩,
    mask_bit ⟨p.val % 4, Nat.mod_lt _ (by decide)⟩ ⟨q, hq⟩]
  by_cases h4 : 4 ≤ q
  · have e : 8 * (p.val % 4) + q - 4 = 8 * (p.val % 4) + (q - 4) := by omega
    rw [show ((words (F := Ideal) f w (ix2 ⟨p.val / 4, hp⟩ l)) <<< (4#32 : BitVec 32)) = (words (F := Ideal) f w (ix2 ⟨p.val / 4, hp⟩ l)) <<< 4 from rfl,
      BitVec.getLsbD_shiftLeft, BitVec.getLsbD_shiftLeft, e, words_bit f w _ l p rfl (q - 4) (by omega)]
    have h1 : 8 * (p.val % 4) + q < 32 := by omega
    have h2 : ¬ 8 * (p.val % 4) + q < 4 := by omega
    have h3 : ¬ q < 4 := by omega
    simp [h1, h2, h3, hq]
  · simp [h4]

theorem highByte (f : Facts D K K4 G n) (hK : K = 4 * K4) (w : Vec Ideal (Mat1 K n) .i8) (p : Fin K) (l : Fin n) :
    bitcast (Mat K n) 8 (andi (words (F := Ideal) f w) (broadcast (Mat K4 n) 4042322160#32)) f.toBytes (ix2 p l)
      = (w (ix3 0 p l) : BitVec 8) &&& 0xF0#8 := by
  have hp : p.val / 4 < K4 := by have := p.isLt; omega
  apply BitVec.eq_of_getLsbD_eq
  intro q hq
  rw [toBytes_getLsbD _ _ p l q hq ⟨p.val / 4, hp⟩ rfl]
  show ((words (F := Ideal) f w (ix2 ⟨p.val / 4, hp⟩ l)) &&& 4042322160#32).getLsbD (8 * (p.val % 4) + q) = _
  rw [BitVec.getLsbD_and, BitVec.getLsbD_and, f0_bit ⟨q, hq⟩,
    mask_bit ⟨p.val % 4, Nat.mod_lt _ (by decide)⟩ ⟨q, hq⟩, words_bit f w _ l p rfl q hq]

theorem lowCodes_apply (f : Facts D K K4 G n) (hK : K = 4 * K4) (w : Vec Ideal (Mat1 K n) .i8) (p : Fin K) (l : Fin n) :
    lowCodes (F := Ideal) f w (ix2 p l) = ((16 : ℝ) : EReal) * lo (w (ix3 0 p l)) := by
  unfold lowCodes
  rw [sitofp_apply, lowByte f hK]
  show ((((((w (ix3 0 p l) : BitVec 8) <<< 4) &&& 0xF0#8).toInt : ℝ)) : EReal) = _
  rw [low_byte, lo, ← EReal.coe_mul]
  push_cast; rfl

theorem highCodes_apply (f : Facts D K K4 G n) (hK : K = 4 * K4) (w : Vec Ideal (Mat1 K n) .i8) (p : Fin K) (l : Fin n) :
    highCodes (F := Ideal) f w (ix2 p l) = ((16 : ℝ) : EReal) * hi (w (ix3 0 p l)) := by
  unfold highCodes
  rw [sitofp_apply, highByte f hK]
  show (((((w (ix3 0 p l) : BitVec 8) &&& 0xF0#8).toInt : ℝ)) : EReal) = _
  rw [high_byte, hi, ← EReal.coe_mul]
  push_cast; rfl

theorem scaled_apply (f : Facts D K K4 G n) (hG : K = 32 * G) (codes : FVec Ideal (Mat K n) .bf16) (g : Vec Ideal (Mat1 G n) .bf16)
    (p : Fin K) (l : Fin n) :
    scaled (F := Ideal) f codes g (ix2 p l) = codes (ix2 p l) * (g (ix3 0 ⟨p.val / 32, by have := p.isLt; omega⟩ l) : EReal) := by
  have hp : p.val / 32 < G := by have := p.isLt; omega
  unfold scaled
  rw [concatenate_ofFn_apply (t := Mat K n) (s₁ := Mat 32 n) 0 _ _ rfl 32 rfl (ix2 p l) ⟨p.val / 32, hp⟩ rfl
    (ix2 ⟨p.val % 32, Nat.mod_lt _ (by decide)⟩ l) rfl (fun b hb => by
      match b with
      | ⟨0, _⟩ => exact absurd rfl hb
      | ⟨1, _⟩ => rfl)]
  unfold group
  rw [mulf_apply, slice_apply (i' := p) (j' := l) _ _ _ _ (by show p.val = 32 * (p.val / 32) + p.val % 32; omega) (by show l.val = 0 + l.val; omega)]
  congr 1
  have e : broadcastTo (Mat 32 n) (extractStridedSlice (Mat 1 n) ![p.val / 32, 0] (shapeCast (Mat G n) g f.castG) (f.row ⟨p.val / 32, hp⟩)) f.spread
      (ix2 ⟨p.val % 32, Nat.mod_lt _ (by decide)⟩ l)
      = extractStridedSlice (Mat 1 n) ![p.val / 32, 0] (shapeCast (Mat G n) g f.castG) (f.row ⟨p.val / 32, hp⟩) (ix2 0 l) := by
    unfold broadcastTo
    congr 1
    funext c
    apply Fin.ext
    match c with
    | ⟨0, _⟩ => rfl
    | ⟨1, _⟩ =>
      dsimp only
      split
      · next h1 => show 0 = l.val; have h1' : n = 1 := h1; have := l.isLt; omega
      · rfl
  refine e.trans ?_
  rw [slice_apply (i' := ⟨p.val / 32, hp⟩) (j' := l) _ _ _ _ (by show p.val / 32 = p.val / 32 + 0; omega) (by show l.val = 0 + l.val; omega),
    drop1_apply]

/-- A linear layer's entry: the signed weights times their scales, low halves against the first `K` inputs and high halves
    against the next `K`. -/
def lin {D K G H N : ℕ} (hD : K + K = D) (hG : K = 32 * G) (hH : G + G = H) (h : FVec Ideal (Mat 8 D) .bf16) (w : Vec Ideal (Mat1 K N) .i8)
    (g : Vec Ideal (Mat1 H N) .bf16) (i : Fin 8) (c : Fin N) : EReal :=
  (∑ k : Fin K, (h (ix2 i ⟨k.val, by omega⟩) : EReal) * (lo (w (ix3 0 k c)) * (g (ix3 0 ⟨k.val / 32, by omega⟩ c) : EReal)))
    + ∑ k : Fin K, (h (ix2 i ⟨K + k.val, by omega⟩) : EReal) * (hi (w (ix3 0 k c)) * (g (ix3 0 ⟨G + k.val / 32, by omega⟩ c) : EReal))

/-- A positive real factor comes out of a sum. -/
theorem mul_sum_coe {ι : Type} (s : Finset ι) (r : ℝ) (hr : 0 ≤ r) (x : ι → EReal) : ∑ i ∈ s, (r : EReal) * x i = (r : EReal) * ∑ i ∈ s, x i := by
  classical
  induction s using Finset.induction_on with
  | empty => simp
  | insert a s ha ih =>
    rw [Finset.sum_insert ha, Finset.sum_insert ha, ih, EReal.left_distrib_of_nonneg_of_ne_top (EReal.coe_nonneg.2 hr) (EReal.coe_ne_top _)]

/-- A plain product at an index, added to zero. -/
theorem plain_apply {M K N : ℕ} (x : FVec Ideal (Mat M K) .bf16) (y : FVec Ideal (Mat K N) .bf16) (r : Fin M) (c : Fin N) :
    matmul (F := Ideal) (DotDims.plain M K N) none x y (constant (Mat M N) .f32 0x00000000#32) (ix2 r c)
      = ∑ k : Fin K, (x (ix2 r k) : EReal) * (y (ix2 k c) : EReal) := by
  refine (Ideal.matmul_plain_apply none x y _ r c).trans ?_
  exact (congrArg (· + _) Ideal.ofBits_zero_f32).trans (zero_add _)

theorem sixteenth : (Ideal.ofBits .f32 0x3D800000#32 : EReal) = ((1 / 16 : ℝ) : EReal) := by
  simp [Ideal.ofBits, Ideal.ieee, -EReal.coe_mul]; norm_num

/-- The block computes the layer's entries at its columns. -/
theorem block_apply {H N : ℕ} (f : Facts D K K4 G n) (hK : K = 4 * K4) (hD : K + K = D) (hG : K = 32 * G) (hH : G + G = H)
    (h : FVec Ideal (Mat 8 D) .bf16) (w : Vec Ideal (Mat1 K N) .i8) (g : Vec Ideal (Mat1 H N) .bf16)
    (wb : Vec Ideal (Mat1 K n) .i8) (gl gh : Vec Ideal (Mat1 G n) .bf16) (l : Fin n) (c : Fin N)
    (hw : ∀ k : Fin K, wb (ix3 0 k l) = w (ix3 0 k c))
    (hgl : ∀ k : Fin G, gl (ix3 0 k l) = g (ix3 0 ⟨k.val, by omega⟩ c))
    (hgh : ∀ k : Fin G, gh (ix3 0 k l) = g (ix3 0 ⟨G + k.val, by omega⟩ c)) (i : Fin 8) :
    block (F := Ideal) f h wb gl gh (ix2 i l) = lin hD hG hH h w g i c := by
  unfold block
  rw [mulf_apply, addf_apply]
  have eL : matmul (F := Ideal) (DotDims.plain 8 K n) none (extractStridedSlice (Mat 8 K) ![0, 0] h f.left) (scaled f (lowCodes f wb) gl)
        (constant (Mat 8 n) .f32 0x00000000#32) (ix2 i l)
      = ((16 : ℝ) : EReal) * ∑ k : Fin K, (h (ix2 i ⟨k.val, by omega⟩) : EReal) * (lo (w (ix3 0 k c)) * (g (ix3 0 ⟨k.val / 32, by omega⟩ c) : EReal)) := by
    rw [plain_apply, ← mul_sum_coe _ _ (by norm_num)]
    refine Finset.sum_congr rfl fun k _ => ?_
    rw [slice_apply (i' := i) (j' := ⟨k.val, by omega⟩) _ _ _ _ (by show i.val = 0 + i.val; omega) (by show k.val = 0 + k.val; omega),
      scaled_apply f hG, lowCodes_apply f hK, hw, hgl]
    ac_rfl
  have eH : matmul (F := Ideal) (DotDims.plain 8 K n) none (extractStridedSlice (Mat 8 K) ![0, K] h f.right) (scaled f (highCodes f wb) gh)
        (constant (Mat 8 n) .f32 0x00000000#32) (ix2 i l)
      = ((16 : ℝ) : EReal) * ∑ k : Fin K, (h (ix2 i ⟨K + k.val, by omega⟩) : EReal) * (hi (w (ix3 0 k c)) * (g (ix3 0 ⟨G + k.val / 32, by omega⟩ c) : EReal)) := by
    rw [plain_apply, ← mul_sum_coe _ _ (by norm_num)]
    refine Finset.sum_congr rfl fun k _ => ?_
    rw [slice_apply (i' := i) (j' := ⟨K + k.val, by omega⟩) _ _ _ _ (by show i.val = 0 + i.val; omega) rfl,
      scaled_apply f hG, highCodes_apply f hK, hw, hgh]
    ac_rfl
  rw [eL, eH, broadcast_apply, lin, ← EReal.left_distrib_of_nonneg_of_ne_top (EReal.coe_nonneg.2 (by norm_num)) (EReal.coe_ne_top _), mul_comm]
  show (Ideal.ofBits .f32 0x3D800000#32 : EReal) * _ = _
  rw [sixteenth, ← mul_assoc, ← EReal.coe_mul, show ((1 / 16 : ℝ) * 16) = 1 by norm_num, EReal.coe_one, one_mul]

end Cert.Block
-- ==== Proof.RefLin.lean ====
/- The reference's int4 linear layer and the sum over the signed weights that it computes over exact reals. -/
module

public import proofs.«01_k».proof.Proof.Block

@[expose] public section

set_option maxRecDepth 16384

noncomputable section

namespace Cert.RefLin

open Idealize.ShloMosaic Idealize.ShloMosaic.TcCoe Idealize.SL.Sem Cert.Block
open Idealize.ShloMosaic.ValueIdx hiding constant_apply ix0 ix1 ix2 ix3 ix4 ix5 ix6

/-- What the shapes of a layer must satisfy: `K` packed rows in `G` groups of 32, `H` rows of scales, `n` columns. -/
structure Facts (D K G H n : ℕ) : Prop where
  castW : (Mat1 K n).ShapeCasts (Mat K n)
  castG : (Mat1 H n).ShapeCasts (Mat H n)
  split : (Mat K n).ShapeCasts ⟨3, ![G, 32, n]⟩
  unit : (Mat G n).ShapeCasts ⟨3, ![G, 1, n]⟩
  spread : (⟨3, ![G, 1, n]⟩ : Shape).Broadcasts ⟨3, ![G, 32, n]⟩
  merge : (⟨3, ![G, 32, n]⟩ : Shape).ShapeCasts (Mat K n)
  low : (Mat H n).Slices ![0, 0] (Mat G n)
  high : (Mat H n).Slices ![G, 0] (Mat G n)
  left : (Mat 8 D).Slices ![0, 0] (Mat 8 K)
  right : (Mat 8 D).Slices ![0, K] (Mat 8 K)

section Ops
variable {F : FTy → Type} [FloatOps F] {D K G H n : ℕ}

/-- The bytes widened. -/
def wide (f : Facts D K G H n) (w : Vec F (Mat1 K n) .i8) : IVec (Mat K n) 32 := extui 32 (shapeCast (Mat K n) w f.castW) (by decide)

/-- The low halves, signed. -/
def lowCodes (f : Facts D K G H n) (w : Vec F (Mat1 K n) .i8) : FVec F (Mat K n) .bf16 :=
  sitofp .bf16 (subi (xori (andi (wide f w) (broadcast (Mat K n) 15#32)) (broadcast (Mat K n) 8#32)) (broadcast (Mat K n) 8#32))

/-- The high halves, signed. -/
def highCodes (f : Facts D K G H n) (w : Vec F (Mat1 K n) .i8) : FVec F (Mat K n) .bf16 :=
  sitofp .bf16 (subi (xori (shrsi (wide f w) (broadcast (Mat K n) 4#32)) (broadcast (Mat K n) 8#32)) (broadcast (Mat K n) 8#32))

/-- The codes times their groups' scales. -/
def scaled (f : Facts D K G H n) (codes : FVec F (Mat K n) .bf16) (g : FVec F (Mat G n) .bf16) : FVec F (Mat K n) .bf16 :=
  shapeCast (Mat K n) (mulf (shapeCast ⟨3, ![G, 32, n]⟩ codes f.split)
    (broadcastTo ⟨3, ![G, 32, n]⟩ (shapeCast ⟨3, ![G, 1, n]⟩ g f.unit) f.spread)) f.merge

/-- The layer. -/
def linear (f : Facts D K G H n) (h : FVec F (Mat 8 D) .bf16) (w : Vec F (Mat1 K n) .i8) (g : Vec F (Mat1 H n) .bf16) : FVec F (Mat 8 n) .f32 :=
  addf
    (matmul (DotDims.plain 8 K n) none (extractStridedSlice (Mat 8 K) ![0, 0] h f.left)
      (scaled f (lowCodes f w) (extractStridedSlice (Mat G n) ![0, 0] (shapeCast (Mat H n) g f.castG) f.low)) (constant (Mat 8 n) .f32 0x00000000#32))
    (matmul (DotDims.plain 8 K n) none (extractStridedSlice (Mat 8 K) ![0, K] h f.right)
      (scaled f (highCodes f w) (extractStridedSlice (Mat G n) ![G, 0] (shapeCast (Mat H n) g f.castG) f.high)) (constant (Mat 8 n) .f32 0x00000000#32))

end Ops

theorem low_byte : ∀ b : BitVec 8, (((b.setWidth 32 &&& 15#32) ^^^ 8#32) - 8#32).toInt = ((b <<< 4).sshiftRight 4).toInt := by decide +kernel
theorem high_byte : ∀ b : BitVec 8, ((Scalar.shrsi (b.setWidth 32) 4#32 ^^^ 8#32) - 8#32).toInt = (b.sshiftRight 4).toInt := by decide +kernel

variable {D K G H n : ℕ}

theorem wide_apply (f : Facts D K G H n) (w : Vec Ideal (Mat1 K n) .i8) (p : Fin K) (l : Fin n) :
    wide (F := Ideal) f w (ix2 p l) = (w (ix3 0 p l) : BitVec 8).setWidth 32 :=
  congrArg (fun b : BitVec 8 => b.setWidth 32) (drop1_apply w f.castW p l)

theorem lowCodes_apply (f : Facts D K G H n) (w : Vec Ideal (Mat1 K n) .i8) (p : Fin K) (l : Fin n) :
    lowCodes (F := Ideal) f w (ix2 p l) = lo (w (ix3 0 p l)) := by
  unfold lowCodes
  rw [sitofp_apply]
  show ((((((wide (F := Ideal) f w (ix2 p l)) &&& 15#32) ^^^ 8#32) - 8#32).toInt : ℝ) : EReal) = _
  rw [wide_apply, low_byte]; rfl

theorem highCodes_apply (f : Facts D K G H n) (w : Vec Ideal (Mat1 K n) .i8) (p : Fin K) (l : Fin n) :
    highCodes (F := Ideal) f w (ix2 p l) = hi (w (ix3 0 p l)) := by
  unfold highCodes
  rw [sitofp_apply]
  show (((((Scalar.shrsi (wide (F := Ideal) f w (ix2 p l)) 4#32) ^^^ 8#32) - 8#32).toInt : ℝ) : EReal) = _
  rw [wide_apply, high_byte]; rfl

theorem scaled_apply (f : Facts D K G H n) (hG : K = 32 * G) (codes : FVec Ideal (Mat K n) .bf16) (g : FVec Ideal (Mat G n) .bf16)
    (p : Fin K) (l : Fin n) :
    scaled (F := Ideal) f codes g (ix2 p l) = codes (ix2 p l) * (g (ix2 ⟨p.val / 32, by have := p.isLt; omega⟩ l) : EReal) := by
  have hp : p.val / 32 < G := by have := p.isLt; omega
  have hm : p.val % 32 < 32 := Nat.mod_lt _ (by decide)
  have hd : p.val / 32 * 32 + p.val % 32 = p.val := Nat.div_add_mod' _ _
  unfold scaled
  rw [Idealize.ShloMosaic.shapeCast_apply _ f.merge (ix2 p l) (ix3 ⟨p.val / 32, hp⟩ ⟨p.val % 32, hm⟩ l) (by
    rw [Shape.rowMajor_val_three, Shape.rowMajor_val_two]
    show (p.val / 32 * 32 + p.val % 32) * n + l.val = p.val * n + l.val
    rw [hd]), mulf_apply]
  congr 1
  · exact Idealize.ShloMosaic.shapeCast_apply _ f.split _ _ (by
      rw [Shape.rowMajor_val_three, Shape.rowMajor_val_two]
      show p.val * n + l.val = (p.val / 32 * 32 + p.val % 32) * n + l.val
      rw [hd])
  · refine (Idealize.ShloMosaic.broadcastTo_apply _ f.spread _ (ix3 ⟨p.val / 32, hp⟩ 0 l) (fun a => ?_)).trans ?_
    · match a with
      | ⟨0, _⟩ => show p.val / 32 = if G = 1 then 0 else p.val / 32; split <;> omega
      | ⟨1, _⟩ => rfl
      | ⟨2, _⟩ => show l.val = if n = 1 then 0 else l.val; split <;> omega
    · exact Idealize.ShloMosaic.shapeCast_apply _ f.unit _ _ (by
        rw [Shape.rowMajor_val_three, Shape.rowMajor_val_two]
        show p.val / 32 * n + l.val = (p.val / 32 * 1 + 0) * n + l.val
        rw [Nat.mul_one, Nat.add_zero])

/-- The layer computes the sum over the signed weights. -/
theorem linear_apply (f : Facts D K G H n) (hD : K + K = D) (hG : K = 32 * G) (hH : G + G = H) (h : FVec Ideal (Mat 8 D) .bf16)
    (w : Vec Ideal (Mat1 K n) .i8) (g : Vec Ideal (Mat1 H n) .bf16) (i : Fin 8) (c : Fin n) :
    linear (F := Ideal) f h w g (ix2 i c) = lin hD hG hH h w g i c := by
  unfold linear
  rw [addf_apply, plain_apply, plain_apply, lin]
  congr 1
  · refine Finset.sum_congr rfl fun k _ => ?_
    rw [slice_apply (i' := i) (j' := ⟨k.val, by omega⟩) _ _ _ _ (by show i.val = 0 + i.val; omega) (by show k.val = 0 + k.val; omega),
      scaled_apply f hG, lowCodes_apply,
      slice_apply (i' := ⟨k.val / 32, by omega⟩) (j' := c) _ f.low _ _ (by show k.val / 32 = 0 + k.val / 32; omega) (by show c.val = 0 + c.val; omega), drop1_apply]
  · refine Finset.sum_congr rfl fun k _ => ?_
    rw [slice_apply (i' := i) (j' := ⟨K + k.val, by omega⟩) _ _ _ _ (by show i.val = 0 + i.val; omega) rfl,
      scaled_apply f hG, highCodes_apply,
      slice_apply (i' := ⟨G + k.val / 32, by omega⟩) (j' := c) _ f.high _ _ rfl (by show c.val = 0 + c.val; omega), drop1_apply]

end Cert.RefLin
-- ==== Proof.RefLayer.lean ====
/- One layer of the reference, written stage by stage: the operations its loop body applies to the residual stream
   and to one layer's weights and caches. -/
module

public import proofs.«01_k».proof.Proof.Gen.ReferenceIdeal.Skeleton
public import proofs.«01_k».proof.Proof.RefLin

@[expose] public section

set_option maxRecDepth 16384

noncomputable section

namespace Cert.RefLayer

open Idealize.ShloMosaic Idealize.ShloMosaic.TcCoe Idealize.SL.Sem
open Cert.ReferenceIdeal Cert.ReferenceIdeal.Gen Cert.RefLin

theorem facts_960 : Facts 576 288 9 18 960 where
  castW := by decide
  castG := by decide
  split := by decide
  unit := by decide
  spread := by decide
  merge := by decide
  low := by decide
  high := by decide
  left := by decide
  right := by decide

theorem facts_576 : Facts 576 288 9 18 576 where
  castW := by decide
  castG := by decide
  split := by decide
  unit := by decide
  spread := by decide
  merge := by decide
  low := by decide
  high := by decide
  left := by decide
  right := by decide

theorem facts_3072 : Facts 576 288 9 18 3072 where
  castW := by decide
  castG := by decide
  split := by decide
  unit := by decide
  spread := by decide
  merge := by decide
  low := by decide
  high := by decide
  left := by decide
  right := by decide

theorem facts_down : Facts 1536 768 24 48 576 where
  castW := by decide
  castG := by decide
  split := by decide
  unit := by decide
  spread := by decide
  merge := by decide
  low := by decide
  high := by decide
  left := by decide
  right := by decide

variable {F : FTy → Type} [FloatOps F]

/-- The first residual stream: the embedded tokens' codes times their scales. -/
def start (e : Vec F S8x576 .i8) (s : Vec F S8x1 .f32) : FVec F S8x576 .f32 :=
  mulf (sitofp .f32 (shapeCast S8x576 e (by decide))) (broadcastTo S8x576 (shapeCast S8x1 s (by decide)) broadcasts_S8x1_S8x576)

/-- The root of the mean square of each row, with its epsilon. -/
def rms (x : FVec F S8x576 .f32) : FVec F S8x1 .f32 :=
  sqrt (addf (divf (shapeCast S8x1 (multiReduction .add [1] S8 (mulf x x) 0x00000000#32 reduces_S8x576_S8 (.inl rfl) rfl) shapeCasts_S8_S8x1)
    (broadcast S8x1 (Scalar.ofBits .f32 0x44100000#32))) (broadcast S8x1 (Scalar.ofBits .f32 0x3727C5AC#32)))

/-- The normalised rows times their weights. -/
def norm (x : FVec F S8x576 .f32) (w : Vec F S1x576 .f32) : FVec F S8x576 .bf16 :=
  truncf .bf16 (mulf (divf x (broadcastTo S8x576 (rms x) broadcasts_S8x1_S8x576))
    (broadcastTo S8x576 (shapeCast S1x576 (shapeCast S576 w (by decide)) (by decide)) broadcasts_S1x576_S8x576)) bitsLt_bf16_f32

/-- Query, key and value rows. -/
def rows (x : FVec F S8x576 .f32) (an : Vec F S1x576 .f32) (wq : Vec F S1x288x960 .i8) (gq : Vec F S1x18x960 .bf16) : FVec F S8x960 .f32 :=
  linear facts_960 (norm x an) wq gq

/-- The rows by sequence, token and head. -/
def split (y : FVec F S8x960 .f32) : FVec F S4x2x15x64 .f32 := shapeCast S4x2x15x64 y (by decide)

/-- The query heads rotated. -/
def queries (y : FVec F S8x960 .f32) (co si : Vec F S4x2x32 .f32) : FVec F S4x2x9x64 .f32 :=
  have x : FVec F S4x2x9x64 .f32 := extractStridedSlice S4x2x9x64 ![0, 0, 0, 0] (split y) (by decide)
  have x1 : FVec F S4x2x9x32 .f32 := extractStridedSlice S4x2x9x32 ![0, 0, 0, 0] x (by decide)
  have x2 : FVec F S4x2x9x32 .f32 := extractStridedSlice S4x2x9x32 ![0, 0, 0, 32] x (by decide)
  have c : FVec F S4x2x9x32 .f32 := broadcastTo S4x2x9x32 (shapeCast S4x2x1x32 co (by decide)) (by decide)
  have s : FVec F S4x2x9x32 .f32 := broadcastTo S4x2x9x32 (shapeCast S4x2x1x32 si (by decide)) (by decide)
  concatenate S4x2x9x64 3 [⟨S4x2x9x32, subf (mulf x1 c) (mulf x2 s)⟩, ⟨S4x2x9x32, addf (mulf x2 c) (mulf x1 s)⟩] concatenates_S4x2x9x32_S4x2x9x32_S4x2x9x64_d3

/-- The key heads rotated. -/
def keys (y : FVec F S8x960 .f32) (co si : Vec F S4x2x32 .f32) : FVec F S4x2x3x64 .f32 :=
  have x : FVec F S4x2x3x64 .f32 := extractStridedSlice S4x2x3x64 ![0, 0, 9, 0] (split y) (by decide)
  have x1 : FVec F S4x2x3x32 .f32 := extractStridedSlice S4x2x3x32 ![0, 0, 0, 0] x (by decide)
  have x2 : FVec F S4x2x3x32 .f32 := extractStridedSlice S4x2x3x32 ![0, 0, 0, 32] x (by decide)
  have c : FVec F S4x2x3x32 .f32 := broadcastTo S4x2x3x32 (shapeCast S4x2x1x32 co (by decide)) (by decide)
  have s : FVec F S4x2x3x32 .f32 := broadcastTo S4x2x3x32 (shapeCast S4x2x1x32 si (by decide)) (by decide)
  concatenate S4x2x3x64 3 [⟨S4x2x3x32, subf (mulf x1 c) (mulf x2 s)⟩, ⟨S4x2x3x32, addf (mulf x2 c) (mulf x1 s)⟩] concatenates_S4x2x3x32_S4x2x3x32_S4x2x3x64_d3

/-- The value heads. -/
def values (y : FVec F S8x960 .f32) : FVec F S4x2x3x64 .f32 := extractStridedSlice S4x2x3x64 ![0, 0, 12, 0] (split y) (by decide)

/-- The scales of the heads. -/
def scale (x : FVec F S4x2x3x64 .f32) : FVec F S4x2x3 .f32 :=
  have a : FVec F S4x2x3 .f32 := multiReduction .maximumf [3] S4x2x3 (absf x) 0xFF800000#32 reduces_S4x2x3x64_S4x2x3 (.inl rfl) rfl
  select (cmpf .oeq a (broadcast S4x2x3 (Scalar.ofBits .f32 0x00000000#32))) (broadcast S4x2x3 (Scalar.ofBits .f32 0x3F800000#32))
    (divf a (broadcast S4x2x3 (Scalar.ofBits .f32 0x42FE0000#32)))

/-- The codes of the heads. -/
def codes (x : FVec F S4x2x3x64 .f32) : IVec S4x2x3x64 8 :=
  fptosi 8 (minimumf (broadcast S4x2x3x64 (Scalar.sitofp .f32 127#32)) (maximumf (broadcast S4x2x3x64 (Scalar.sitofp .f32 4294967169#32))
    (roundeven (divf x (broadcastTo S4x2x3x64 (shapeCast S4x2x3x1 (scale x) (by decide)) (by decide))))))

/-- The scores against the cache. -/
def scoreOld (ln : Vec F S4 .i32) (q : FVec F S4x2x9x64 .f32) (ck : Vec F S1x4x3x1024x64 .i8) (cks : Vec F S1x4x3x1024 .f32) : FVec F S4x3x3x2x1024 .f32 :=
  k0_pay29 (k0_pay1 ln) (k0_pay23 ck) (k0_pay24 cks) (k0_pay27 q)

/-- The scores against the new keys. -/
def scoreNew (q : FVec F S4x2x9x64 .f32) (k : FVec F S4x2x3x64 .f32) : FVec F S4x3x3x2x2 .f32 :=
  k0_pay30 k0_pay2 (scale k) (codes k) (k0_pay27 q)

/-- The maxima, rounded up. -/
def peak (so : FVec F S4x3x3x2x1024 .f32) (sn : FVec F S4x3x3x2x2 .f32) : FVec F S4x3x3x2x1 .f32 :=
  ceil (maximumf (shapeCast S4x3x3x2x1 (multiReduction .maximumf [4] S4x3x3x2 so 0xFF800000#32 reduces_S4x3x3x2x1024_S4x3x3x2 (.inl rfl) rfl) (by decide))
    (shapeCast S4x3x3x2x1 (multiReduction .maximumf [4] S4x3x3x2 sn 0xFF800000#32 reduces_S4x3x3x2x2_S4x3x3x2 (.inl rfl) rfl) (by decide)))

/-- The weights of the cached and the new positions. -/
def expOld (so : FVec F S4x3x3x2x1024 .f32) (m : FVec F S4x3x3x2x1 .f32) : FVec F S4x3x3x2x1024 .f32 := exp2 (subf so (broadcastTo S4x3x3x2x1024 m (by decide)))
def expNew (sn : FVec F S4x3x3x2x2 .f32) (m : FVec F S4x3x3x2x1 .f32) : FVec F S4x3x3x2x2 .f32 := exp2 (subf sn (broadcastTo S4x3x3x2x2 m (by decide)))

/-- The total weights. -/
def total (po : FVec F S4x3x3x2x1024 .f32) (pn : FVec F S4x3x3x2x2 .f32) : FVec F S4x3x3x2 .f32 :=
  addf (multiReduction .add [4] S4x3x3x2 po 0x00000000#32 reduces_S4x3x3x2x1024_S4x3x3x2 (.inl rfl) rfl)
    (multiReduction .add [4] S4x3x3x2 pn 0x00000000#32 reduces_S4x3x3x2x2_S4x3x3x2 (.inl rfl) rfl)

/-- The weighted mean of the values from the weights. -/
def mix (po : FVec F S4x3x3x2x1024 .f32) (pn : FVec F S4x3x3x2x2 .f32) (cv : Vec F S1x4x3x1024x64 .i8) (cvs : Vec F S1x4x3x1024 .f32)
    (v : FVec F S4x2x3x64 .f32) : FVec F S4x2x9x64 .f32 :=
  k0_pay36 (codes v) (k0_pay25 cv) (k0_pay28 (scale v)) po pn (total po pn) (k0_pay35 (k0_pay26 cvs))

/-- Attention. -/
def attend (ln : Vec F S4 .i32) (q : FVec F S4x2x9x64 .f32) (ck : Vec F S1x4x3x1024x64 .i8) (cks : Vec F S1x4x3x1024 .f32)
    (cv : Vec F S1x4x3x1024x64 .i8) (cvs : Vec F S1x4x3x1024 .f32) (k v : FVec F S4x2x3x64 .f32) : FVec F S4x2x9x64 .f32 :=
  have so : FVec F S4x3x3x2x1024 .f32 := scoreOld ln q ck cks
  have sn : FVec F S4x3x3x2x2 .f32 := scoreNew q k
  have m : FVec F S4x3x3x2x1 .f32 := peak so sn
  mix (expOld so m) (expNew sn m) cv cvs v

/-- The attended heads of the layer from its query, key and value rows. -/
def attended (y : FVec F S8x960 .f32) (ln : Vec F S4 .i32) (co si : Vec F S4x2x32 .f32) (ck : Vec F S1x4x3x1024x64 .i8) (cks : Vec F S1x4x3x1024 .f32)
    (cv : Vec F S1x4x3x1024x64 .i8) (cvs : Vec F S1x4x3x1024 .f32) : FVec F S4x2x9x64 .f32 :=
  attend ln (queries y co si) ck cks cv cvs (keys y co si) (values y)

/-- The residual stream after attention. -/
def middle (x : FVec F S8x576 .f32) (a : FVec F S4x2x9x64 .f32) (wo : Vec F S1x288x576 .i8) (go : Vec F S1x18x576 .bf16) : FVec F S8x576 .f32 :=
  addf x (linear facts_576 (truncf .bf16 (shapeCast S8x576 a (by decide)) bitsLt_bf16_f32) wo go)

/-- The gated activation. -/
def act (x : FVec F S8x3072 .f32) : FVec F S8x1536 .bf16 :=
  truncf .bf16 (mulf (mulf (extractStridedSlice S8x1536 ![0, 0] x (by decide)) (logistic (extractStridedSlice S8x1536 ![0, 0] x (by decide))))
    (extractStridedSlice S8x1536 ![0, 1536] x (by decide))) bitsLt_bf16_f32

/-- The residual stream after the layer. -/
def final (x : FVec F S8x576 .f32) (mn : Vec F S1x576 .f32) (wgu : Vec F S1x288x3072 .i8) (ggu : Vec F S1x18x3072 .bf16)
    (wd : Vec F S1x768x576 .i8) (gd : Vec F S1x48x576 .bf16) : FVec F S8x576 .f32 :=
  addf x (linear facts_down (act (linear facts_3072 (norm x mn) wgu ggu)) wd gd)

end Cert.RefLayer
-- ==== Proof.RefBridge.lean ====
/- What one trip of the reference's loop carries on and stores, in the stages of `RefLayer`. -/
module

public import proofs.«01_k».proof.Proof.Gen.ReferenceIdeal.Loops
public import proofs.«01_k».proof.Proof.RefLayer

@[expose] public section

set_option maxRecDepth 100000
set_option maxHeartbeats 1000000

noncomputable section

open Idealize.ShloMosaic Idealize.ShloMosaic.TcCoe Idealize.SL.Sem

namespace Cert.ReferenceIdeal.Gen

open Cert.RefLayer

variable {F : FTy → Type} [FloatOps F]

/-! Layer `k` of each argument, as the trip loads it. -/

abbrev normOf (a : Memref sig .tc .vmem S30x576 .f32) (X : BufTy.Contents (Elt F) a.view.ty) (k : Fin k0_t1_loop.trips) : Vec F S1x576 .f32 :=
  View.readAt (Elt F) a.view (Rect.unit (s := S30x576) (k0_off1 k) S1x576.size (k0_off1_inb k)).toLoadRect X

abbrev wqOf (a : Memref sig .tc .vmem S30x288x960 .i8) (X : BufTy.Contents (Elt F) a.view.ty) (k : Fin k0_t1_loop.trips) : Vec F S1x288x960 .i8 :=
  View.readAt (Elt F) a.view (Rect.unit (s := S30x288x960) (k0_off2 k) S1x288x960.size (k0_off2_inb k)).toLoadRect X

abbrev gqOf (a : Memref sig .tc .vmem S30x18x960 .bf16) (X : BufTy.Contents (Elt F) a.view.ty) (k : Fin k0_t1_loop.trips) : Vec F S1x18x960 .bf16 :=
  View.readAt (Elt F) a.view (Rect.unit (s := S30x18x960) (k0_off3 k) S1x18x960.size (k0_off3_inb k)).toLoadRect X

abbrev cacheOf (a : Memref sig .tc .vmem S30x4x3x1024x64 .i8) (X : BufTy.Contents (Elt F) a.view.ty) (k : Fin k0_t1_loop.trips) : Vec F S1x4x3x1024x64 .i8 :=
  View.readAt (Elt F) a.view (Rect.unit (s := S30x4x3x1024x64) (k0_off4 k) S1x4x3x1024x64.size (k0_off4_inb k)).toLoadRect X

abbrev stepsOf (a : Memref sig .tc .vmem S30x4x3x1024 .f32) (X : BufTy.Contents (Elt F) a.view.ty) (k : Fin k0_t1_loop.trips) : Vec F S1x4x3x1024 .f32 :=
  View.readAt (Elt F) a.view (Rect.unit (s := S30x4x3x1024) (k0_off5 k) S1x4x3x1024.size (k0_off5_inb k)).toLoadRect X

abbrev woOf (a : Memref sig .tc .vmem S30x288x576 .i8) (X : BufTy.Contents (Elt F) a.view.ty) (k : Fin k0_t1_loop.trips) : Vec F S1x288x576 .i8 :=
  View.readAt (Elt F) a.view (Rect.unit (s := S30x288x576) (k0_off6 k) S1x288x576.size (k0_off6_inb k)).toLoadRect X

abbrev goOf (a : Memref sig .tc .vmem S30x18x576 .bf16) (X : BufTy.Contents (Elt F) a.view.ty) (k : Fin k0_t1_loop.trips) : Vec F S1x18x576 .bf16 :=
  View.readAt (Elt F) a.view (Rect.unit (s := S30x18x576) (k0_off7 k) S1x18x576.size (k0_off7_inb k)).toLoadRect X

abbrev wguOf (a : Memref sig .tc .vmem S30x288x3072 .i8) (X : BufTy.Contents (Elt F) a.view.ty) (k : Fin k0_t1_loop.trips) : Vec F S1x288x3072 .i8 :=
  View.readAt (Elt F) a.view (Rect.unit (s := S30x288x3072) (k0_off8 k) S1x288x3072.size (k0_off8_inb k)).toLoadRect X

abbrev gguOf (a : Memref sig .tc .vmem S30x18x3072 .bf16) (X : BufTy.Contents (Elt F) a.view.ty) (k : Fin k0_t1_loop.trips) : Vec F S1x18x3072 .bf16 :=
  View.readAt (Elt F) a.view (Rect.unit (s := S30x18x3072) (k0_off9 k) S1x18x3072.size (k0_off9_inb k)).toLoadRect X

abbrev wdOf (a : Memref sig .tc .vmem S30x768x576 .i8) (X : BufTy.Contents (Elt F) a.view.ty) (k : Fin k0_t1_loop.trips) : Vec F S1x768x576 .i8 :=
  View.readAt (Elt F) a.view (Rect.unit (s := S30x768x576) (k0_off10 k) S1x768x576.size (k0_off10_inb k)).toLoadRect X

abbrev gdOf (a : Memref sig .tc .vmem S30x48x576 .bf16) (X : BufTy.Contents (Elt F) a.view.ty) (k : Fin k0_t1_loop.trips) : Vec F S1x48x576 .bf16 :=
  View.readAt (Elt F) a.view (Rect.unit (s := S30x48x576) (k0_off11 k) S1x48x576.size (k0_off11_inb k)).toLoadRect X

section
variable (arg5 : Memref sig .tc .vmem S30x4x3x1024x64 .i8) (arg6 : Memref sig .tc .vmem S30x4x3x1024 .f32) (arg7 : Memref sig .tc .vmem S30x4x3x1024x64 .i8) (arg8 : Memref sig .tc .vmem S30x4x3x1024 .f32) (arg9 : Memref sig .tc .vmem S30x576 .f32) (arg10 : Memref sig .tc .vmem S30x576 .f32) (arg11 : Memref sig .tc .vmem S30x288x960 .i8) (arg12 : Memref sig .tc .vmem S30x18x960 .bf16) (arg13 : Memref sig .tc .vmem S30x288x576 .i8) (arg14 : Memref sig .tc .vmem S30x18x576 .bf16) (arg15 : Memref sig .tc .vmem S30x288x3072 .i8) (arg16 : Memref sig .tc .vmem S30x18x3072 .bf16) (arg17 : Memref sig .tc .vmem S30x768x576 .i8) (arg18 : Memref sig .tc .vmem S30x48x576 .bf16) (v1 : Vec F S4 .i32) (v8 : Vec F S4x2x32 .f32) (v10 : Vec F S4x2x32 .f32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (k : Fin k0_t1_loop.trips) (acc : FVec F S8x576 .f32)

/-- The rotated queries. -/
theorem queries_trip : trip_k0_t1.sl.r_4 arg9 arg11 arg12 v8 v10 X_arg9 X_arg11 X_arg12 k acc
    = queries (rows acc (normOf arg9 X_arg9 k) (wqOf arg11 X_arg11 k) (gqOf arg12 X_arg12 k)) v8 v10 := by
  simp only [trip_k0_t1.sl.r_4, trip_k0_t1.sl.r, trip_k0_t1.sl.r_1, trip_k0_t1.sl.r_2, trip_k0_t1.sl.r_3]
  rfl

/-- The values. -/
theorem values_trip : trip_k0_t1.sl.r_5 arg9 arg11 arg12 X_arg9 X_arg11 X_arg12 k acc
    = values (rows acc (normOf arg9 X_arg9 k) (wqOf arg11 X_arg11 k) (gqOf arg12 X_arg12 k)) := by
  simp only [trip_k0_t1.sl.r_5, trip_k0_t1.sl.r, trip_k0_t1.sl.r_1, trip_k0_t1.sl.r_2, trip_k0_t1.sl.r_3]
  rfl

/-- The key scales. -/
theorem keyScale_trip : trip_k0_t1.sl.r_6 arg9 arg11 arg12 v8 v10 X_arg9 X_arg11 X_arg12 k acc
    = scale (keys (rows acc (normOf arg9 X_arg9 k) (wqOf arg11 X_arg11 k) (gqOf arg12 X_arg12 k)) v8 v10) := by
  simp only [trip_k0_t1.sl.r_6, trip_k0_t1.sl.r, trip_k0_t1.sl.r_1, trip_k0_t1.sl.r_2, trip_k0_t1.sl.r_3]
  rfl

/-- The key codes. -/
theorem keyCodes_trip : trip_k0_t1.sl.r_8 arg9 arg11 arg12 v8 v10 X_arg9 X_arg11 X_arg12 k acc
    = codes (keys (rows acc (normOf arg9 X_arg9 k) (wqOf arg11 X_arg11 k) (gqOf arg12 X_arg12 k)) v8 v10) := by
  simp only [trip_k0_t1.sl.r_8, trip_k0_t1.sl.r_7, trip_k0_t1.sl.r, trip_k0_t1.sl.r_1, trip_k0_t1.sl.r_2, trip_k0_t1.sl.r_3]
  rfl

/-- The value scales. -/
theorem valueScale_trip : trip_k0_t1.sl.r_9 arg9 arg11 arg12 X_arg9 X_arg11 X_arg12 k acc
    = scale (values (rows acc (normOf arg9 X_arg9 k) (wqOf arg11 X_arg11 k) (gqOf arg12 X_arg12 k))) := by
  rw [trip_k0_t1.sl.r_9, values_trip]
  generalize values (rows acc (normOf arg9 X_arg9 k) (wqOf arg11 X_arg11 k) (gqOf arg12 X_arg12 k)) = V
  rfl

/-- The value codes. -/
theorem valueCodes_trip : trip_k0_t1.sl.r_10 arg9 arg11 arg12 X_arg9 X_arg11 X_arg12 k acc
    = codes (values (rows acc (normOf arg9 X_arg9 k) (wqOf arg11 X_arg11 k) (gqOf arg12 X_arg12 k))) := by
  rw [trip_k0_t1.sl.r_10, values_trip]
  generalize values (rows acc (normOf arg9 X_arg9 k) (wqOf arg11 X_arg11 k) (gqOf arg12 X_arg12 k)) = V
  rfl

/-- The attended heads. -/
theorem attended_trip : trip_k0_t1.sl.r_21 arg5 arg6 arg7 arg8 arg9 arg11 arg12 v1 v8 v10 X_arg5 X_arg6 X_arg7 X_arg8 X_arg9 X_arg11 X_arg12 k acc
    = (attended (rows acc (normOf arg9 X_arg9 k) (wqOf arg11 X_arg11 k) (gqOf arg12 X_arg12 k)) v1 v8 v10 (cacheOf arg5 X_arg5 k) (stepsOf arg6 X_arg6 k) (cacheOf arg7 X_arg7 k) (stepsOf arg8 X_arg8 k)) := by
  simp only [trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, queries_trip, keyScale_trip, keyCodes_trip, valueScale_trip, valueCodes_trip]
  unfold attended
  generalize keys (rows acc (normOf arg9 X_arg9 k) (wqOf arg11 X_arg11 k) (gqOf arg12 X_arg12 k)) v8 v10 = K
  generalize values (rows acc (normOf arg9 X_arg9 k) (wqOf arg11 X_arg11 k) (gqOf arg12 X_arg12 k)) = V
  generalize queries (rows acc (normOf arg9 X_arg9 k) (wqOf arg11 X_arg11 k) (gqOf arg12 X_arg12 k)) v8 v10 = Q
  rfl

/-- The attended heads as rows. -/
theorem flat_trip : trip_k0_t1.sl.r_22 arg5 arg6 arg7 arg8 arg9 arg11 arg12 v1 v8 v10 X_arg5 X_arg6 X_arg7 X_arg8 X_arg9 X_arg11 X_arg12 k acc
    = truncf .bf16 (shapeCast S8x576 (attended (rows acc (normOf arg9 X_arg9 k) (wqOf arg11 X_arg11 k) (gqOf arg12 X_arg12 k)) v1 v8 v10 (cacheOf arg5 X_arg5 k) (stepsOf arg6 X_arg6 k) (cacheOf arg7 X_arg7 k) (stepsOf arg8 X_arg8 k)) (by decide)) bitsLt_bf16_f32 := by
  have h := attended_trip arg5 arg6 arg7 arg8 arg9 arg11 arg12 v1 v8 v10 X_arg5 X_arg6 X_arg7 X_arg8 X_arg9 X_arg11 X_arg12 k acc
  rw [← h]
  simp only [trip_k0_t1.sl.r_22, trip_k0_t1.sl.r_21]
  rfl

/-- The residual stream after attention. -/
theorem middle_trip : trip_k0_t1.sl.r_26 arg5 arg6 arg7 arg8 arg9 arg11 arg12 arg13 arg14 v1 v8 v10 X_arg5 X_arg6 X_arg7 X_arg8 X_arg9 X_arg11 X_arg12 X_arg13 X_arg14 k acc
    = (middle acc (attended (rows acc (normOf arg9 X_arg9 k) (wqOf arg11 X_arg11 k) (gqOf arg12 X_arg12 k)) v1 v8 v10 (cacheOf arg5 X_arg5 k) (stepsOf arg6 X_arg6 k) (cacheOf arg7 X_arg7 k) (stepsOf arg8 X_arg8 k)) (woOf arg13 X_arg13 k) (goOf arg14 X_arg14 k)) := by
  simp only [trip_k0_t1.sl.r_23, trip_k0_t1.sl.r_24, trip_k0_t1.sl.r_25, trip_k0_t1.sl.r_26, flat_trip]
  unfold middle
  generalize (attended (rows acc (normOf arg9 X_arg9 k) (wqOf arg11 X_arg11 k) (gqOf arg12 X_arg12 k)) v1 v8 v10 (cacheOf arg5 X_arg5 k) (stepsOf arg6 X_arg6 k) (cacheOf arg7 X_arg7 k) (stepsOf arg8 X_arg8 k)) = A
  rfl

/-- The normalised rows after attention. -/
theorem norm_trip : trip_k0_t1.sl.r_28 arg5 arg6 arg7 arg8 arg9 arg10 arg11 arg12 arg13 arg14 v1 v8 v10 X_arg5 X_arg6 X_arg7 X_arg8 X_arg9 X_arg10 X_arg11 X_arg12 X_arg13 X_arg14 k acc
    = norm (middle acc (attended (rows acc (normOf arg9 X_arg9 k) (wqOf arg11 X_arg11 k) (gqOf arg12 X_arg12 k)) v1 v8 v10 (cacheOf arg5 X_arg5 k) (stepsOf arg6 X_arg6 k) (cacheOf arg7 X_arg7 k) (stepsOf arg8 X_arg8 k)) (woOf arg13 X_arg13 k) (goOf arg14 X_arg14 k)) (normOf arg10 X_arg10 k) := by
  have h := middle_trip arg5 arg6 arg7 arg8 arg9 arg11 arg12 arg13 arg14 v1 v8 v10 X_arg5 X_arg6 X_arg7 X_arg8 X_arg9 X_arg11 X_arg12 X_arg13 X_arg14 k acc
  rw [← h]
  simp only [trip_k0_t1.sl.r_28, trip_k0_t1.sl.r_26]
  rfl

/-- The gated activation. -/
theorem act_trip : trip_k0_t1.sl.r_32 arg5 arg6 arg7 arg8 arg9 arg10 arg11 arg12 arg13 arg14 arg15 arg16 v1 v8 v10 X_arg5 X_arg6 X_arg7 X_arg8 X_arg9 X_arg10 X_arg11 X_arg12 X_arg13 X_arg14 X_arg15 X_arg16 k acc
    = act (Cert.RefLin.linear facts_3072 (norm (middle acc (attended (rows acc (normOf arg9 X_arg9 k) (wqOf arg11 X_arg11 k) (gqOf arg12 X_arg12 k)) v1 v8 v10 (cacheOf arg5 X_arg5 k) (stepsOf arg6 X_arg6 k) (cacheOf arg7 X_arg7 k) (stepsOf arg8 X_arg8 k)) (woOf arg13 X_arg13 k) (goOf arg14 X_arg14 k)) (normOf arg10 X_arg10 k)) (wguOf arg15 X_arg15 k) (gguOf arg16 X_arg16 k)) := by
  simp only [trip_k0_t1.sl.r_27, trip_k0_t1.sl.r_29, trip_k0_t1.sl.r_30, trip_k0_t1.sl.r_32, norm_trip]
  generalize norm (middle acc (attended (rows acc (normOf arg9 X_arg9 k) (wqOf arg11 X_arg11 k) (gqOf arg12 X_arg12 k)) v1 v8 v10 (cacheOf arg5 X_arg5 k) (stepsOf arg6 X_arg6 k) (cacheOf arg7 X_arg7 k) (stepsOf arg8 X_arg8 k)) (woOf arg13 X_arg13 k) (goOf arg14 X_arg14 k)) (normOf arg10 X_arg10 k) = N
  rfl

/-- The residual stream after the layer. -/
theorem final_trip : trip_k0_t1.sl.r_35 arg5 arg6 arg7 arg8 arg9 arg10 arg11 arg12 arg13 arg14 arg15 arg16 arg17 arg18 v1 v8 v10 X_arg5 X_arg6 X_arg7 X_arg8 X_arg9 X_arg10 X_arg11 X_arg12 X_arg13 X_arg14 X_arg15 X_arg16 X_arg17 X_arg18 k acc
    = (final (middle acc (attended (rows acc (normOf arg9 X_arg9 k) (wqOf arg11 X_arg11 k) (gqOf arg12 X_arg12 k)) v1 v8 v10 (cacheOf arg5 X_arg5 k) (stepsOf arg6 X_arg6 k) (cacheOf arg7 X_arg7 k) (stepsOf arg8 X_arg8 k)) (woOf arg13 X_arg13 k) (goOf arg14 X_arg14 k)) (normOf arg10 X_arg10 k) (wguOf arg15 X_arg15 k) (gguOf arg16 X_arg16 k) (wdOf arg17 X_arg17 k) (gdOf arg18 X_arg18 k)) := by
  simp only [trip_k0_t1.sl.r_31, trip_k0_t1.sl.r_33, trip_k0_t1.sl.r_34, trip_k0_t1.sl.r_35, act_trip, middle_trip]
  unfold final
  generalize act (Cert.RefLin.linear facts_3072 (norm (middle acc (attended (rows acc (normOf arg9 X_arg9 k) (wqOf arg11 X_arg11 k) (gqOf arg12 X_arg12 k)) v1 v8 v10 (cacheOf arg5 X_arg5 k) (stepsOf arg6 X_arg6 k) (cacheOf arg7 X_arg7 k) (stepsOf arg8 X_arg8 k)) (woOf arg13 X_arg13 k) (goOf arg14 X_arg14 k)) (normOf arg10 X_arg10 k)) (wguOf arg15 X_arg15 k) (gguOf arg16 X_arg16 k)) = N
  generalize (middle acc (attended (rows acc (normOf arg9 X_arg9 k) (wqOf arg11 X_arg11 k) (gqOf arg12 X_arg12 k)) v1 v8 v10 (cacheOf arg5 X_arg5 k) (stepsOf arg6 X_arg6 k) (cacheOf arg7 X_arg7 k) (stepsOf arg8 X_arg8 k)) (woOf arg13 X_arg13 k) (goOf arg14 X_arg14 k)) = M
  rfl

end

section
variable (𝒱 : Variants) (c : Dev nD) (bd : Option 𝒱.V) (arg0 : Memref sig .tc .vmem S4 .i32) (harg0 : arg0.IsWhole) (arg1 : Memref sig .tc .vmem S8x576 .i8) (harg1 : arg1.IsWhole) (arg2 : Memref sig .tc .vmem S8x1 .f32) (harg2 : arg2.IsWhole) (arg3 : Memref sig .tc .vmem S4x2x32 .f32) (harg3 : arg3.IsWhole) (arg4 : Memref sig .tc .vmem S4x2x32 .f32) (harg4 : arg4.IsWhole) (arg5 : Memref sig .tc .vmem S30x4x3x1024x64 .i8) (harg5 : arg5.IsWhole) (arg6 : Memref sig .tc .vmem S30x4x3x1024 .f32) (harg6 : arg6.IsWhole) (arg7 : Memref sig .tc .vmem S30x4x3x1024x64 .i8) (harg7 : arg7.IsWhole) (arg8 : Memref sig .tc .vmem S30x4x3x1024 .f32) (harg8 : arg8.IsWhole) (arg9 : Memref sig .tc .vmem S30x576 .f32) (harg9 : arg9.IsWhole) (arg10 : Memref sig .tc .vmem S30x576 .f32) (harg10 : arg10.IsWhole) (arg11 : Memref sig .tc .vmem S30x288x960 .i8) (harg11 : arg11.IsWhole) (arg12 : Memref sig .tc .vmem S30x18x960 .bf16) (harg12 : arg12.IsWhole) (arg13 : Memref sig .tc .vmem S30x288x576 .i8) (harg13 : arg13.IsWhole) (arg14 : Memref sig .tc .vmem S30x18x576 .bf16) (harg14 : arg14.IsWhole) (arg15 : Memref sig .tc .vmem S30x288x3072 .i8) (harg15 : arg15.IsWhole) (arg16 : Memref sig .tc .vmem S30x18x3072 .bf16) (harg16 : arg16.IsWhole) (arg17 : Memref sig .tc .vmem S30x768x576 .i8) (harg17 : arg17.IsWhole) (arg18 : Memref sig .tc .vmem S30x48x576 .bf16) (harg18 : arg18.IsWhole) (arg19 : Memref sig .tc .vmem S30x8x576 .f32) (harg19 : arg19.IsWhole) (arg20 : Memref sig .tc .vmem S30x9x8x64 .f32) (harg20 : arg20.IsWhole) (arg21 : Memref sig .tc .vmem S30x8x192 .i8) (harg21 : arg21.IsWhole) (arg22 : Memref sig .tc .vmem S30x8x3 .f32) (harg22 : arg22.IsWhole) (arg23 : Memref sig .tc .vmem S30x8x192 .i8) (harg23 : arg23.IsWhole) (arg24 : Memref sig .tc .vmem S30x8x3 .f32) (harg24 : arg24.IsWhole) (v1 : Vec F S4 .i32) (v8 : Vec F S4x2x32 .f32) (v10 : Vec F S4x2x32 .f32) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (k : Fin k0_t1_loop.trips) (acc : FVec F S8x576 .f32)

/-- The residual stream the trip carries on. -/
theorem carried_trip : tripR_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v8 v10 X_arg5 X_arg6 X_arg7 X_arg8 X_arg9 X_arg10 X_arg11 X_arg12 X_arg13 X_arg14 X_arg15 X_arg16 X_arg17 X_arg18 k acc
    = (final (middle acc (attended (rows acc (normOf arg9 X_arg9 k) (wqOf arg11 X_arg11 k) (gqOf arg12 X_arg12 k)) v1 v8 v10 (cacheOf arg5 X_arg5 k) (stepsOf arg6 X_arg6 k) (cacheOf arg7 X_arg7 k) (stepsOf arg8 X_arg8 k)) (woOf arg13 X_arg13 k) (goOf arg14 X_arg14 k)) (normOf arg10 X_arg10 k) (wguOf arg15 X_arg15 k) (gguOf arg16 X_arg16 k) (wdOf arg17 X_arg17 k) (gdOf arg18 X_arg18 k)) := by
  unfold tripR_k0_t1 trip_k0_t1
  dsimp only
  exact final_trip ..

/-- The blocks the trip stores. -/
theorem stored_trip : tripL_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v1 v8 v10 X_arg5 X_arg6 X_arg7 X_arg8 X_arg9 X_arg10 X_arg11 X_arg12 X_arg13 X_arg14 X_arg15 X_arg16 X_arg17 X_arg18 k acc
    = ([⟨Rect.unit (s := S30x8x576) (k0_off12 k) S1x8x576.size (k0_off12_inb k), shapeCast S1x8x576 (final (middle acc (attended (rows acc (normOf arg9 X_arg9 k) (wqOf arg11 X_arg11 k) (gqOf arg12 X_arg12 k)) v1 v8 v10 (cacheOf arg5 X_arg5 k) (stepsOf arg6 X_arg6 k) (cacheOf arg7 X_arg7 k) (stepsOf arg8 X_arg8 k)) (woOf arg13 X_arg13 k) (goOf arg14 X_arg14 k)) (normOf arg10 X_arg10 k) (wguOf arg15 X_arg15 k) (gguOf arg16 X_arg16 k) (wdOf arg17 X_arg17 k) (gdOf arg18 X_arg18 k)) (by decide)⟩],
      [⟨Rect.unit (s := S30x9x8x64) (k0_off13 k) S1x9x8x64.size (k0_off13_inb k), k0_pay55 (attended (rows acc (normOf arg9 X_arg9 k) (wqOf arg11 X_arg11 k) (gqOf arg12 X_arg12 k)) v1 v8 v10 (cacheOf arg5 X_arg5 k) (stepsOf arg6 X_arg6 k) (cacheOf arg7 X_arg7 k) (stepsOf arg8 X_arg8 k))⟩],
      [⟨Rect.unit (s := S30x8x192) (k0_off14 k) S1x8x192.size (k0_off14_inb k), k0_pay56 (codes (keys (rows acc (normOf arg9 X_arg9 k) (wqOf arg11 X_arg11 k) (gqOf arg12 X_arg12 k)) v8 v10))⟩],
      [⟨Rect.unit (s := S30x8x3) (k0_off15 k) S1x8x3.size (k0_off15_inb k), k0_pay57 (scale (keys (rows acc (normOf arg9 X_arg9 k) (wqOf arg11 X_arg11 k) (gqOf arg12 X_arg12 k)) v8 v10))⟩],
      [⟨Rect.unit (s := S30x8x192) (k0_off14 k) S1x8x192.size (k0_off14_inb k), k0_pay56 (codes (values (rows acc (normOf arg9 X_arg9 k) (wqOf arg11 X_arg11 k) (gqOf arg12 X_arg12 k))))⟩],
      [⟨Rect.unit (s := S30x8x3) (k0_off15 k) S1x8x3.size (k0_off15_inb k), k0_pay57 (scale (values (rows acc (normOf arg9 X_arg9 k) (wqOf arg11 X_arg11 k) (gqOf arg12 X_arg12 k))))⟩]) := by
  rw [← final_trip, ← attended_trip, ← keyCodes_trip, ← keyScale_trip, ← valueCodes_trip, ← valueScale_trip]
  unfold tripL_k0_t1 trip_k0_t1
  dsimp only
  unfold trip_k0_t1.sl.r_35 trip_k0_t1.sl.r_36
  rfl
end

end Cert.ReferenceIdeal.Gen
-- ==== Proof.RefRun.lean ====
/- The reference's loop as a recursion over the layers, and the six results it leaves. -/
module

public import proofs.«01_k».proof.Proof.RefBridge
public import Idealize.ShloMosaic.Lib.WritesUnit
public import Idealize.ShloMosaic.Lib.Pipeline.ValueKit

@[expose] public section

set_option maxRecDepth 100000
set_option maxHeartbeats 1000000

noncomputable section

open Idealize.ShloMosaic Idealize.ShloMosaic.TcCoe Idealize.SL.Sem

namespace Cert.ReferenceIdeal.Gen

open Cert.RefLayer

/-- The operands of the reference's one call. -/
structure Operands (F : FTy → Type) where
  ln : Vec F S4 .i32
  e : Vec F S8x576 .i8
  s : Vec F S8x1 .f32
  co : Vec F S4x2x32 .f32
  si : Vec F S4x2x32 .f32
  ck : Vec F S30x4x3x1024x64 .i8
  cks : Vec F S30x4x3x1024 .f32
  cv : Vec F S30x4x3x1024x64 .i8
  cvs : Vec F S30x4x3x1024 .f32
  an : Vec F S30x576 .f32
  mn : Vec F S30x576 .f32
  wq : Vec F S30x288x960 .i8
  gq : Vec F S30x18x960 .bf16
  wo : Vec F S30x288x576 .i8
  go : Vec F S30x18x576 .bf16
  wgu : Vec F S30x288x3072 .i8
  ggu : Vec F S30x18x3072 .bf16
  wd : Vec F S30x768x576 .i8
  gd : Vec F S30x48x576 .bf16

variable {F : FTy → Type} [FloatOps F]

namespace Operands

variable (A : Operands F) (k : Fin k0_t1_loop.trips) (x : FVec F S8x576 .f32)

/-- The fused projection's rows of layer `k`. -/
def rows : FVec F S8x960 .f32 :=
  Cert.RefLayer.rows x (View.ld A.an (Rect.unit (s := S30x576) (k0_off1 k) S1x576.size (k0_off1_inb k)))
    (View.ld A.wq (Rect.unit (s := S30x288x960) (k0_off2 k) S1x288x960.size (k0_off2_inb k))) (View.ld A.gq (Rect.unit (s := S30x18x960) (k0_off3 k) S1x18x960.size (k0_off3_inb k)))

/-- The heads' attention of layer `k`. -/
def att : FVec F S4x2x9x64 .f32 :=
  attended (A.rows k x) A.ln A.co A.si (View.ld A.ck (Rect.unit (s := S30x4x3x1024x64) (k0_off4 k) S1x4x3x1024x64.size (k0_off4_inb k)))
    (View.ld A.cks (Rect.unit (s := S30x4x3x1024) (k0_off5 k) S1x4x3x1024.size (k0_off5_inb k))) (View.ld A.cv (Rect.unit (s := S30x4x3x1024x64) (k0_off4 k) S1x4x3x1024x64.size (k0_off4_inb k)))
    (View.ld A.cvs (Rect.unit (s := S30x4x3x1024) (k0_off5 k) S1x4x3x1024.size (k0_off5_inb k)))

/-- The residual stream after layer `k`. -/
def next : FVec F S8x576 .f32 :=
  final (middle x (A.att k x) (View.ld A.wo (Rect.unit (s := S30x288x576) (k0_off6 k) S1x288x576.size (k0_off6_inb k))) (View.ld A.go (Rect.unit (s := S30x18x576) (k0_off7 k) S1x18x576.size (k0_off7_inb k))))
    (View.ld A.mn (Rect.unit (s := S30x576) (k0_off1 k) S1x576.size (k0_off1_inb k)))
    (View.ld A.wgu (Rect.unit (s := S30x288x3072) (k0_off8 k) S1x288x3072.size (k0_off8_inb k))) (View.ld A.ggu (Rect.unit (s := S30x18x3072) (k0_off9 k) S1x18x3072.size (k0_off9_inb k)))
    (View.ld A.wd (Rect.unit (s := S30x768x576) (k0_off10 k) S1x768x576.size (k0_off10_inb k))) (View.ld A.gd (Rect.unit (s := S30x48x576) (k0_off11 k) S1x48x576.size (k0_off11_inb k)))

/-- The residual stream before layer `n`. -/
def stream : ℕ → FVec F S8x576 .f32
  | 0 => start A.e A.s
  | n + 1 => if h : n < k0_t1_loop.trips then A.next ⟨n, h⟩ (stream n) else stream n

theorem stream_succ : A.stream (k.val + 1) = A.next k (A.stream k.val) := by
  rw [stream]
  exact dif_pos k.isLt

def res : Vec F S1x8x576 .f32 := shapeCast S1x8x576 (A.next k (A.stream k.val)) (by decide)
def heads : Vec F S1x9x8x64 .f32 := k0_pay55 (A.att k (A.stream k.val))
def kc : Vec F S1x8x192 .i8 := k0_pay56 (codes (keys (A.rows k (A.stream k.val)) A.co A.si))
def ks : Vec F S1x8x3 .f32 := k0_pay57 (scale (keys (A.rows k (A.stream k.val)) A.co A.si))
def vc : Vec F S1x8x192 .i8 := k0_pay56 (codes (values (A.rows k (A.stream k.val))))
def vs : Vec F S1x8x3 .f32 := k0_pay57 (scale (values (A.rows k (A.stream k.val))))

end Operands

/-- A list of stores, one layer's block each: layer `k`'s block reads back as what layer `k` stored. -/
theorem read_layers {sp : Space} {s : Shape} {e : EltTy} (v : View sig .tc sp s e) (f : v.ty.Contents (Elt F)) {N : ℕ} {size : Fin s.rank → ℕ}
    (off : Fin N → Fin s.rank → ℕ) (inb : ∀ k a, off k a + size a ≤ s.size a) (w : (k : Fin N) → (Rect.unit (off k) size (inb k)).shape.Idx → Elt F e)
    (L : ℕ → List (View.Piece (Elt F) s e)) (hL : ∀ k : Fin N, L (k.val + 1) = [⟨Rect.unit (off k) size (inb k), w k⟩] ++ L k.val)
    (a : Fin s.rank) (ha : ∀ k, off k a = k.val) (hsz : size a = 1) (k : Fin N) (y : s.Idx) (x : (Rect.unit (off k) size (inb k)).shape.Idx)
    (hx : ∀ b, (y b).val = off k b + (x b).val) : ∀ n : ℕ, k.val < n → n ≤ N → v.read (Elt F) (v.writes (Elt F) f (L n)) y = w k x
  | 0, h, _ => absurd h (Nat.not_lt_zero _)
  | n + 1, h, hn => by
    rw [hL ⟨n, hn⟩]
    rcases Nat.lt_or_ge k.val n with hk | hk
    · refine (View.read_writes_cons_unit_of_not_mem v f (inb ⟨n, hn⟩) (w ⟨n, hn⟩) _ y rfl a (Or.inl ?_)).trans
        (read_layers v f off inb w L hL a ha hsz k y x hx n hk (Nat.le_of_succ_le hn))
      have h1 := hx a
      have h2 : (x a).val < size a := (x a).isLt
      rw [ha k] at h1
      rw [ha ⟨n, hn⟩]
      show (y a).val < n
      omega
    · obtain rfl : k = ⟨n, hn⟩ := Fin.ext (by show k.val = n; omega)
      exact View.read_writes_cons_unit_of_mem v f (inb ⟨n, hn⟩) (w ⟨n, hn⟩) _ y x rfl hx

section
variable (𝒱 : Variants) (c : Dev nD) (bd : Option 𝒱.V) (arg0 : Memref sig .tc .vmem S4 .i32) (harg0 : arg0.IsWhole) (arg1 : Memref sig .tc .vmem S8x576 .i8) (harg1 : arg1.IsWhole) (arg2 : Memref sig .tc .vmem S8x1 .f32) (harg2 : arg2.IsWhole) (arg3 : Memref sig .tc .vmem S4x2x32 .f32) (harg3 : arg3.IsWhole) (arg4 : Memref sig .tc .vmem S4x2x32 .f32) (harg4 : arg4.IsWhole) (arg5 : Memref sig .tc .vmem S30x4x3x1024x64 .i8) (harg5 : arg5.IsWhole) (arg6 : Memref sig .tc .vmem S30x4x3x1024 .f32) (harg6 : arg6.IsWhole) (arg7 : Memref sig .tc .vmem S30x4x3x1024x64 .i8) (harg7 : arg7.IsWhole) (arg8 : Memref sig .tc .vmem S30x4x3x1024 .f32) (harg8 : arg8.IsWhole) (arg9 : Memref sig .tc .vmem S30x576 .f32) (harg9 : arg9.IsWhole) (arg10 : Memref sig .tc .vmem S30x576 .f32) (harg10 : arg10.IsWhole) (arg11 : Memref sig .tc .vmem S30x288x960 .i8) (harg11 : arg11.IsWhole) (arg12 : Memref sig .tc .vmem S30x18x960 .bf16) (harg12 : arg12.IsWhole) (arg13 : Memref sig .tc .vmem S30x288x576 .i8) (harg13 : arg13.IsWhole) (arg14 : Memref sig .tc .vmem S30x18x576 .bf16) (harg14 : arg14.IsWhole) (arg15 : Memref sig .tc .vmem S30x288x3072 .i8) (harg15 : arg15.IsWhole) (arg16 : Memref sig .tc .vmem S30x18x3072 .bf16) (harg16 : arg16.IsWhole) (arg17 : Memref sig .tc .vmem S30x768x576 .i8) (harg17 : arg17.IsWhole) (arg18 : Memref sig .tc .vmem S30x48x576 .bf16) (harg18 : arg18.IsWhole) (arg19 : Memref sig .tc .vmem S30x8x576 .f32) (harg19 : arg19.IsWhole) (arg20 : Memref sig .tc .vmem S30x9x8x64 .f32) (harg20 : arg20.IsWhole) (arg21 : Memref sig .tc .vmem S30x8x192 .i8) (harg21 : arg21.IsWhole) (arg22 : Memref sig .tc .vmem S30x8x3 .f32) (harg22 : arg22.IsWhole) (arg23 : Memref sig .tc .vmem S30x8x192 .i8) (harg23 : arg23.IsWhole) (arg24 : Memref sig .tc .vmem S30x8x3 .f32) (harg24 : arg24.IsWhole) (A : Operands F)

/-- The loop's state before layer `n`. -/
abbrev loopAt (n : ℕ) := st_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A.ln A.co A.si (harg5.unread A.ck) (harg6.unread A.cks) (harg7.unread A.cv) (harg8.unread A.cvs) (harg9.unread A.an) (harg10.unread A.mn) (harg11.unread A.wq) (harg12.unread A.gq) (harg13.unread A.wo) (harg14.unread A.go) (harg15.unread A.wgu) (harg16.unread A.ggu) (harg17.unread A.wd) (harg18.unread A.gd) (start A.e A.s) n

theorem carried_eq : ∀ n ≤ k0_t1_loop.trips, (loopAt 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A n).1 = A.stream n
  | 0, _ => by rw [Operands.stream]; rfl
  | n + 1, h => by
    have ih := carried_eq n (Nat.le_of_succ_le h)
    rw [show A.stream (n + 1) = A.next ⟨n, h⟩ (A.stream n) from A.stream_succ ⟨n, h⟩, ← ih]
    refine (congrArg (·.1) (st_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A.ln A.co A.si (harg5.unread A.ck) (harg6.unread A.cks) (harg7.unread A.cv) (harg8.unread A.cvs) (harg9.unread A.an) (harg10.unread A.mn) (harg11.unread A.wq) (harg12.unread A.gq) (harg13.unread A.wo) (harg14.unread A.go) (harg15.unread A.wgu) (harg16.unread A.ggu) (harg17.unread A.wd) (harg18.unread A.gd) (start A.e A.s) ⟨n, h⟩)).trans ?_
    refine (carried_trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A.ln A.co A.si (harg5.unread A.ck) (harg6.unread A.cks) (harg7.unread A.cv) (harg8.unread A.cvs) (harg9.unread A.an) (harg10.unread A.mn) (harg11.unread A.wq) (harg12.unread A.gq) (harg13.unread A.wo) (harg14.unread A.go) (harg15.unread A.wgu) (harg16.unread A.ggu) (harg17.unread A.wd) (harg18.unread A.gd)  ⟨n, h⟩ _).trans ?_
    simp only [normOf, wqOf, gqOf, cacheOf, stepsOf, woOf, goOf, wguOf, gguOf, wdOf, gdOf, View.readAt_eq_ld, Memref.IsWhole.read_unread]
    rfl

theorem stored_eq (k : Fin k0_t1_loop.trips) : (loopAt 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A (k.val + 1)).2
    = ([⟨Rect.unit (s := S30x8x576) (k0_off12 k) S1x8x576.size (k0_off12_inb k), A.res k⟩] ++ (loopAt 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A k.val).2.1,
      [⟨Rect.unit (s := S30x9x8x64) (k0_off13 k) S1x9x8x64.size (k0_off13_inb k), A.heads k⟩] ++ (loopAt 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A k.val).2.2.1,
      [⟨Rect.unit (s := S30x8x192) (k0_off14 k) S1x8x192.size (k0_off14_inb k), A.kc k⟩] ++ (loopAt 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A k.val).2.2.2.1,
      [⟨Rect.unit (s := S30x8x3) (k0_off15 k) S1x8x3.size (k0_off15_inb k), A.ks k⟩] ++ (loopAt 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A k.val).2.2.2.2.1,
      [⟨Rect.unit (s := S30x8x192) (k0_off14 k) S1x8x192.size (k0_off14_inb k), A.vc k⟩] ++ (loopAt 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A k.val).2.2.2.2.2.1,
      [⟨Rect.unit (s := S30x8x3) (k0_off15 k) S1x8x3.size (k0_off15_inb k), A.vs k⟩] ++ (loopAt 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A k.val).2.2.2.2.2.2) := by
  have hc := carried_eq 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A k.val (Nat.le_of_lt k.isLt)
  unfold Operands.res Operands.heads Operands.kc Operands.ks Operands.vc Operands.vs
  rw [← hc]
  refine (congrArg (·.2) (st_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A.ln A.co A.si (harg5.unread A.ck) (harg6.unread A.cks) (harg7.unread A.cv) (harg8.unread A.cvs) (harg9.unread A.an) (harg10.unread A.mn) (harg11.unread A.wq) (harg12.unread A.gq) (harg13.unread A.wo) (harg14.unread A.go) (harg15.unread A.wgu) (harg16.unread A.ggu) (harg17.unread A.wd) (harg18.unread A.gd) (start A.e A.s) k)).trans ?_
  have h := stored_trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A.ln A.co A.si (harg5.unread A.ck) (harg6.unread A.cks) (harg7.unread A.cv) (harg8.unread A.cvs) (harg9.unread A.an) (harg10.unread A.mn) (harg11.unread A.wq) (harg12.unread A.gq) (harg13.unread A.wo) (harg14.unread A.go) (harg15.unread A.wgu) (harg16.unread A.ggu) (harg17.unread A.wd) (harg18.unread A.gd)  k (loopAt 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A k.val).1
  simp only [normOf, wqOf, gqOf, cacheOf, stepsOf, woOf, goOf, wguOf, gguOf, wdOf, gdOf, View.readAt_eq_ld, Memref.IsWhole.read_unread] at h
  generalize tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A.ln A.co A.si (harg5.unread A.ck) (harg6.unread A.cks) (harg7.unread A.cv) (harg8.unread A.cvs) (harg9.unread A.an) (harg10.unread A.mn) (harg11.unread A.wq) (harg12.unread A.gq) (harg13.unread A.wo) (harg14.unread A.go) (harg15.unread A.wgu) (harg16.unread A.ggu) (harg17.unread A.wd) (harg18.unread A.gd)  k (loopAt 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 A k.val).1 = T at h ⊢
  subst h
  rfl

end

end Cert.ReferenceIdeal.Gen
-- ==== Proof.Layer.lean ====
/- One layer of the kernel, written stage by stage: the operations the kernel's body applies to the residual
   stream and to one layer's weights and caches. -/
module

public import proofs.«01_k».proof.Proof.Gen.KernelIdeal.Skeleton
public import proofs.«01_k».proof.Proof.Block

@[expose] public section

set_option maxRecDepth 16384

noncomputable section

namespace Cert.Layer

open Idealize.ShloMosaic Idealize.ShloMosaic.TcCoe Idealize.SL.Sem
open Cert.KernelIdeal Cert.KernelIdeal.Gen Cert.Block

/-! ## The shapes of the int4 blocks -/

theorem facts_288_256 : Facts 576 288 72 9 256 where
  castW := by decide
  castG := by decide
  toWords := by decide
  toBytes := by decide
  piece := by decide
  row := by decide
  spread := by decide
  stack := by decide
  left := by decide
  right := by decide

theorem facts_288_192 : Facts 576 288 72 9 192 where
  castW := by decide
  castG := by decide
  toWords := by decide
  toBytes := by decide
  piece := by decide
  row := by decide
  spread := by decide
  stack := by decide
  left := by decide
  right := by decide

theorem facts_288_64 : Facts 576 288 72 9 64 where
  castW := by decide
  castG := by decide
  toWords := by decide
  toBytes := by decide
  piece := by decide
  row := by decide
  spread := by decide
  stack := by decide
  left := by decide
  right := by decide

theorem facts_768_256 : Facts 1536 768 192 24 256 where
  castW := by decide
  castG := by decide
  toWords := by decide
  toBytes := by decide
  piece := by decide
  row := by decide
  spread := by decide
  stack := by decide
  left := by decide
  right := by decide

theorem facts_768_64 : Facts 1536 768 192 24 64 where
  castW := by decide
  castG := by decide
  toWords := by decide
  toBytes := by decide
  piece := by decide
  row := by decide
  spread := by decide
  stack := by decide
  left := by decide
  right := by decide

variable {F : FTy → Type} [FloatOps F]

/-- Rows `o..o+p`, columns `c..c+q` of a matrix with a unit axis in front. -/
abbrev tile {a b : ℕ} {e : EltTy} (x : Vec F (Mat1 a b) e) (o p c q : ℕ)
    (h : ∀ k, (![0, o, c] : Fin 3 → ℕ) k + (![1, p, q] : Fin 3 → ℕ) k ≤ (Mat1 a b).size k := by decide) : Vec F (Mat1 p q) e :=
  View.ld x (Rect.unit (s := Mat1 a b) ![0, o, c] ![1, p, q] h)

/-! ## Normalisation and the linear layers -/

/-- The first residual stream: the embedded tokens' codes times their scales. -/
def start (e : Vec F S8x576 .i8) (s : Vec F S8x1 .f32) : FVec F S8x576 .f32 :=
  shapeCast S8x576 (mulf (sitofp .f32 (shapeCast S8x576 e shapeCasts_S8x576_S8x576))
    (broadcastTo S8x576 (shapeCast S8x1 s shapeCasts_S8x1_S8x1) broadcasts_S8x1_S8x576)) shapeCasts_S8x576_S8x576

/-- The root of the mean square of each row, with its epsilon. -/
def rms (x : FVec F S8x576 .f32) : FVec F S8x1 .f32 :=
  sqrt (addf (divf (shapeCast S8x1 (multiReduction .add [1] S8 (mulf x x) 0x00000000#32 reduces_S8x576_S8 (.inl rfl) rfl) shapeCasts_S8_S8x1)
    (broadcast S8x1 (Scalar.ofBits .f32 0x44100000#32))) (broadcast S8x1 (Scalar.ofBits .f32 0x3727C5AC#32)))

/-- The normalised rows times their weights. -/
def norm (x : FVec F S8x576 .f32) (w : Vec F S1x1x576 .f32) : FVec F S8x576 .bf16 :=
  truncf .bf16 (mulf (divf x (broadcastTo S8x576 (rms x) broadcasts_S8x1_S8x576))
    (broadcastTo S8x576 (shapeCast S1x576 w shapeCasts_S1x1x576_S1x576) broadcasts_S1x576_S8x576)) bitsLt_bf16_f32

/-- Query, key and value rows. -/
def qkv (h : FVec F S8x576 .bf16) (w : Vec F S1x288x960 .i8) (g : Vec F S1x18x960 .bf16) : FVec F S8x960 .f32 :=
  concatenate S8x960 1
    [⟨S8x256, block facts_288_256 h (tile w 0 288 0 256) (tile g 0 9 0 256) (tile g 9 9 0 256)⟩,
     ⟨S8x256, block facts_288_256 h (tile w 0 288 256 256) (tile g 0 9 256 256) (tile g 9 9 256 256)⟩,
     ⟨S8x256, block facts_288_256 h (tile w 0 288 512 256) (tile g 0 9 512 256) (tile g 9 9 512 256)⟩,
     ⟨S8x192, block facts_288_192 h (tile w 0 288 768 192) (tile g 0 9 768 192) (tile g 9 9 768 192)⟩] concatenates_S8x256_S8x256_S8x256_S8x192_S8x960_d1

/-- The output projection. -/
def proj (h : FVec F S8x576 .bf16) (w : Vec F S1x288x576 .i8) (g : Vec F S1x18x576 .bf16) : FVec F S8x576 .f32 :=
  concatenate S8x576 1
    [⟨S8x256, block facts_288_256 h (tile w 0 288 0 256) (tile g 0 9 0 256) (tile g 9 9 0 256)⟩,
     ⟨S8x256, block facts_288_256 h (tile w 0 288 256 256) (tile g 0 9 256 256) (tile g 9 9 256 256)⟩,
     ⟨S8x64, block facts_288_64 h (tile w 0 288 512 64) (tile g 0 9 512 64) (tile g 9 9 512 64)⟩] concatenates_S8x256_S8x256_S8x64_S8x576_d1

/-- The columns of the gate and up layer, 256 at a time. -/
def gateUpPiece (h : FVec F S8x576 .bf16) (w : Vec F S1x288x3072 .i8) (g : Vec F S1x18x3072 .bf16) (p : Fin 12) : FVec F S8x256 .f32 :=
  block facts_288_256 h (tile w 0 288 (256 * p.val) 256 (by revert p; decide)) (tile g 0 9 (256 * p.val) 256 (by revert p; decide))
    (tile g 9 9 (256 * p.val) 256 (by revert p; decide))

/-- Gate and up rows. -/
def gateUp (h : FVec F S8x576 .bf16) (w : Vec F S1x288x3072 .i8) (g : Vec F S1x18x3072 .bf16) : FVec F S8x3072 .f32 :=
  concatenate S8x3072 1 [⟨S8x256, gateUpPiece h w g 0⟩, ⟨S8x256, gateUpPiece h w g 1⟩, ⟨S8x256, gateUpPiece h w g 2⟩,
    ⟨S8x256, gateUpPiece h w g 3⟩, ⟨S8x256, gateUpPiece h w g 4⟩, ⟨S8x256, gateUpPiece h w g 5⟩, ⟨S8x256, gateUpPiece h w g 6⟩,
    ⟨S8x256, gateUpPiece h w g 7⟩, ⟨S8x256, gateUpPiece h w g 8⟩, ⟨S8x256, gateUpPiece h w g 9⟩, ⟨S8x256, gateUpPiece h w g 10⟩,
    ⟨S8x256, gateUpPiece h w g 11⟩] concatenates_S8x256_S8x256_S8x256_S8x256_S8x256_S8x256_S8x256_S8x256_S8x256_S8x256_S8x256_S8x256_S8x3072_d1

/-- The gated activation. -/
def act (x : FVec F S8x3072 .f32) : FVec F S8x1536 .bf16 :=
  truncf .bf16 (mulf (mulf (extractStridedSlice S8x1536 ![0, 0] x (by decide)) (logistic (extractStridedSlice S8x1536 ![0, 0] x (by decide))))
    (extractStridedSlice S8x1536 ![0, 1536] x (by decide))) bitsLt_bf16_f32

/-- The down projection. -/
def down (h : FVec F S8x1536 .bf16) (w : Vec F S1x768x576 .i8) (g : Vec F S1x48x576 .bf16) : FVec F S8x576 .f32 :=
  concatenate S8x576 1
    [⟨S8x256, block facts_768_256 h (tile w 0 768 0 256) (tile g 0 24 0 256) (tile g 24 24 0 256)⟩,
     ⟨S8x256, block facts_768_256 h (tile w 0 768 256 256) (tile g 0 24 256 256) (tile g 24 24 256 256)⟩,
     ⟨S8x64, block facts_768_64 h (tile w 0 768 512 64) (tile g 0 24 512 64) (tile g 24 24 512 64)⟩] concatenates_S8x256_S8x256_S8x64_S8x576_d1

/-! ## Rotation and quantisation -/

/-- The lanes that lie in the first half of a head. -/
def firstHalf : IVec S8x128 1 :=
  cmpi .eq (andi (iota .tc S8x128 32 [1] iota_S8x128_d1_w32) (broadcast S8x128 32#32)) (broadcast S8x128 0#32)

/-- Two heads rotated. -/
def rotate (x : FVec F S8x128 .f32) (co si : Vec F S8x128 .f32) : FVec F S8x128 .f32 :=
  addf (mulf x (shapeCast S8x128 co shapeCasts_S8x128_S8x128))
    (mulf (select firstHalf (dynamicRotate 1 96#32 none x rotates_S8x128_d1) (dynamicRotate 1 32#32 none x rotates_S8x128_d1))
      (shapeCast S8x128 si shapeCasts_S8x128_S8x128))

/-- Heads `2 p` and `2 p + 1` rotated. -/
def rotated (y : FVec F S8x960 .f32) (co si : Vec F S8x128 .f32) (p : Fin 6) : FVec F S8x128 .f32 :=
  rotate (extractStridedSlice S8x128 ![0, 128 * p.val] y (by revert p; decide)) co si

/-- The query and key heads rotated. -/
def rope (y : FVec F S8x960 .f32) (co si : Vec F S8x128 .f32) : FVec F S8x768 .f32 :=
  concatenate S8x768 1 [⟨S8x128, rotated y co si 0⟩, ⟨S8x128, rotated y co si 1⟩, ⟨S8x128, rotated y co si 2⟩, ⟨S8x128, rotated y co si 3⟩,
    ⟨S8x128, rotated y co si 4⟩, ⟨S8x128, rotated y co si 5⟩] concatenates_S8x128_S8x128_S8x128_S8x128_S8x128_S8x128_S8x768_d1

/-- A head's rows' scales. -/
def scale (x : FVec F S8x64 .f32) : FVec F S8x1 .f32 :=
  have a : FVec F S8x1 .f32 := shapeCast S8x1 (multiReduction .maximumf [1] S8 (absf x) 0xFF800000#32 reduces_S8x64_S8 (.inl rfl) rfl) shapeCasts_S8_S8x1
  select (cmpf .oeq a (broadcast S8x1 (Scalar.ofBits .f32 0x00000000#32))) (broadcast S8x1 (Scalar.ofBits .f32 0x3F800000#32))
    (divf a (broadcast S8x1 (Scalar.ofBits .f32 0x42FE0000#32)))

/-- A head's codes. -/
def codes (x : FVec F S8x64 .f32) : FVec F S8x64 .f32 :=
  minimumf (broadcast S8x64 (Scalar.sitofp .f32 127#32)) (maximumf (broadcast S8x64 (Scalar.sitofp .f32 4294967169#32))
    (roundeven (divf x (broadcastTo S8x64 (scale x) broadcasts_S8x1_S8x64))))

/-- Key head `k` of the rotated rows. -/
def keyHead (z : FVec F S8x768 .f32) (k : Fin 3) : FVec F S8x64 .f32 :=
  extractStridedSlice S8x64 ![0, 576 + 64 * k.val] z (by revert k; decide)

/-- Value head `k`. -/
def valueHead (y : FVec F S8x960 .f32) (k : Fin 3) : FVec F S8x64 .f32 :=
  extractStridedSlice S8x64 ![0, 768 + 64 * k.val] y (by revert k; decide)

/-- The codes of three heads side by side. -/
def codes3 (x : Fin 3 → FVec F S8x64 .f32) : FVec F S8x192 .f32 :=
  concatenate S8x192 1 [⟨S8x64, codes (x 0)⟩, ⟨S8x64, codes (x 1)⟩, ⟨S8x64, codes (x 2)⟩] concatenates_S8x64_S8x64_S8x64_S8x192_d1

/-- The codes as stored. -/
def codesOut (x : Fin 3 → FVec F S8x64 .f32) : IVec S1x8x192 8 := shapeCast S1x8x192 (fptosi 8 (codes3 x)) shapeCasts_S8x192_S1x8x192

/-- The scales as stored. -/
def scalesOut (x : Fin 3 → FVec F S8x64 .f32) : FVec F S1x8x3 .f32 :=
  shapeCast S1x8x3 (concatenate S8x3 1 [⟨S8x1, scale (x 0)⟩, ⟨S8x1, scale (x 1)⟩, ⟨S8x1, scale (x 2)⟩] concatenates_S8x1_S8x1_S8x1_S8x3_d1) shapeCasts_S8x3_S1x8x3

/-! ## The rows of queries -/

/-- Query head `h` of the rotated rows. -/
def queryHead (z : FVec F S8x768 .f32) (h : Fin 9) : FVec F S8x64 .f32 :=
  extractStridedSlice S8x64 ![0, 64 * h.val] z (by revert h; decide)

/-- A query head in the first 64 of 192 lanes. -/
def lanes0 (x : FVec F S8x64 .f32) : FVec F S8x192 .f32 :=
  concatenate S8x192 1 [⟨S8x64, x⟩, ⟨S8x128, broadcast S8x128 (Scalar.ofBits .f32 0x00000000#32)⟩] concatenates_S8x64_S8x128_S8x192_d1
/-- A query head in the middle 64 of 192 lanes. -/
def lanes1 (x : FVec F S8x64 .f32) : FVec F S8x192 .f32 :=
  concatenate S8x192 1 [⟨S8x64, broadcast S8x64 (Scalar.ofBits .f32 0x00000000#32)⟩, ⟨S8x64, x⟩,
    ⟨S8x64, broadcast S8x64 (Scalar.ofBits .f32 0x00000000#32)⟩] concatenates_S8x64_S8x64_S8x64_S8x192_d1
/-- A query head in the last 64 of 192 lanes. -/
def lanes2 (x : FVec F S8x64 .f32) : FVec F S8x192 .f32 :=
  concatenate S8x192 1 [⟨S8x128, broadcast S8x128 (Scalar.ofBits .f32 0x00000000#32)⟩, ⟨S8x64, x⟩] concatenates_S8x128_S8x64_S8x192_d1

/-- All query heads one under another, each in the lanes of its key head. -/
def queries (z : FVec F S8x768 .f32) : FVec F S72x192 .bf16 :=
  truncf .bf16 (concatenate S72x192 0 [⟨S8x192, lanes0 (queryHead z 0)⟩, ⟨S8x192, lanes0 (queryHead z 1)⟩, ⟨S8x192, lanes0 (queryHead z 2)⟩,
    ⟨S8x192, lanes1 (queryHead z 3)⟩, ⟨S8x192, lanes1 (queryHead z 4)⟩, ⟨S8x192, lanes1 (queryHead z 5)⟩,
    ⟨S8x192, lanes2 (queryHead z 6)⟩, ⟨S8x192, lanes2 (queryHead z 7)⟩, ⟨S8x192, lanes2 (queryHead z 8)⟩] concatenates_S8x192_S8x192_S8x192_S8x192_S8x192_S8x192_S8x192_S8x192_S8x192_S72x192_d0) bitsLt_bf16_f32

/-! ## Which sequence a row belongs to -/

/-- The remainder by 8. -/
def mod8 (s : Shape) (b : s.Broadcasts s) (x : IVec s 32) : IVec s 32 :=
  have d : BitVec 32 := Scalar.select (Scalar.cmpi .eq 8#32 0#32) 1#32 8#32
  have r : IVec s 32 := remsi x (broadcast s d)
  select (andi (xori (cmpi .slt r (broadcast s 0#32)) (broadcastTo s (broadcast s (Scalar.cmpi .slt d 0#32)) b)) (cmpi .ne r (broadcast s 0#32)))
    (addi r (broadcast s d)) r

/-- Half, rounded down. -/
def half (s : Shape) (x : IVec s 32) : IVec s 32 :=
  have q : IVec s 32 := divsi x (broadcast s 2#32)
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt 2#32 0#32)) (Scalar.extui (Scalar.cmpi .slt 2#32 0#32)))))
      (cmpi .ne (remsi x (broadcast s 2#32)) (broadcast s 0#32)))
    (subi q (broadcast s 1#32)) q

/-- The sequence of each of the 72 rows. -/
def rowSeq : IVec S72x1 32 := half S72x1 (mod8 S72x1 broadcasts_S72x1_S72x1 (iota .tc S72x1 32 [0] iota_S72x1_d0_w32))

/-- The rows of sequence `b`. -/
def isSeq (b : BitVec 32) : IVec S72x1 1 := cmpi .eq rowSeq (broadcast S72x1 b)

/-- Among the new tokens, those of the row's sequence that are not later. -/
def seen : IVec S72x8 1 :=
  have t : IVec S72x8 32 := mod8 S72x8 broadcasts_S72x8_S72x8 (iota .tc S72x8 32 [0] iota_S72x8_d0_w32)
  have c : IVec S72x8 32 := iota .tc S72x8 32 [1] iota_S72x8_d1_w32
  andi (cmpi .eq (half S72x8 t) (half S72x8 c)) (cmpi .sle c t)

/-! ## Attention -/

/-- The cached codes of sequence `b`: 192 rows, 1024 positions. -/
def cached (x : Vec F S1x4x3x64x1024 .i8) (b : Fin 4) : FVec F S192x1024 .bf16 :=
  sitofp .bf16 (shapeCast S192x1024 (shapeCast S3x64x1024 (View.ld x (Rect.unit (s := S1x4x3x64x1024) ![0, b.val, 0, 0, 0] ![1, 1, 3, 64, 1024]
    (by revert b; decide))) shapeCasts_S1x1x3x64x1024_S3x64x1024) shapeCasts_S3x64x1024_S192x1024)

/-- Products of all rows with the cached keys of sequence `b`. -/
def scoresOf (q : FVec F S72x192 .bf16) (x : Vec F S1x4x3x64x1024 .i8) (b : Fin 4) : FVec F S72x1024 .f32 :=
  matmul dot_S72x192_S192x1024_S72x1024_1_0_0_1_n_n none q (cached x b) (constant S72x1024 .f32 0x00000000#32)

/-- The rows of a sequence spread over the columns. -/
def pick {n : ℕ} {α : Type} (h : S72x1.Broadcasts (Mat 72 n)) (y : Fin 4 → (Mat 72 n).Idx → α) : (Mat 72 n).Idx → α :=
  select (broadcastTo (Mat 72 n) (shapeCast S72x1 (isSeq 0#32) shapeCasts_S72x1_S72x1) h) (y 0)
    (select (broadcastTo (Mat 72 n) (shapeCast S72x1 (isSeq 1#32) shapeCasts_S72x1_S72x1) h) (y 1)
      (select (broadcastTo (Mat 72 n) (shapeCast S72x1 (isSeq 2#32) shapeCasts_S72x1_S72x1) h) (y 2) (y 3)))

/-- The cached scales of sequence `b`, head by head. -/
def cachedScale (x : Vec F S1x3x4x1024 .f32) (k : Fin 3) (b : Fin 4) : FVec F S24x1024 .f32 :=
  broadcastTo S24x1024 (shapeCast S1x1024 (shapeCast S1x1024 (View.ld x (Rect.unit (s := S1x3x4x1024) ![0, k.val, b.val, 0] ![1, 1, 1, 1024]
    (by revert k b; decide))) shapeCasts_S1x1x1x1024_S1x1024) shapeCasts_S1x1024_S1x1024) broadcasts_S1x1024_S24x1024

def cachedScales (x : Vec F S1x3x4x1024 .f32) (b : Fin 4) : FVec F S72x1024 .f32 :=
  concatenate S72x1024 0 [⟨S24x1024, cachedScale x 0 b⟩, ⟨S24x1024, cachedScale x 1 b⟩, ⟨S24x1024, cachedScale x 2 b⟩] concatenates_S24x1024_S24x1024_S24x1024_S72x1024_d0

/-- The number of cached positions of sequence `b`. -/
def len (x : Vec F S4 .i32) (b : Fin 4) : BitVec 32 :=
  View.ld x (Rect.unit (s := S4) ![b.val] ![1] (by revert b; decide)) (Shape.Idx.first (show 0 < Shape.numel ⟨1, ![1]⟩ by decide))

/-- The number of cached positions of each row's sequence. -/
def lens (x : Vec F S4 .i32) : IVec S72x1 32 :=
  select (isSeq 0#32) (broadcast S72x1 (len x 0)) (select (isSeq 1#32) (broadcast S72x1 (len x 1))
    (select (isSeq 2#32) (broadcast S72x1 (len x 2)) (broadcast S72x1 (len x 3))))

/-- The scores against the cache. -/
def scoreOld (q : FVec F S72x192 .bf16) (ln : Vec F S4 .i32) (ck : Vec F S1x4x3x64x1024 .i8) (cks : Vec F S1x3x4x1024 .f32) : FVec F S72x1024 .f32 :=
  select (cmpi .slt (iota .tc S72x1024 32 [1] iota_S72x1024_d1_w32) (broadcastTo S72x1024 (lens ln) broadcasts_S72x1_S72x1024))
    (mulf (mulf (pick broadcasts_S72x1_S72x1024 (scoresOf q ck)) (pick broadcasts_S72x1_S72x1024 (cachedScales cks)))
      (broadcast S72x1024 (Scalar.ofBits .f32 0x3E38AA3B#32)))
    (broadcast S72x1024 (Scalar.ofBits .f32 0xFF800000#32))

/-- A head's new scales along the lanes, spread over its 24 rows. -/
def spread (s : FVec F S8x1 .f32) : FVec F S24x8 .f32 :=
  broadcastTo S24x8 (shapeCast S1x8 (extractStridedSlice S1x8 ![0, 0] (transpose S128x8 [1, 0] (broadcastTo S8x128
    (shapeCast S8x1 s shapeCasts_S8x1_S8x1) broadcasts_S8x1_S8x128) transposes_S8x128_p1_0_S128x8) slices_S128x8_o0_0_S1x8)
    shapeCasts_S1x8_S1x8) broadcasts_S1x8_S24x8

/-- The new scales for every row. -/
def newScales (x : Fin 3 → FVec F S8x64 .f32) : FVec F S72x8 .f32 :=
  concatenate S72x8 0 [⟨S24x8, spread (scale (x 0))⟩, ⟨S24x8, spread (scale (x 1))⟩, ⟨S24x8, spread (scale (x 2))⟩] concatenates_S24x8_S24x8_S24x8_S72x8_d0

/-- The scores against the new keys. -/
def scoreNew (q : FVec F S72x192 .bf16) (k : Fin 3 → FVec F S8x64 .f32) : FVec F S72x8 .f32 :=
  select seen
    (mulf (mulf (matmul dot_S72x192_S8x192_S72x8_1_1_0_0_n_n none q (truncf .bf16 (codes3 k) bitsLt_bf16_f32) (constant S72x8 .f32 0x00000000#32)) (newScales k))
      (broadcast S72x8 (Scalar.ofBits .f32 0x3E38AA3B#32)))
    (broadcast S72x8 (Scalar.ofBits .f32 0xFF800000#32))

/-- The rows' maxima, rounded up. -/
def peak (so : FVec F S72x1024 .f32) (sn : FVec F S72x8 .f32) : FVec F S72x1 .f32 :=
  ceil (maximumf (shapeCast S72x1 (multiReduction .maximumf [1] S72 so 0xFF800000#32 reduces_S72x1024_S72 (.inl rfl) rfl) shapeCasts_S72_S72x1)
    (shapeCast S72x1 (multiReduction .maximumf [1] S72 sn 0xFF800000#32 reduces_S72x8_S72 (.inl rfl) rfl) shapeCasts_S72_S72x1))

/-- The cached positions' weights. -/
def expOld (so : FVec F S72x1024 .f32) (m : FVec F S72x1 .f32) : FVec F S72x1024 .f32 := exp2 (subf so (broadcastTo S72x1024 m broadcasts_S72x1_S72x1024))
/-- The new positions' weights. -/
def expNew (sn : FVec F S72x8 .f32) (m : FVec F S72x1 .f32) : FVec F S72x8 .f32 := exp2 (subf sn (broadcastTo S72x8 m broadcasts_S72x1_S72x8))

/-- The rows' total weights. -/
def total (po : FVec F S72x1024 .f32) (pn : FVec F S72x8 .f32) : FVec F S72x1 .f32 :=
  addf (shapeCast S72x1 (multiReduction .add [1] S72 po 0x00000000#32 reduces_S72x1024_S72 (.inl rfl) rfl) shapeCasts_S72_S72x1)
    (shapeCast S72x1 (multiReduction .add [1] S72 pn 0x00000000#32 reduces_S72x8_S72 (.inl rfl) rfl) shapeCasts_S72_S72x1)

/-- The weighted cached values of sequence `b`, for all rows. -/
def weighedOf (w : FVec F S72x1024 .bf16) (x : Vec F S1x4x3x64x1024 .i8) (b : Fin 4) : FVec F S72x192 .f32 :=
  matmul dot_S72x1024_S192x1024_S72x192_1_1_0_0_n_n none w (cached x b) (constant S72x192 .f32 0x00000000#32)

/-- The weighted mean of the values from the weights. -/
def mix (po : FVec F S72x1024 .f32) (pn : FVec F S72x8 .f32) (cv : Vec F S1x4x3x64x1024 .i8) (cvs : Vec F S1x3x4x1024 .f32)
    (v : Fin 3 → FVec F S8x64 .f32) : FVec F S72x192 .f32 :=
  divf (addf (pick broadcasts_S72x1_S72x192 (weighedOf (truncf .bf16 (mulf po (pick broadcasts_S72x1_S72x1024 (cachedScales cvs))) bitsLt_bf16_f32) cv))
      (matmul dot_S72x8_S8x192_S72x192_1_0_0_1_n_n none (truncf .bf16 (mulf pn (newScales v)) bitsLt_bf16_f32) (truncf .bf16 (codes3 v) bitsLt_bf16_f32)
        (constant S72x192 .f32 0x00000000#32)))
    (broadcastTo S72x192 (total po pn) broadcasts_S72x1_S72x192)

/-- Attention, all rows. -/
def attend (q : FVec F S72x192 .bf16) (ln : Vec F S4 .i32) (ck : Vec F S1x4x3x64x1024 .i8) (cks : Vec F S1x3x4x1024 .f32)
    (cv : Vec F S1x4x3x64x1024 .i8) (cvs : Vec F S1x3x4x1024 .f32) (k v : Fin 3 → FVec F S8x64 .f32) : FVec F S72x192 .f32 :=
  have so : FVec F S72x1024 .f32 := scoreOld q ln ck cks
  have sn : FVec F S72x8 .f32 := scoreNew q k
  have m : FVec F S72x1 .f32 := peak so sn
  mix (expOld so m) (expNew sn m) cv cvs v

/-- Head `h` of the attended rows. -/
def head (a : FVec F S72x192 .f32) (h : Fin 9) : FVec F S8x64 .f32 :=
  extractStridedSlice S8x64 ![8 * h.val, 64 * (h.val / 3)] a (by revert h; decide)

/-- The heads side by side. -/
def heads (a : FVec F S72x192 .f32) : FVec F S8x576 .bf16 :=
  truncf .bf16 (concatenate S8x576 1 [⟨S8x64, head a 0⟩, ⟨S8x64, head a 1⟩, ⟨S8x64, head a 2⟩, ⟨S8x64, head a 3⟩, ⟨S8x64, head a 4⟩,
    ⟨S8x64, head a 5⟩, ⟨S8x64, head a 6⟩, ⟨S8x64, head a 7⟩, ⟨S8x64, head a 8⟩] concatenates_S8x64_S8x64_S8x64_S8x64_S8x64_S8x64_S8x64_S8x64_S8x64_S8x576_d1) bitsLt_bf16_f32

/-- A head as stored. -/
def headOut (a : FVec F S72x192 .f32) (h : Fin 9) : FVec F S1x1x8x64 .f32 := shapeCast S1x1x8x64 (head a h) shapeCasts_S8x64_S1x1x8x64

/-! ## The layer -/

/-- Query, key and value rows of the layer from the residual stream. -/
def rows (x : FVec F S8x576 .f32) (an : Vec F S1x1x576 .f32) (wq : Vec F S1x288x960 .i8) (gq : Vec F S1x18x960 .bf16) : FVec F S8x960 .f32 :=
  qkv (norm x an) wq gq

/-- The attended rows of the layer from its query, key and value rows. -/
def attended (y : FVec F S8x960 .f32) (ln : Vec F S4 .i32) (co si : Vec F S8x128 .f32) (ck : Vec F S1x4x3x64x1024 .i8) (cks : Vec F S1x3x4x1024 .f32)
    (cv : Vec F S1x4x3x64x1024 .i8) (cvs : Vec F S1x3x4x1024 .f32) : FVec F S72x192 .f32 :=
  have z : FVec F S8x768 .f32 := rope y co si
  attend (queries z) ln ck cks cv cvs (keyHead z) (valueHead y)

/-- The residual stream after attention. -/
def middle (x : FVec F S8x576 .f32) (a : FVec F S72x192 .f32) (wo : Vec F S1x288x576 .i8) (go : Vec F S1x18x576 .bf16) : FVec F S8x576 .f32 :=
  addf x (proj (heads a) wo go)

/-- The residual stream after the layer. -/
def final (x : FVec F S8x576 .f32) (mn : Vec F S1x1x576 .f32) (wgu : Vec F S1x288x3072 .i8) (ggu : Vec F S1x18x3072 .bf16)
    (wd : Vec F S1x768x576 .i8) (gd : Vec F S1x48x576 .bf16) : FVec F S8x576 .f32 :=
  addf x (down (act (gateUp (norm x mn) wgu ggu)) wd gd)

end Cert.Layer
-- ==== Proof.Cat.lean ====
/- Rows or columns put side by side, read at an index: whatever the pieces, if each piece holds its own part of
   one matrix, the whole holds that matrix. -/
module

public import proofs.«01_k».proof.Proof.Block

@[expose] public section

set_option maxRecDepth 16384

namespace Cert.Cat

open Idealize.ShloMosaic Cert.Block

variable {α : Type} {a N : ℕ}

/-- The pieces, from column `o` on, hold the columns of `F`. -/
inductive Cols (F : Fin a → Fin N → α) : ℕ → List ((s : Shape) × (s.Idx → α)) → Prop
  | nil (o : ℕ) : Cols F o []
  | cons {o n : ℕ} {x : (Mat a n).Idx → α} {xs : List ((s : Shape) × (s.Idx → α))}
      (h : ∀ (i : Fin a) (l : Fin n) (c : Fin N), c.val = o + l.val → x (ix2 i l) = F i c) (t : Cols F (o + n) xs) : Cols F o (⟨Mat a n, x⟩ :: xs)

/-- The pieces, from row `o` on, hold the rows of `F`. -/
inductive Rows (F : Fin N → Fin a → α) : ℕ → List ((s : Shape) × (s.Idx → α)) → Prop
  | nil (o : ℕ) : Rows F o []
  | cons {o n : ℕ} {x : (Mat n a).Idx → α} {xs : List ((s : Shape) × (s.Idx → α))}
      (h : ∀ (l : Fin n) (i : Fin a) (c : Fin N), c.val = o + l.val → x (ix2 l i) = F c i) (t : Rows F (o + n) xs) : Rows F o (⟨Mat n a, x⟩ :: xs)

theorem cols_at (F : Fin a → Fin N → α) (i : Fin a) (j0 : Fin N) : ∀ (xs : List ((s : Shape) × (s.Idx → α))) (o c : ℕ)
    (hs : ∀ s ∈ xs.map (·.1), s.FitsOff (Mat a N) 1) (hc : c < (axisSizes (Mat a N) 1 xs).sum), Cols F o xs →
    ∀ j : Fin N, j.val = o + c → concatenateAt (Mat a N) 1 (ix2 i j0) xs hs c hc = F i j
  | [], _, _, _, hc, _, _, _ => absurd hc (Nat.not_lt_zero _)
  | [p], o, c, hs, hc, hF, j, hj => by
    cases hF with
    | cons h t =>
      rename_i n x
      have hn : c < n := by simpa [axisSizes] using hc
      rw [concatenateAt_singleton]
      refine Eq.trans (congrArg x ?_) (h i ⟨c, hn⟩ j hj)
      funext b
      apply Fin.ext
      match b with
      | ⟨0, _⟩ => rfl
      | ⟨1, _⟩ => rfl
  | p :: q :: xs, o, c, hs, hc, hF, j, hj => by
    cases hF with
    | cons h t =>
      rename_i n x
      rw [concatenateAt_cons]
      by_cases hn : c < n
      · refine (dif_pos hn).trans ?_
        refine Eq.trans (congrArg x ?_) (h i ⟨c, hn⟩ j hj)
        funext b
        apply Fin.ext
        match b with
        | ⟨0, _⟩ => rfl
        | ⟨1, _⟩ => rfl
      · refine (dif_neg hn).trans ?_
        exact cols_at F i j0 (q :: xs) (o + n) (c - n) _ _ t j (by omega)

theorem rows_at (F : Fin N → Fin a → α) (i : Fin a) (j0 : Fin N) : ∀ (xs : List ((s : Shape) × (s.Idx → α))) (o c : ℕ)
    (hs : ∀ s ∈ xs.map (·.1), s.FitsOff (Mat N a) 0) (hc : c < (axisSizes (Mat N a) 0 xs).sum), Rows F o xs →
    ∀ j : Fin N, j.val = o + c → concatenateAt (Mat N a) 0 (ix2 j0 i) xs hs c hc = F j i
  | [], _, _, _, hc, _, _, _ => absurd hc (Nat.not_lt_zero _)
  | [p], o, c, hs, hc, hF, j, hj => by
    cases hF with
    | cons h t =>
      rename_i n x
      have hn : c < n := by simpa [axisSizes] using hc
      rw [concatenateAt_singleton]
      refine Eq.trans (congrArg x ?_) (h ⟨c, hn⟩ i j hj)
      funext b
      apply Fin.ext
      match b with
      | ⟨0, _⟩ => rfl
      | ⟨1, _⟩ => rfl
  | p :: q :: xs, o, c, hs, hc, hF, j, hj => by
    cases hF with
    | cons h t =>
      rename_i n x
      rw [concatenateAt_cons]
      by_cases hn : c < n
      · refine (dif_pos hn).trans ?_
        refine Eq.trans (congrArg x ?_) (h ⟨c, hn⟩ i j hj)
        funext b
        apply Fin.ext
        match b with
        | ⟨0, _⟩ => rfl
        | ⟨1, _⟩ => rfl
      · refine (dif_neg hn).trans ?_
        exact rows_at F i j0 (q :: xs) (o + n) (c - n) _ _ t j (by omega)

/-- Columns put side by side. -/
theorem cols (F : Fin a → Fin N → α) (xs : List ((s : Shape) × (s.Idx → α))) (h : Shape.Concatenates (xs.map (·.1)) (Mat a N) 1)
    (hF : Cols F 0 xs) (i : Fin a) (j : Fin N) : concatenate (Mat a N) 1 xs h (ix2 i j) = F i j := by
  rw [concatenate_apply]
  exact cols_at F i j xs 0 j.val _ _ hF j (by omega)

/-- Rows put one under another. -/
theorem rows (F : Fin N → Fin a → α) (xs : List ((s : Shape) × (s.Idx → α))) (h : Shape.Concatenates (xs.map (·.1)) (Mat N a) 0)
    (hF : Rows F 0 xs) (j : Fin N) (i : Fin a) : concatenate (Mat N a) 0 xs h (ix2 j i) = F j i := by
  rw [concatenate_apply]
  exact rows_at F i j xs 0 j.val _ _ hF j (by omega)

end Cert.Cat
-- ==== Proof.Values1.lean ====
/- The kernel's linear layers over exact reals: column blocks side by side hold the sums over the signed weights. -/
module

public import proofs.«01_k».proof.Proof.Layer
public import proofs.«01_k».proof.Proof.Cat

@[expose] public section

set_option maxRecDepth 16384

noncomputable section

namespace Cert.Layer

open Idealize.ShloMosaic Idealize.ShloMosaic.TcCoe Idealize.SL.Sem
open Cert.KernelIdeal Cert.KernelIdeal.Gen Cert.Block Cert.Cat

/-- A tile at an index. -/
theorem tile_apply {a b : ℕ} {e : EltTy} (x : Vec Ideal (Mat1 a b) e) (o p c q : ℕ)
    (h : ∀ k, (![0, o, c] : Fin 3 → ℕ) k + (![1, p, q] : Fin 3 → ℕ) k ≤ (Mat1 a b).size k) (i : Fin p) (j : Fin q) (i' : Fin a) (j' : Fin b)
    (hi : i'.val = o + i.val) (hj : j'.val = c + j.val) : tile (F := Ideal) x o p c q h (ix3 0 i j) = x (ix3 0 i' j') := by
  show x _ = x _
  congr 1
  funext k
  apply Fin.ext
  match k with
  | ⟨0, _⟩ => rfl
  | ⟨1, _⟩ => simpa using hi.symm
  | ⟨2, _⟩ => simpa using hj.symm

/-- A column block of a layer holds the layer's columns. -/
theorem piece {D K K4 G H n N : ℕ} (f : Facts D K K4 G n) (hK : K = 4 * K4) (hD : K + K = D) (hG : K = 32 * G) (hH : G + G = H)
    (h : FVec Ideal (Mat 8 D) .bf16) (w : Vec Ideal (Mat1 K N) .i8) (g : Vec Ideal (Mat1 H N) .bf16) (o : ℕ)
    (h1 : ∀ k, (![0, 0, o] : Fin 3 → ℕ) k + (![1, K, n] : Fin 3 → ℕ) k ≤ (Mat1 K N).size k)
    (h2 : ∀ k, (![0, 0, o] : Fin 3 → ℕ) k + (![1, G, n] : Fin 3 → ℕ) k ≤ (Mat1 H N).size k)
    (h3 : ∀ k, (![0, G, o] : Fin 3 → ℕ) k + (![1, G, n] : Fin 3 → ℕ) k ≤ (Mat1 H N).size k)
    (i : Fin 8) (l : Fin n) (c : Fin N) (hc : c.val = o + l.val) :
    block (F := Ideal) f h (tile w 0 K o n h1) (tile g 0 G o n h2) (tile g G G o n h3) (ix2 i l) = lin hD hG hH h w g i c :=
  block_apply f hK hD hG hH h w g _ _ _ l c (fun k => tile_apply w 0 K o n h1 k l k c (by omega) hc)
    (fun k => tile_apply g 0 G o n h2 k l _ c (by simp) hc) (fun k => tile_apply g G G o n h3 k l _ c rfl hc) i

theorem qkv_apply (h : FVec Ideal S8x576 .bf16) (w : Vec Ideal S1x288x960 .i8) (g : Vec Ideal S1x18x960 .bf16) (i : Fin 8) (c : Fin 960) :
    qkv (F := Ideal) h w g (ix2 i c) = lin (K := 288) (G := 9) rfl rfl rfl h w g i c :=
  cols (fun i c => lin (K := 288) (G := 9) rfl rfl rfl h w g i c) _ _
    (.cons (piece facts_288_256 rfl rfl rfl rfl h w g 0 _ _ _) (.cons (piece facts_288_256 rfl rfl rfl rfl h w g 256 _ _ _)
      (.cons (piece facts_288_256 rfl rfl rfl rfl h w g 512 _ _ _) (.cons (piece facts_288_192 rfl rfl rfl rfl h w g 768 _ _ _) (.nil _))))) i c

theorem proj_apply (h : FVec Ideal S8x576 .bf16) (w : Vec Ideal S1x288x576 .i8) (g : Vec Ideal S1x18x576 .bf16) (i : Fin 8) (c : Fin 576) :
    proj (F := Ideal) h w g (ix2 i c) = lin (K := 288) (G := 9) rfl rfl rfl h w g i c :=
  cols (fun i c => lin (K := 288) (G := 9) rfl rfl rfl h w g i c) _ _
    (.cons (piece facts_288_256 rfl rfl rfl rfl h w g 0 _ _ _) (.cons (piece facts_288_256 rfl rfl rfl rfl h w g 256 _ _ _)
      (.cons (piece facts_288_64 rfl rfl rfl rfl h w g 512 _ _ _) (.nil _)))) i c

theorem down_apply (h : FVec Ideal S8x1536 .bf16) (w : Vec Ideal S1x768x576 .i8) (g : Vec Ideal S1x48x576 .bf16) (i : Fin 8) (c : Fin 576) :
    down (F := Ideal) h w g (ix2 i c) = lin (K := 768) (G := 24) rfl rfl rfl h w g i c :=
  cols (fun i c => lin (K := 768) (G := 24) rfl rfl rfl h w g i c) _ _
    (.cons (piece facts_768_256 rfl rfl rfl rfl h w g 0 _ _ _) (.cons (piece facts_768_256 rfl rfl rfl rfl h w g 256 _ _ _)
      (.cons (piece facts_768_64 rfl rfl rfl rfl h w g 512 _ _ _) (.nil _)))) i c

theorem gateUpPiece_apply (h : FVec Ideal S8x576 .bf16) (w : Vec Ideal S1x288x3072 .i8) (g : Vec Ideal S1x18x3072 .bf16) (p : Fin 12) (i : Fin 8) (l : Fin 256)
    (c : Fin 3072) (hc : c.val = 256 * p.val + l.val) : gateUpPiece (F := Ideal) h w g p (ix2 i l) = lin (K := 288) (G := 9) rfl rfl rfl h w g i c :=
  piece facts_288_256 rfl rfl rfl rfl h w g (256 * p.val) _ _ _ i l c hc

theorem gateUp_apply (h : FVec Ideal S8x576 .bf16) (w : Vec Ideal S1x288x3072 .i8) (g : Vec Ideal S1x18x3072 .bf16) (i : Fin 8) (c : Fin 3072) :
    gateUp (F := Ideal) h w g (ix2 i c) = lin (K := 288) (G := 9) rfl rfl rfl h w g i c :=
  cols (fun i c => lin (K := 288) (G := 9) rfl rfl rfl h w g i c) _ _
    (.cons (gateUpPiece_apply h w g 0) (.cons (gateUpPiece_apply h w g 1) (.cons (gateUpPiece_apply h w g 2) (.cons (gateUpPiece_apply h w g 3)
      (.cons (gateUpPiece_apply h w g 4) (.cons (gateUpPiece_apply h w g 5) (.cons (gateUpPiece_apply h w g 6) (.cons (gateUpPiece_apply h w g 7)
        (.cons (gateUpPiece_apply h w g 8) (.cons (gateUpPiece_apply h w g 9) (.cons (gateUpPiece_apply h w g 10) (.cons (gateUpPiece_apply h w g 11)
          (.nil _))))))))))))) i c

end Cert.Layer
-- ==== Proof.Spec.lean ====
/- What one token's attention is over exact reals: scores against cached and new positions, their weights, the
   weighted mean of the values. -/
module

public import proofs.«01_k».proof.Proof.Block

@[expose] public section

set_option maxRecDepth 16384

noncomputable section

namespace Cert.Spec

open Idealize.ShloMosaic Cert.Block

/-- Token `t` of sequence `b` among the eight. -/
abbrev tok (b : Fin 4) (t : Fin 2) : Fin 8 := ⟨2 * b.val + t.val, by omega⟩

/-- Token `j` belongs to token `i`'s sequence and is not later. -/
abbrev sees (i j : Fin 8) : Prop := j.val / 2 = i.val / 2 ∧ j.val ≤ i.val

/-- The scores' factor. -/
abbrev factor : EReal := Ideal.ofBits .f32 0x3E38AA3B#32

/-- The score against a cached position. -/
def scoreOld (n : BitVec 32) (q : Fin 64 → EReal) (K : Fin 64 → Fin 1024 → EReal) (ks : Fin 1024 → EReal) (s : Fin 1024) : EReal :=
  Scalar.select (Scalar.cmpi .slt (BitVec.ofNat 32 s.val) n) ((∑ d : Fin 64, q d * K d s) * ks s * factor) (⊥ : EReal)

/-- The score against a new position. -/
def scoreNew (i : Fin 8) (q : Fin 64 → EReal) (kn : Fin 8 → Fin 64 → EReal) (kns : Fin 8 → EReal) (j : Fin 8) : EReal :=
  if sees i j then (∑ d : Fin 64, q d * kn j d) * kns j * factor else ⊥

/-- The largest score, rounded up. -/
def peak {n : ℕ} (so : Fin 1024 → EReal) (sn : Fin n → EReal) : EReal :=
  Ideal.liftRound Int.ceil (max (Finset.univ.fold max ⊥ so) (Finset.univ.fold max ⊥ sn))

/-- The weighted mean of the values. -/
def mean {n : ℕ} (so : Fin 1024 → EReal) (sn : Fin n → EReal) (m : EReal) (V : Fin 1024 → EReal) (vs : Fin 1024 → EReal) (vn : Fin n → EReal)
    (vns : Fin n → EReal) : EReal :=
  Ideal.div ((∑ s, Ideal.exp2 (so s - m) * vs s * V s) + ∑ j, Ideal.exp2 (sn j - m) * vns j * vn j)
    ((∑ s, Ideal.exp2 (so s - m)) + ∑ j, Ideal.exp2 (sn j - m))

/-- Only the two tokens of the own sequence contribute to a sum. -/
theorem sum_own (b : Fin 4) (f : Fin 8 → EReal) (h : ∀ j : Fin 8, j.val / 2 ≠ b.val → f j = 0) : ∑ j, f j = ∑ t : Fin 2, f (tok b t) := by
  have e : ∀ b : Fin 4, (∀ j : Fin 8, j.val / 2 ≠ b.val → f j = 0) → ∑ j, f j = ∑ t : Fin 2, f (tok b t) := by
    intro b h
    rw [Fin.sum_univ_two, Fin.sum_univ_eight]
    match b, h with
    | ⟨0, _⟩, h => rw [h 2 (show (1 : ℕ) ≠ 0 by decide), h 3 (show (1 : ℕ) ≠ 0 by decide), h 4 (show (2 : ℕ) ≠ 0 by decide), h 5 (show (2 : ℕ) ≠ 0 by decide), h 6 (show (3 : ℕ) ≠ 0 by decide), h 7 (show (3 : ℕ) ≠ 0 by decide)]; simp only [add_zero]; rfl
    | ⟨1, _⟩, h => rw [h 0 (show (0 : ℕ) ≠ 1 by decide), h 1 (show (0 : ℕ) ≠ 1 by decide), h 4 (show (2 : ℕ) ≠ 1 by decide), h 5 (show (2 : ℕ) ≠ 1 by decide), h 6 (show (3 : ℕ) ≠ 1 by decide), h 7 (show (3 : ℕ) ≠ 1 by decide)]; simp only [add_zero, zero_add]; rfl
    | ⟨2, _⟩, h => rw [h 0 (show (0 : ℕ) ≠ 2 by decide), h 1 (show (0 : ℕ) ≠ 2 by decide), h 2 (show (1 : ℕ) ≠ 2 by decide), h 3 (show (1 : ℕ) ≠ 2 by decide), h 6 (show (3 : ℕ) ≠ 2 by decide), h 7 (show (3 : ℕ) ≠ 2 by decide)]; simp only [add_zero, zero_add]; rfl
    | ⟨3, _⟩, h => rw [h 0 (show (0 : ℕ) ≠ 3 by decide), h 1 (show (0 : ℕ) ≠ 3 by decide), h 2 (show (1 : ℕ) ≠ 3 by decide), h 3 (show (1 : ℕ) ≠ 3 by decide), h 4 (show (2 : ℕ) ≠ 3 by decide), h 5 (show (2 : ℕ) ≠ 3 by decide)]; simp only [add_zero, zero_add]; rfl
  exact e b h

/-- Only the two tokens of the own sequence contribute to a maximum. -/
theorem max_own (b : Fin 4) (f : Fin 8 → EReal) (h : ∀ j : Fin 8, j.val / 2 ≠ b.val → f j = ⊥) :
    Finset.univ.fold max ⊥ f = Finset.univ.fold max ⊥ fun t : Fin 2 => f (tok b t) := by
  apply le_antisymm
  · rw [Finset.fold_max_le]
    refine ⟨bot_le, fun j _ => ?_⟩
    by_cases hj : j.val / 2 = b.val
    · rw [Finset.le_fold_max]
      right
      refine ⟨⟨j.val % 2, Nat.mod_lt _ (by decide)⟩, Finset.mem_univ _, le_of_eq (congrArg f (Fin.ext ?_))⟩
      show j.val = 2 * b.val + j.val % 2
      omega
    · rw [h j hj]; exact bot_le
  · rw [Finset.fold_max_le]
    refine ⟨bot_le, fun t _ => ?_⟩
    rw [Finset.le_fold_max]
    exact .inr ⟨tok b t, Finset.mem_univ _, le_rfl⟩

/-- What lies at minus infinity weighs nothing. -/
theorem exp2_masked (m : EReal) : Ideal.exp2 (⊥ - m) = 0 := by
  rw [sub_eq_add_neg, EReal.bot_add]; rfl

/-- The mean over all eight tokens is the mean over the own sequence's two. -/
theorem mean_own (b : Fin 4) (so : Fin 1024 → EReal) (sn : Fin 8 → EReal) (h : ∀ j : Fin 8, j.val / 2 ≠ b.val → sn j = ⊥)
    (V vs : Fin 1024 → EReal) (vn vns : Fin 8 → EReal) :
    mean so sn (peak so sn) V vs vn vns
      = mean so (fun t => sn (tok b t)) (peak so fun t => sn (tok b t)) V vs (fun t => vn (tok b t)) (fun t => vns (tok b t)) := by
  have em : peak so sn = peak so fun t => sn (tok b t) := by unfold peak; rw [max_own b sn h]
  rw [em]
  unfold mean
  rw [sum_own b _ (fun j hj => by rw [h j hj, exp2_masked, zero_mul, zero_mul]), sum_own b (fun j => Ideal.exp2 (sn j - _)) (fun j hj => by rw [h j hj, exp2_masked])]

theorem bot_bits : (Ideal.ofBits .f32 0xFF800000#32 : EReal) = ⊥ := by
  simp [Ideal.ofBits, Ideal.ieee]

/-- The factor is an eighth of the binary logarithm of `e`, as rounded. -/
theorem factor_eq (x : EReal) : x * Ideal.ofBits .f32 0x3E000000#32 * Ideal.ofBits .f32 0x3FB8AA3B#32 = x * factor := by
  rw [mul_assoc]
  congr 1
  simp [factor, Ideal.ofBits, Ideal.ieee, -EReal.coe_mul]
  rw [← EReal.coe_mul]
  norm_num

end Cert.Spec
-- ==== Proof.Clip.lean ====
/- Rounded and clipped numbers are small integers, which the conversion to a byte and back keeps. -/
module

public import Idealize.ShloMosaic.Lib.Pointwise

@[expose] public section

namespace Cert.Clip

open Idealize.ShloMosaic

theorem coe_min (a b : ℝ) : min (a : EReal) (b : EReal) = ((min a b : ℝ) : EReal) := (EReal.coe_strictMono.monotone.map_min).symm
theorem coe_max (a b : ℝ) : max (a : EReal) (b : EReal) = ((max a b : ℝ) : EReal) := (EReal.coe_strictMono.monotone.map_max).symm

/-- A rounded number clipped to `-127..127` is an integer of that range. -/
theorem clip_int (x : EReal) : ∃ n : ℤ, -127 ≤ n ∧ n ≤ 127 ∧
    min ((127 : ℝ) : EReal) (max ((-127 : ℝ) : EReal) (Ideal.liftRound Ideal.roundHalfEven x)) = ((n : ℝ) : EReal) := by
  induction x with
  | bot =>
    refine ⟨-127, by norm_num, by norm_num, ?_⟩
    show min ((127 : ℝ) : EReal) (max ((-127 : ℝ) : EReal) ⊥) = _
    rw [max_bot_right, coe_min]; norm_num
  | top =>
    refine ⟨127, by norm_num, by norm_num, ?_⟩
    show min ((127 : ℝ) : EReal) (max ((-127 : ℝ) : EReal) ⊤) = _
    rw [max_top_right, min_top_right]; norm_num
  | coe r =>
    refine ⟨min 127 (max (-127) (Ideal.roundHalfEven r)), by omega, by omega, ?_⟩
    show min ((127 : ℝ) : EReal) (max ((-127 : ℝ) : EReal) (((Ideal.roundHalfEven r : ℤ) : ℝ) : EReal)) = _
    rw [coe_max, coe_min]
    push_cast; rfl

/-- To a byte and back. -/
theorem fptosi_int (n : ℤ) (h1 : -127 ≤ n) (h2 : n ≤ 127) : ((Ideal.fptosi 8 ((n : ℝ) : EReal)).toInt : ℝ) = (n : ℝ) := by
  have e : Ideal.toIntClamped (-(2 ^ (8 - 1) : Nat)) ((2 ^ (8 - 1) : Nat) - 1) ((n : ℝ) : EReal) = n := by
    rw [Ideal.toIntClamped_coe]
    simp only [Int.floor_intCast, Int.ceil_intCast, ite_self]
    norm_num
    omega
  unfold Ideal.fptosi
  rw [e, BitVec.toInt_ofInt_eq_self (by decide) (by norm_num; omega) (by norm_num; omega)]

/-- The clipped number as a byte is the clipped number. -/
theorem byte_clip (x : EReal) :
    (((Ideal.fptosi 8 (min ((127 : ℝ) : EReal) (max ((-127 : ℝ) : EReal) (Ideal.liftRound Ideal.roundHalfEven x)))).toInt : ℝ) : EReal)
      = min ((127 : ℝ) : EReal) (max ((-127 : ℝ) : EReal) (Ideal.liftRound Ideal.roundHalfEven x)) := by
  obtain ⟨n, h1, h2, e⟩ := clip_int x
  rw [e, fptosi_int n h1 h2]

end Cert.Clip
-- ==== Proof.Match1.lean ====
/- The kernel's rotation and quantisation against the reference's, entry by entry. -/
module

public import proofs.«01_k».proof.Proof.Values1
public import proofs.«01_k».proof.Proof.RefLayer
public import proofs.«01_k».proof.Proof.Spec
public import proofs.«01_k».proof.Proof.Clip

@[expose] public section

set_option maxRecDepth 16384

noncomputable section

namespace Cert.Match

open Idealize.ShloMosaic Idealize.ShloMosaic.TcCoe Idealize.SL.Sem
open Cert.KernelIdeal Cert.KernelIdeal.Gen Cert.Block Cert.Cat Cert.Spec Cert.Clip

/-- The tables of angles, the kernel's next to the reference's. -/
structure Angles (co4 si4 : Vec Ideal S8x128 .f32) (co si : Vec Ideal Cert.ReferenceIdeal.S4x2x32 .f32) : Prop where
  co : ∀ (b : Fin 4) (t : Fin 2) (l : Fin 128), co4 (ix2 (tok b t) l) = co (ix3 b t ⟨l.val % 32, Nat.mod_lt _ (by decide)⟩)
  si : ∀ (b : Fin 4) (t : Fin 2) (l : Fin 128), si4 (ix2 (tok b t) l)
    = if l.val % 64 < 32 then -(si (ix3 b t ⟨l.val % 32, Nat.mod_lt _ (by decide)⟩) : EReal) else si (ix3 b t ⟨l.val % 32, Nat.mod_lt _ (by decide)⟩)

theorem first_apply : ∀ (i : Fin 8) (l : Fin 128), Layer.firstHalf (ix2 i l) = if l.val % 64 < 32 then 1#1 else 0#1 := by decide +kernel

/-- Column `c` of the rotated rows. -/
def turned (y : FVec Ideal S8x960 .f32) (co si : Vec Ideal S8x128 .f32) (i : Fin 8) (c : Fin 768) : EReal :=
  y (ix2 i ⟨c.val, by omega⟩) * co (ix2 i ⟨c.val % 128, Nat.mod_lt _ (by decide)⟩)
    + (if c.val % 64 < 32 then y (ix2 i ⟨c.val + 32, by omega⟩) else y (ix2 i ⟨c.val - 32, by omega⟩)) * si (ix2 i ⟨c.val % 128, Nat.mod_lt _ (by decide)⟩)

/-- Equal indices, equal entries. -/
theorem at2 {α : Type} {a b : ℕ} (y : (Mat a b).Idx → α) {i i' : Fin a} {j j' : Fin b} (hi : i.val = i'.val) (hj : j.val = j'.val) :
    y (ix2 i j) = y (ix2 i' j') := by
  obtain rfl := Fin.ext hi
  obtain rfl := Fin.ext hj
  rfl
theorem at3 {α : Type} {a b c : ℕ} (y : (⟨3, ![a, b, c]⟩ : Shape).Idx → α) {i : Fin a} {j : Fin b} {k k' : Fin c} (hk : k.val = k'.val) :
    y (ix3 i j k) = y (ix3 i j k') := by
  obtain rfl := Fin.ext hk
  rfl

theorem rotated_apply (y : FVec Ideal S8x960 .f32) (co si : Vec Ideal S8x128 .f32) (p : Fin 6) (i : Fin 8) (l : Fin 128) (c : Fin 768)
    (hc : c.val = 128 * p.val + l.val) : Layer.rotated (F := Ideal) y co si p (ix2 i l) = turned y co si i c := by
  have hl := l.isLt
  pointwise [Layer.rotated, Layer.rotate]
  rw [first_apply]
  unfold turned
  congr 1
  · exact congrArg₂ (· * ·) (at2 y rfl (by simp only [hc])) (at2 co rfl (by simp only [hc]; omega))
  · refine congrArg₂ (· * ·) ?_ (at2 si rfl (by simp only [hc]; omega))
    by_cases h : l.val % 64 < 32
    · rw [if_pos h, if_pos (by omega)]
      exact at2 y rfl (by simp only [hc]; omega)
    · rw [if_neg h, if_neg (by omega)]
      exact at2 y rfl (by simp only [hc]; omega)

theorem rope_apply (y : FVec Ideal S8x960 .f32) (co si : Vec Ideal S8x128 .f32) (i : Fin 8) (c : Fin 768) :
    Layer.rope (F := Ideal) y co si (ix2 i c) = turned y co si i c :=
  cols (turned y co si) _ _ (.cons (rotated_apply y co si 0) (.cons (rotated_apply y co si 1) (.cons (rotated_apply y co si 2)
    (.cons (rotated_apply y co si 3) (.cons (rotated_apply y co si 4) (.cons (rotated_apply y co si 5) (.nil _))))))) i c

section Heads
variable {co4 si4 : Vec Ideal S8x128 .f32} {co si : Vec Ideal Cert.ReferenceIdeal.S4x2x32 .f32} (A : Angles co4 si4 co si)
include A

/-- A rotated column in the reference's terms: `o` is the head's first column. -/
theorem turned_eq (y : FVec Ideal S8x960 .f32) (b : Fin 4) (t : Fin 2) (o : ℕ) (ho : o % 64 = 0) (d : Fin 64) (c : Fin 768) (hc : c.val = o + d.val)
    (hb : o + 64 ≤ 960) :
    turned y co4 si4 (tok b t) c = if h : d.val < 32 then
      (y (ix2 (tok b t) ⟨o + d.val, by omega⟩) * co (ix3 b t ⟨d.val, h⟩) - y (ix2 (tok b t) ⟨o + (32 + d.val), by omega⟩) * si (ix3 b t ⟨d.val, h⟩) : EReal)
    else (y (ix2 (tok b t) ⟨o + (32 + (d.val - 32)), by omega⟩) * co (ix3 b t ⟨d.val - 32, by omega⟩)
      + y (ix2 (tok b t) ⟨o + (d.val - 32), by omega⟩) * si (ix3 b t ⟨d.val - 32, by omega⟩) : EReal) := by
  have hd := d.isLt
  have e : c.val % 64 = d.val := by omega
  unfold turned
  rw [A.co, A.si, e]
  by_cases h : d.val < 32
  · rw [dif_pos h, if_pos h, if_pos (by show c.val % 128 % 64 < 32; omega), sub_eq_add_neg, mul_neg]
    exact congrArg₂ (· + ·) (congrArg₂ (· * ·) (at2 y rfl (by simp only [hc])) (at3 co (by show c.val % 128 % 32 = d.val; omega)))
      (congrArg Neg.neg (congrArg₂ (· * ·) (at2 y rfl (by simp only [hc]; omega)) (at3 si (by show c.val % 128 % 32 = d.val; omega))))
  · rw [dif_neg h, if_neg h, if_neg (by show ¬ c.val % 128 % 64 < 32; omega)]
    exact congrArg₂ (· + ·) (congrArg₂ (· * ·) (at2 y rfl (by simp only [hc]; omega)) (at3 co (by show c.val % 128 % 32 = d.val - 32; omega)))
      (congrArg₂ (· * ·) (at2 y rfl (by simp only [hc]; omega)) (at3 si (by show c.val % 128 % 32 = d.val - 32; omega)))

theorem query_eq (y : FVec Ideal S8x960 .f32) (h : Fin 9) (b : Fin 4) (t : Fin 2) (d : Fin 64) :
    Layer.queryHead (F := Ideal) (Layer.rope y co4 si4) h (ix2 (tok b t) d) = RefLayer.queries (F := Ideal) y co si (ix4 b t h d) := by
  have hd := d.isLt
  have e : Layer.queryHead (F := Ideal) (Layer.rope y co4 si4) h (ix2 (tok b t) d) = Layer.rope y co4 si4 (ix2 (tok b t) ⟨64 * h.val + d.val, by omega⟩) := by
    pointwise [Layer.queryHead]
  rw [e, rope_apply, turned_eq A y b t (h.val * 64) (by omega) d _ (by show 64 * h.val + d.val = _; omega) (by omega)]
  pointwise [RefLayer.queries, RefLayer.split]
  have eb : (⟨b.val * 2 + t.val, by omega⟩ : Fin 8) = tok b t := Fin.ext (by show b.val * 2 + t.val = 2 * b.val + t.val; omega)
  simp only [eb]

theorem key_eq (y : FVec Ideal S8x960 .f32) (k : Fin 3) (b : Fin 4) (t : Fin 2) (d : Fin 64) :
    Layer.keyHead (F := Ideal) (Layer.rope y co4 si4) k (ix2 (tok b t) d) = RefLayer.keys (F := Ideal) y co si (ix4 b t k d) := by
  have hd := d.isLt
  have e : Layer.keyHead (F := Ideal) (Layer.rope y co4 si4) k (ix2 (tok b t) d) = Layer.rope y co4 si4 (ix2 (tok b t) ⟨576 + 64 * k.val + d.val, by omega⟩) := by
    pointwise [Layer.keyHead]
  rw [e, rope_apply, turned_eq A y b t ((9 + k.val) * 64) (by omega) d _ (by show 576 + 64 * k.val + d.val = _; omega) (by omega)]
  pointwise [RefLayer.keys, RefLayer.split]
  have eb : (⟨b.val * 2 + t.val, by omega⟩ : Fin 8) = tok b t := Fin.ext (by show b.val * 2 + t.val = 2 * b.val + t.val; omega)
  simp only [eb]

end Heads

theorem value_eq (y : FVec Ideal S8x960 .f32) (k : Fin 3) (b : Fin 4) (t : Fin 2) (d : Fin 64) :
    Layer.valueHead (F := Ideal) y k (ix2 (tok b t) d) = RefLayer.values (F := Ideal) y (ix4 b t k d) := by
  pointwise [Layer.valueHead, RefLayer.values, RefLayer.split]
  exact at2 y (by show 2 * b.val + t.val = b.val * 2 + t.val; omega) (by show 768 + 64 * k.val + d.val = (12 + k.val) * 64 + d.val; omega)

/-! ## Quantisation -/

/-- Three heads of the kernel next to the reference's. -/
def Same (x : Fin 3 → FVec Ideal S8x64 .f32) (r : FVec Ideal Cert.ReferenceIdeal.S4x2x3x64 .f32) : Prop :=
  ∀ (k : Fin 3) (b : Fin 4) (t : Fin 2) (d : Fin 64), x k (ix2 (tok b t) d) = r (ix4 b t k d)

section Codes
variable {x : Fin 3 → FVec Ideal S8x64 .f32} {r : FVec Ideal Cert.ReferenceIdeal.S4x2x3x64 .f32} (S : Same x r)
include S

theorem scale_eq (k : Fin 3) (b : Fin 4) (t : Fin 2) : Layer.scale (F := Ideal) (x k) (ix2 (tok b t) 0) = RefLayer.scale (F := Ideal) r (ix3 b t k) := by
  pointwise [Layer.scale, RefLayer.scale]
  simp only [S k b t]

theorem byte_eq (k : Fin 3) (b : Fin 4) (t : Fin 2) (d : Fin 64) :
    FloatOps.fptosi (F := Ideal) 8 (Layer.codes (F := Ideal) (x k) (ix2 (tok b t) d)) = RefLayer.codes (F := Ideal) r (ix4 b t k d) := by
  pointwise [Layer.codes, RefLayer.codes]
  rw [S k b t, scale_eq S k b t]

theorem code_eq (k : Fin 3) (b : Fin 4) (t : Fin 2) (d : Fin 64) :
    FloatOps.sitofp (F := Ideal) .bf16 (RefLayer.codes (F := Ideal) r (ix4 b t k d)) = Layer.codes (F := Ideal) (x k) (ix2 (tok b t) d) := by
  rw [← byte_eq S]
  pointwise [Layer.codes]
  have h1 : (((127#32 : BitVec 32).toInt : ℝ) : EReal) = ((127 : ℝ) : EReal) := by
    rw [show (127#32 : BitVec 32).toInt = 127 by decide]; norm_num
  have h2 : (((4294967169#32 : BitVec 32).toInt : ℝ) : EReal) = ((-127 : ℝ) : EReal) := by
    rw [show (4294967169#32 : BitVec 32).toInt = -127 by decide]; norm_num
  simp only [h1, h2]
  exact byte_clip _

end Codes

end Cert.Match
-- ==== Proof.Heads.lean ====
/- The kernel's attention, entry by entry: a row's weighted mean of the values. -/
module

public import proofs.«01_k».proof.Proof.Layer
public import proofs.«01_k».proof.Proof.Spec
public import proofs.«01_k».proof.Proof.Cat
public import Idealize.ShloMosaic.Lib.Pipeline.ValueKit

@[expose] public section

set_option maxRecDepth 16384

noncomputable section

namespace Cert.Layer

open Idealize.ShloMosaic Idealize.ShloMosaic.TcCoe Idealize.SL.Sem
open Cert.KernelIdeal Cert.KernelIdeal.Gen Cert.Block Cert.Cat Cert.Spec

/-- The sequence of row `r`. -/
abbrev seqOf (r : Fin 72) : Fin 4 := ⟨r.val % 8 / 2, by omega⟩
/-- The token of row `r`. -/
abbrev tokOf (r : Fin 72) : Fin 8 := ⟨r.val % 8, by omega⟩
/-- The query head of row `r`. -/
abbrev headOf (r : Fin 72) : Fin 9 := ⟨r.val / 8, by omega⟩
/-- The key head of row `r`. -/
abbrev keyOf (r : Fin 72) : Fin 3 := ⟨r.val / 24, by omega⟩
/-- The key head of lane `c`. -/
abbrev laneKey (c : Fin 192) : Fin 3 := ⟨c.val / 64, by omega⟩
/-- The place of lane `c` in its head. -/
abbrev lane (c : Fin 192) : Fin 64 := ⟨c.val % 64, Nat.mod_lt _ (by decide)⟩
/-- Lane `d` of key head `k`. -/
abbrev laneAt (k : Fin 3) (d : Fin 64) : Fin 192 := ⟨64 * k.val + d.val, by omega⟩

/-! ## Lanes -/

theorem sum_lanes (k : Fin 3) (f : Fin 192 → EReal) (h : ∀ c : Fin 192, c.val / 64 ≠ k.val → f c = 0) : ∑ c, f c = ∑ d : Fin 64, f (laneAt k d) := by
  symm
  apply Finset.sum_of_injOn (fun d => laneAt k d)
  · intro a _ b _ e
    have := congrArg Fin.val e
    exact Fin.ext (by simp only at this; omega)
  · intro _ _; exact Finset.mem_coe.2 (Finset.mem_univ _)
  · intro c _ hc
    refine h c fun e => hc ?_
    refine ⟨⟨c.val % 64, Nat.mod_lt _ (by decide)⟩, Finset.mem_coe.2 (Finset.mem_univ _), Fin.ext ?_⟩
    show 64 * k.val + c.val % 64 = c.val
    omega
  · intro _ _; rfl

theorem zero_bits : (Ideal.ofBits .f32 0x00000000#32 : EReal) = 0 := by simp [Ideal.ofBits, Ideal.ieee]

theorem lanes0_apply (x : FVec Ideal S8x64 .f32) (i : Fin 8) (c : Fin 192) :
    lanes0 (F := Ideal) x (ix2 i c) = if c.val / 64 = 0 then x (ix2 i (lane c)) else (0 : EReal) :=
  cols (fun i c => if c.val / 64 = 0 then x (ix2 i (lane c)) else (0 : EReal)) _ _
    (.cons (fun i l c h => by
        rw [if_pos (by omega)]
        exact congrArg x (congrArg (ix2 i) (Fin.ext (by show l.val = c.val % 64; omega))))
      (.cons (fun i l c h => by rw [if_neg (by omega)]; exact zero_bits) (.nil _))) i c

theorem lanes1_apply (x : FVec Ideal S8x64 .f32) (i : Fin 8) (c : Fin 192) :
    lanes1 (F := Ideal) x (ix2 i c) = if c.val / 64 = 1 then x (ix2 i (lane c)) else (0 : EReal) :=
  cols (fun i c => if c.val / 64 = 1 then x (ix2 i (lane c)) else (0 : EReal)) _ _
    (.cons (fun i l c h => by rw [if_neg (by omega)]; exact zero_bits)
      (.cons (fun i l c h => by
        rw [if_pos (by omega)]
        exact congrArg x (congrArg (ix2 i) (Fin.ext (by show l.val = c.val % 64; omega))))
      (.cons (fun i l c h => by rw [if_neg (by omega)]; exact zero_bits) (.nil _)))) i c

theorem lanes2_apply (x : FVec Ideal S8x64 .f32) (i : Fin 8) (c : Fin 192) :
    lanes2 (F := Ideal) x (ix2 i c) = if c.val / 64 = 2 then x (ix2 i (lane c)) else (0 : EReal) :=
  cols (fun i c => if c.val / 64 = 2 then x (ix2 i (lane c)) else (0 : EReal)) _ _
    (.cons (fun i l c h => by rw [if_neg (by omega)]; exact zero_bits)
      (.cons (fun i l c h => by
        rw [if_pos (by omega)]
        exact congrArg x (congrArg (ix2 i) (Fin.ext (by show l.val = c.val % 64; omega)))) (.nil _))) i c

/-- Row `r` of the queries. -/
def queryRow (z : FVec Ideal S8x768 .f32) (r : Fin 72) (c : Fin 192) : EReal :=
  if c.val / 64 = r.val / 24 then queryHead z (headOf r) (ix2 (tokOf r) (lane c)) else (0 : EReal)

/-- One head's rows among the queries. -/
theorem queryRow_of (z : FVec Ideal S8x768 .f32) (h : Fin 9) (k : ℕ) (hk : k = h.val / 3) (l : Fin 8) (c : Fin 192) (r : Fin 72) (hr : r.val = 8 * h.val + l.val) :
    (if c.val / 64 = k then queryHead z h (ix2 l (lane c)) else (0 : EReal)) = queryRow z r c := by
  obtain rfl : headOf r = h := Fin.ext (by show r.val / 8 = h.val; omega)
  obtain rfl : tokOf r = l := Fin.ext (by show r.val % 8 = l.val; omega)
  subst hk
  unfold queryRow
  rw [show r.val / 8 / 3 = r.val / 24 by omega]

theorem queries_apply (z : FVec Ideal S8x768 .f32) (r : Fin 72) (c : Fin 192) : queries (F := Ideal) z (ix2 r c) = queryRow z r c :=
  Cat.rows (queryRow z) _ (by exact concatenates_S8x192_S8x192_S8x192_S8x192_S8x192_S8x192_S8x192_S8x192_S8x192_S72x192_d0)
    (.cons (fun l i c h => (lanes0_apply _ l i).trans (queryRow_of z 0 0 rfl l i c h))
    (.cons (fun l i c h => (lanes0_apply _ l i).trans (queryRow_of z 1 0 rfl l i c h))
    (.cons (fun l i c h => (lanes0_apply _ l i).trans (queryRow_of z 2 0 rfl l i c h))
    (.cons (fun l i c h => (lanes1_apply _ l i).trans (queryRow_of z 3 1 rfl l i c h))
    (.cons (fun l i c h => (lanes1_apply _ l i).trans (queryRow_of z 4 1 rfl l i c h))
    (.cons (fun l i c h => (lanes1_apply _ l i).trans (queryRow_of z 5 1 rfl l i c h))
    (.cons (fun l i c h => (lanes2_apply _ l i).trans (queryRow_of z 6 2 rfl l i c h))
    (.cons (fun l i c h => (lanes2_apply _ l i).trans (queryRow_of z 7 2 rfl l i c h))
    (.cons (fun l i c h => (lanes2_apply _ l i).trans (queryRow_of z 8 2 rfl l i c h)) (.nil _)))))))))) r c

theorem codes3_apply (x : Fin 3 → FVec Ideal S8x64 .f32) (j : Fin 8) (c : Fin 192) :
    codes3 (F := Ideal) x (ix2 j c) = codes (x (laneKey c)) (ix2 j (lane c)) :=
  cols (fun j c => codes (x (laneKey c)) (ix2 j (lane c))) _ _
    (.cons (fun i l c h => by
      rw [show laneKey c = 0 from Fin.ext (by show c.val / 64 = 0; omega), show lane c = l from Fin.ext (by show c.val % 64 = l.val; omega)])
    (.cons (fun i l c h => by
      rw [show laneKey c = 1 from Fin.ext (by show c.val / 64 = 1; omega), show lane c = l from Fin.ext (by show c.val % 64 = l.val; omega)])
    (.cons (fun i l c h => by
      rw [show laneKey c = 2 from Fin.ext (by show c.val / 64 = 2; omega), show lane c = l from Fin.ext (by show c.val % 64 = l.val; omega)])
    (.nil _)))) j c

theorem spread_apply (s : FVec Ideal S8x1 .f32) (i : Fin 24) (d : Fin 8) : spread (F := Ideal) s (ix2 i d) = s (ix2 d 0) := by
  pointwise [spread]

theorem newScales_apply (x : Fin 3 → FVec Ideal S8x64 .f32) (r : Fin 72) (j : Fin 8) :
    newScales (F := Ideal) x (ix2 r j) = scale (x (keyOf r)) (ix2 j 0) :=
  Cat.rows (fun r j => scale (x (keyOf r)) (ix2 j 0)) _ _
    (.cons (fun l i c h => by rw [show keyOf c = 0 from Fin.ext (by show c.val / 24 = 0; omega)]; exact spread_apply _ l i)
    (.cons (fun l i c h => by rw [show keyOf c = 1 from Fin.ext (by show c.val / 24 = 1; omega)]; exact spread_apply _ l i)
    (.cons (fun l i c h => by rw [show keyOf c = 2 from Fin.ext (by show c.val / 24 = 2; omega)]; exact spread_apply _ l i)
    (.nil _)))) r j

theorem cachedScale_apply (x : Vec Ideal S1x3x4x1024 .f32) (k : Fin 3) (b : Fin 4) (r : Fin 24) (s : Fin 1024) :
    cachedScale (F := Ideal) x k b (ix2 r s) = x (ix4 0 k b s) := by
  pointwise [cachedScale]

theorem cachedScales_apply (x : Vec Ideal S1x3x4x1024 .f32) (b : Fin 4) (r : Fin 72) (s : Fin 1024) :
    cachedScales (F := Ideal) x b (ix2 r s) = x (ix4 0 (keyOf r) b s) :=
  Cat.rows (fun r s => x (ix4 0 (keyOf r) b s)) _ _
    (.cons (fun l i c h => by rw [show keyOf c = 0 from Fin.ext (by show c.val / 24 = 0; omega)]; exact cachedScale_apply x 0 b l i)
    (.cons (fun l i c h => by rw [show keyOf c = 1 from Fin.ext (by show c.val / 24 = 1; omega)]; exact cachedScale_apply x 1 b l i)
    (.cons (fun l i c h => by rw [show keyOf c = 2 from Fin.ext (by show c.val / 24 = 2; omega)]; exact cachedScale_apply x 2 b l i)
    (.nil _)))) r s

/-! ## Sequences -/

theorem isSeq_apply (v : Fin 4) (r : Fin 72) : isSeq (BitVec.ofNat 32 v.val) (ix2 r 0) = if r.val % 8 / 2 = v.val then 1#1 else 0#1 := by
  revert v r; decide +kernel

theorem seen_apply (r : Fin 72) (j : Fin 8) : seen (ix2 r j) = if j.val / 2 = r.val % 8 / 2 ∧ j.val ≤ r.val % 8 then 1#1 else 0#1 := by
  revert r j; decide +kernel

/-- A choice by sequence. -/
theorem choose (r : Fin 72) {α : Type} (y : Fin 4 → α) :
    Scalar.select (isSeq 0#32 (ix2 r 0)) (y 0) (Scalar.select (isSeq 1#32 (ix2 r 0)) (y 1) (Scalar.select (isSeq 2#32 (ix2 r 0)) (y 2) (y 3)))
      = y (seqOf r) := by
  rw [show isSeq 0#32 (ix2 r 0) = _ from isSeq_apply 0 r, show isSeq 1#32 (ix2 r 0) = _ from isSeq_apply 1 r,
    show isSeq 2#32 (ix2 r 0) = _ from isSeq_apply 2 r]
  have hb : (seqOf r).val = r.val % 8 / 2 := rfl
  rw [← hb]
  generalize seqOf r = v
  match v with
  | 0 => rfl
  | 1 => rfl
  | 2 => rfl
  | 3 => rfl

theorem pick_apply {n : ℕ} (h : S72x1.Broadcasts (Mat 72 n)) {α : Type} (y : Fin 4 → (Mat 72 n).Idx → α) (r : Fin 72) (s : Fin n) :
    pick h y (ix2 r s) = y (seqOf r) (ix2 r s) := by
  rw [← choose r fun b => y b (ix2 r s)]
  pointwise [pick]

theorem len_apply (x : Vec Ideal S4 .i32) (b : Fin 4) : len (F := Ideal) x b = x (ix1 b) := by
  unfold len
  refine congrArg x ?_
  funext q
  match q with
  | 0 => exact Fin.ext rfl

theorem lens_apply (x : Vec Ideal S4 .i32) (r : Fin 72) : lens (F := Ideal) x (ix2 r 0) = x (ix1 (seqOf r)) := by
  rw [← len_apply x, ← choose r fun b => len (F := Ideal) x b]
  rfl

/-! ## Scores -/

theorem cached_apply (x : Vec Ideal S1x4x3x64x1024 .i8) (b : Fin 4) (k : Fin 3) (d : Fin 64) (s : Fin 1024) :
    cached (F := Ideal) x b (ix2 (laneAt k d) s) = FloatOps.sitofp (F := Ideal) .bf16 (x (ix5 0 b k d s)) := by
  have hb : ∀ a : Fin 5, (![0, b.val, 0, 0, 0] : Fin 5 → ℕ) a + (![1, 1, 3, 64, 1024] : Fin 5 → ℕ) a ≤ S1x4x3x64x1024.size a := by revert b; decide
  have e1 := Idealize.ShloMosaic.shapeCast_apply (shapeCast S3x64x1024 (View.ld x (Rect.unit (s := S1x4x3x64x1024) ![0, b.val, 0, 0, 0] ![1, 1, 3, 64, 1024]
    hb)) shapeCasts_S1x1x3x64x1024_S3x64x1024) shapeCasts_S3x64x1024_S192x1024 (ix2 (laneAt k d) s) (ix3 k d s)
    (by rw [Shape.rowMajor_val_two, Shape.rowMajor_val_three]; show (k.val * 64 + d.val) * 1024 + s.val = (64 * k.val + d.val) * 1024 + s.val; omega)
  have e2 := Idealize.ShloMosaic.shapeCast_apply (View.ld x (Rect.unit (s := S1x4x3x64x1024) ![0, b.val, 0, 0, 0] ![1, 1, 3, 64, 1024]
    hb)) shapeCasts_S1x1x3x64x1024_S3x64x1024 (ix3 k d s) (ix5 0 0 k d s)
    (by rw [Shape.rowMajor_val_three, Shape.rowMajor_val_five]; show (((0 * 1 + 0) * 3 + k.val) * 64 + d.val) * 1024 + s.val = (k.val * 64 + d.val) * 1024 + s.val; omega)
  refine congrArg (FloatOps.sitofp (F := Ideal) .bf16) (e1.trans (e2.trans (congrArg x ?_)))
  funext q
  match q with
  | ⟨0, _⟩ => exact Fin.ext rfl
  | ⟨1, _⟩ => exact Fin.ext (by show b.val + 0 * 1 = b.val; omega)
  | ⟨2, _⟩ => exact Fin.ext (by show 0 + 1 * k.val = k.val; omega)
  | ⟨3, _⟩ => exact Fin.ext (by show 0 + 1 * d.val = d.val; omega)
  | ⟨4, _⟩ => exact Fin.ext (by show 0 + 1 * s.val = s.val; omega)

/-- A row's query in its own head's lanes. -/
abbrev query (z : FVec Ideal S8x768 .f32) (r : Fin 72) (d : Fin 64) : EReal := queryHead (F := Ideal) z (headOf r) (ix2 (tokOf r) d)

/-- A row against 192 lanes is its query against its own head's 64. -/
theorem sum_query (z : FVec Ideal S8x768 .f32) (r : Fin 72) (f : Fin 192 → EReal) :
    ∑ c, queryRow z r c * f c = ∑ d : Fin 64, query z r d * f (laneAt (keyOf r) d) := by
  rw [sum_lanes (keyOf r) _ fun c h => by
    unfold queryRow
    rw [if_neg h, zero_mul]]
  refine Finset.sum_congr rfl fun d _ => ?_
  unfold queryRow
  rw [if_pos (show (64 * (r.val / 24) + d.val) / 64 = r.val / 24 by omega)]
  rw [show lane (laneAt (keyOf r) d) = d from Fin.ext (by show (64 * (r.val / 24) + d.val) % 64 = d.val; omega)]

theorem scoresOf_apply (z : FVec Ideal S8x768 .f32) (x : Vec Ideal S1x4x3x64x1024 .i8) (b : Fin 4) (r : Fin 72) (s : Fin 1024) :
    scoresOf (F := Ideal) (queries z) x b (ix2 r s)
      = ∑ d : Fin 64, query z r d * FloatOps.sitofp (F := Ideal) .bf16 (x (ix5 0 b (keyOf r) d s)) := by
  have e : scoresOf (F := Ideal) (queries z) x b (ix2 r s) = ∑ c : Fin 192, queries (F := Ideal) z (ix2 r c) * cached (F := Ideal) x b (ix2 c s) := by
    pointwise [scoresOf]
  rw [e]
  simp only [queries_apply]
  rw [sum_query z r fun c => cached (F := Ideal) x b (ix2 c s)]
  exact Finset.sum_congr rfl fun d _ => congrArg (query z r d * ·) (cached_apply x b (keyOf r) d s)

theorem scoreOld_apply (z : FVec Ideal S8x768 .f32) (ln : Vec Ideal S4 .i32) (ck : Vec Ideal S1x4x3x64x1024 .i8) (cks : Vec Ideal S1x3x4x1024 .f32)
    (r : Fin 72) (s : Fin 1024) :
    scoreOld (F := Ideal) (queries z) ln ck cks (ix2 r s)
      = Spec.scoreOld (ln (ix1 (seqOf r))) (query z r) (fun d s => FloatOps.sitofp (F := Ideal) .bf16 (ck (ix5 0 (seqOf r) (keyOf r) d s)))
        (fun s => cks (ix4 0 (keyOf r) (seqOf r) s)) s := by
  pointwise [scoreOld]
  rw [lens_apply, pick_apply, pick_apply, scoresOf_apply, cachedScales_apply, bot_bits]
  rfl

theorem scoreNew_apply (z : FVec Ideal S8x768 .f32) (k : Fin 3 → FVec Ideal S8x64 .f32) (r : Fin 72) (j : Fin 8) :
    scoreNew (F := Ideal) (queries z) k (ix2 r j)
      = Spec.scoreNew (tokOf r) (query z r) (fun j d => codes (F := Ideal) (k (keyOf r)) (ix2 j d)) (fun j => scale (F := Ideal) (k (keyOf r)) (ix2 j 0)) j := by
  pointwise [scoreNew]
  rw [seen_apply, newScales_apply, bot_bits]
  simp only [queries_apply]
  rw [sum_query z r fun c => codes3 (F := Ideal) k (ix2 j c)]
  simp only [codes3_apply]
  have e1 : laneKey (laneAt (keyOf r) 0) = keyOf r := Fin.ext (by show (64 * (r.val / 24) + 0) / 64 = r.val / 24; omega)
  have e : ∀ d : Fin 64, codes (F := Ideal) (k (laneKey (laneAt (keyOf r) d))) (ix2 j (lane (laneAt (keyOf r) d))) = codes (F := Ideal) (k (keyOf r)) (ix2 j d) := by
    intro d
    rw [show laneKey (laneAt (keyOf r) d) = keyOf r from Fin.ext (by show (64 * (r.val / 24) + d.val) / 64 = r.val / 24; omega),
      show lane (laneAt (keyOf r) d) = d from Fin.ext (by show (64 * (r.val / 24) + d.val) % 64 = d.val; omega)]
  simp only [e]
  unfold Spec.scoreNew
  by_cases h : j.val / 2 = r.val % 8 / 2 ∧ j.val ≤ r.val % 8
  · rw [if_pos h, if_pos h]; rfl
  · rw [if_neg h, if_neg h]; rfl

theorem peak_apply (so : FVec Ideal S72x1024 .f32) (sn : FVec Ideal S72x8 .f32) (r : Fin 72) :
    peak (F := Ideal) so sn (ix2 r 0) = Spec.peak (fun s => so (ix2 r s)) (fun j => sn (ix2 r j)) := by
  pointwise [peak]
  rw [bot_bits]
  rfl

theorem expOld_apply (so : FVec Ideal S72x1024 .f32) (m : FVec Ideal S72x1 .f32) (r : Fin 72) (s : Fin 1024) :
    expOld (F := Ideal) so m (ix2 r s) = Ideal.exp2 (so (ix2 r s) - m (ix2 r 0)) := by
  pointwise [expOld]
  rfl

theorem expNew_apply (sn : FVec Ideal S72x8 .f32) (m : FVec Ideal S72x1 .f32) (r : Fin 72) (j : Fin 8) :
    expNew (F := Ideal) sn m (ix2 r j) = Ideal.exp2 (sn (ix2 r j) - m (ix2 r 0)) := by
  pointwise [expNew]
  rfl

theorem weighedOf_apply (w : FVec Ideal S72x1024 .bf16) (x : Vec Ideal S1x4x3x64x1024 .i8) (b : Fin 4) (r : Fin 72) (k : Fin 3) (d : Fin 64) :
    weighedOf (F := Ideal) w x b (ix2 r (laneAt k d)) = (∑ s : Fin 1024, w (ix2 r s) * FloatOps.sitofp (F := Ideal) .bf16 (x (ix5 0 b k d s)) : EReal) := by
  have e : weighedOf (F := Ideal) w x b (ix2 r (laneAt k d)) = (∑ s : Fin 1024, w (ix2 r s) * cached (F := Ideal) x b (ix2 (laneAt k d) s) : EReal) := by
    pointwise [weighedOf]
  rw [e]
  exact Finset.sum_congr rfl fun s _ => congrArg (w (ix2 r s) * ·) (cached_apply x b k d s)

theorem attend_apply (z : FVec Ideal S8x768 .f32) (ln : Vec Ideal S4 .i32) (ck : Vec Ideal S1x4x3x64x1024 .i8) (cks : Vec Ideal S1x3x4x1024 .f32)
    (cv : Vec Ideal S1x4x3x64x1024 .i8) (cvs : Vec Ideal S1x3x4x1024 .f32) (k v : Fin 3 → FVec Ideal S8x64 .f32) (r : Fin 72) (d : Fin 64) :
    attend (F := Ideal) (queries z) ln ck cks cv cvs k v (ix2 r (laneAt (keyOf r) d))
      = mean (Spec.scoreOld (ln (ix1 (seqOf r))) (query z r) (fun d s => FloatOps.sitofp (F := Ideal) .bf16 (ck (ix5 0 (seqOf r) (keyOf r) d s)))
          (fun s => cks (ix4 0 (keyOf r) (seqOf r) s)))
        (Spec.scoreNew (tokOf r) (query z r) (fun j d => codes (F := Ideal) (k (keyOf r)) (ix2 j d)) (fun j => scale (F := Ideal) (k (keyOf r)) (ix2 j 0)))
        (Spec.peak (Spec.scoreOld (ln (ix1 (seqOf r))) (query z r) (fun d s => FloatOps.sitofp (F := Ideal) .bf16 (ck (ix5 0 (seqOf r) (keyOf r) d s)))
          (fun s => cks (ix4 0 (keyOf r) (seqOf r) s)))
        (Spec.scoreNew (tokOf r) (query z r) (fun j d => codes (F := Ideal) (k (keyOf r)) (ix2 j d)) (fun j => scale (F := Ideal) (k (keyOf r)) (ix2 j 0))))
        (fun s => FloatOps.sitofp (F := Ideal) .bf16 (cv (ix5 0 (seqOf r) (keyOf r) d s))) (fun s => cvs (ix4 0 (keyOf r) (seqOf r) s))
        (fun j => codes (F := Ideal) (v (keyOf r)) (ix2 j d)) (fun j => scale (F := Ideal) (v (keyOf r)) (ix2 j 0)) := by
  have ec : ∀ j, codes3 (F := Ideal) v (ix2 j (laneAt (keyOf r) d)) = codes (F := Ideal) (v (keyOf r)) (ix2 j d) := by
    intro j
    rw [codes3_apply, show laneKey (laneAt (keyOf r) d) = keyOf r from Fin.ext (by show (64 * (r.val / 24) + d.val) / 64 = r.val / 24; omega),
      show lane (laneAt (keyOf r) d) = d from Fin.ext (by show (64 * (r.val / 24) + d.val) % 64 = d.val; omega)]
  unfold attend
  generalize hl : laneAt (keyOf r) d = l at ec ⊢
  pointwise [mix, total]
  subst hl
  rw [pick_apply, weighedOf_apply]
  simp only [ec]
  pointwise []
  simp only [pick_apply, cachedScales_apply, newScales_apply, expOld_apply, expNew_apply, peak_apply, scoreOld_apply, scoreNew_apply]
  rfl

end Cert.Layer
-- ==== Proof.RefHeads.lean ====
/- The reference's attention, entry by entry: a token's weighted mean of the values. -/
module

public import proofs.«01_k».proof.Proof.RefLayer
public import proofs.«01_k».proof.Proof.Spec

@[expose] public section

set_option maxRecDepth 16384

noncomputable section

namespace Cert.RefLayer

open Idealize.ShloMosaic Idealize.ShloMosaic.TcCoe Idealize.SL.Sem
open Cert.ReferenceIdeal Cert.ReferenceIdeal.Gen Cert.Spec

/-- Query head `g` of key head `k`. -/
abbrev queryOf (k g : Fin 3) : Fin 9 := ⟨k.val * 3 + g.val, by omega⟩

theorem scoreOld_apply (ln : Vec Ideal S4 .i32) (q : FVec Ideal S4x2x9x64 .f32) (ck : Vec Ideal S1x4x3x1024x64 .i8) (cks : Vec Ideal S1x4x3x1024 .f32)
    (b : Fin 4) (k g : Fin 3) (t : Fin 2) (s : Fin 1024) :
    scoreOld (F := Ideal) ln q ck cks (ix5 b k g t s)
      = Spec.scoreOld (ln (ix1 b)) (fun d => q (ix4 b t (queryOf k g) d)) (fun d s => FloatOps.sitofp (F := Ideal) .bf16 (ck (ix5 0 b k s d)))
        (fun s => cks (ix4 0 b k s)) s := by
  pointwise [scoreOld, k0_pay29, k0_pay1, k0_pay23, k0_pay24, k0_pay27]
  rw [factor_eq, bot_bits]
  unfold Spec.scoreOld
  refine congrArg (fun z => Scalar.select _ z _) (congrArg (fun z => z * _ * _) (Finset.sum_congr rfl fun d _ => mul_comm _ _))

/-- The scores against the new keys. -/
def news (t : Fin 2) (q : Fin 64 → EReal) (kn : Fin 2 → Fin 64 → EReal) (kns : Fin 2 → EReal) (s : Fin 2) : EReal :=
  if s.val ≤ t.val then (∑ d : Fin 64, q d * kn s d) * kns s * factor else ⊥

theorem later (t s : Fin 2) : IntOp.cmpi .sge (BitVec.ofNat 32 t.val) (BitVec.ofNat 32 s.val) = if s.val ≤ t.val then 1#1 else 0#1 := by
  revert t s; decide

theorem scoreNew_apply (q : FVec Ideal S4x2x9x64 .f32) (k : FVec Ideal S4x2x3x64 .f32) (b : Fin 4) (kk g : Fin 3) (t s : Fin 2) :
    scoreNew (F := Ideal) q k (ix5 b kk g t s)
      = news t (fun d => q (ix4 b t (queryOf kk g) d)) (fun s d => FloatOps.sitofp (F := Ideal) .bf16 (codes k (ix4 b s kk d)))
        (fun s => scale k (ix3 b s kk)) s := by
  pointwise [scoreNew, k0_pay30, k0_pay2, k0_pay27]
  rw [factor_eq, bot_bits, later]
  unfold news
  by_cases h : s.val ≤ t.val
  · rw [if_pos h, if_pos h]
    exact congrArg (fun z => z * _ * _) (Finset.sum_congr rfl fun d _ => mul_comm _ _)
  · rw [if_neg h, if_neg h]; rfl

theorem peak_apply (so : FVec Ideal S4x3x3x2x1024 .f32) (sn : FVec Ideal S4x3x3x2x2 .f32) (b : Fin 4) (k g : Fin 3) (t : Fin 2) :
    peak (F := Ideal) so sn (ix5 b k g t 0) = Spec.peak (fun s => so (ix5 b k g t s)) (fun s => sn (ix5 b k g t s)) := by
  pointwise [peak]
  rw [bot_bits]
  rfl

theorem expOld_apply (so : FVec Ideal S4x3x3x2x1024 .f32) (m : FVec Ideal S4x3x3x2x1 .f32) (b : Fin 4) (k g : Fin 3) (t : Fin 2) (s : Fin 1024) :
    expOld (F := Ideal) so m (ix5 b k g t s) = Ideal.exp2 (so (ix5 b k g t s) - m (ix5 b k g t 0)) := by
  pointwise [expOld]
  rfl

theorem expNew_apply (sn : FVec Ideal S4x3x3x2x2 .f32) (m : FVec Ideal S4x3x3x2x1 .f32) (b : Fin 4) (k g : Fin 3) (t : Fin 2) (s : Fin 2) :
    expNew (F := Ideal) sn m (ix5 b k g t s) = Ideal.exp2 (sn (ix5 b k g t s) - m (ix5 b k g t 0)) := by
  pointwise [expNew]
  rfl

/-- The key head of query head `h`. -/
abbrev keyOfHead (h : Fin 9) : Fin 3 := ⟨h.val / 3, by omega⟩

theorem attend_apply (ln : Vec Ideal S4 .i32) (q : FVec Ideal S4x2x9x64 .f32) (ck : Vec Ideal S1x4x3x1024x64 .i8) (cks : Vec Ideal S1x4x3x1024 .f32)
    (cv : Vec Ideal S1x4x3x1024x64 .i8) (cvs : Vec Ideal S1x4x3x1024 .f32) (k v : FVec Ideal S4x2x3x64 .f32) (b : Fin 4) (t : Fin 2) (h : Fin 9) (d : Fin 64) :
    attend (F := Ideal) ln q ck cks cv cvs k v (ix4 b t h d)
      = mean (Spec.scoreOld (ln (ix1 b)) (fun d => q (ix4 b t h d)) (fun d s => FloatOps.sitofp (F := Ideal) .bf16 (ck (ix5 0 b (keyOfHead h) s d)))
          (fun s => cks (ix4 0 b (keyOfHead h) s)))
        (news t (fun d => q (ix4 b t h d)) (fun s d => FloatOps.sitofp (F := Ideal) .bf16 (codes k (ix4 b s (keyOfHead h) d))) (fun s => scale k (ix3 b s (keyOfHead h))))
        (Spec.peak (Spec.scoreOld (ln (ix1 b)) (fun d => q (ix4 b t h d)) (fun d s => FloatOps.sitofp (F := Ideal) .bf16 (ck (ix5 0 b (keyOfHead h) s d)))
          (fun s => cks (ix4 0 b (keyOfHead h) s)))
        (news t (fun d => q (ix4 b t h d)) (fun s d => FloatOps.sitofp (F := Ideal) .bf16 (codes k (ix4 b s (keyOfHead h) d))) (fun s => scale k (ix3 b s (keyOfHead h)))))
        (fun s => FloatOps.sitofp (F := Ideal) .bf16 (cv (ix5 0 b (keyOfHead h) s d))) (fun s => cvs (ix4 0 b (keyOfHead h) s))
        (fun s => FloatOps.sitofp (F := Ideal) .bf16 (codes v (ix4 b s (keyOfHead h) d))) (fun s => scale v (ix3 b s (keyOfHead h))) := by
  have e : queryOf (keyOfHead h) ⟨h.val % 3, Nat.mod_lt _ (by decide)⟩ = h := Fin.ext (by show h.val / 3 * 3 + h.val % 3 = h.val; omega)
  have eo : ∀ s, scoreOld (F := Ideal) ln q ck cks (ix5 b (keyOfHead h) ⟨h.val % 3, Nat.mod_lt _ (by decide)⟩ t s) = _ :=
    fun s => (scoreOld_apply ln q ck cks b _ _ t s).trans (by rw [e])
  have en : ∀ s, scoreNew (F := Ideal) q k (ix5 b (keyOfHead h) ⟨h.val % 3, Nat.mod_lt _ (by decide)⟩ t s) = _ :=
    fun s => (scoreNew_apply q k b _ _ t s).trans (by rw [e])
  unfold attend
  pointwise [mix, k0_pay36, k0_pay35, k0_pay25, k0_pay26, k0_pay28, total]
  simp only [expOld_apply, expNew_apply, peak_apply, eo, en]
  unfold mean
  refine congrArg (fun z => Ideal.div z _) (congrArg₂ (· + ·) (Finset.sum_congr rfl fun s _ => mul_comm _ _) (Finset.sum_congr rfl fun s _ => mul_comm _ _))

end Cert.RefLayer
-- ==== Proof.Match2.lean ====
/- The kernel's attention against the reference's, entry by entry. -/
module

public import proofs.«01_k».proof.Proof.Match1
public import proofs.«01_k».proof.Proof.Heads
public import proofs.«01_k».proof.Proof.RefHeads

@[expose] public section

set_option maxRecDepth 16384

noncomputable section

namespace Cert.Match

open Idealize.ShloMosaic Idealize.ShloMosaic.TcCoe Idealize.SL.Sem
open Cert.KernelIdeal Cert.KernelIdeal.Gen Cert.Block Cert.Cat Cert.Spec Cert.Clip

/-- A layer's caches, the kernel's next to the reference's. -/
structure Caches (ck cv : Vec Ideal S1x4x3x64x1024 .i8) (cks cvs : Vec Ideal S1x3x4x1024 .f32)
    (rk rv : Vec Ideal Cert.ReferenceIdeal.S1x4x3x1024x64 .i8) (rks rvs : Vec Ideal Cert.ReferenceIdeal.S1x4x3x1024 .f32) : Prop where
  k : ∀ (b : Fin 4) (h : Fin 3) (d : Fin 64) (s : Fin 1024), ck (ix5 0 b h d s) = rk (ix5 0 b h s d)
  v : ∀ (b : Fin 4) (h : Fin 3) (d : Fin 64) (s : Fin 1024), cv (ix5 0 b h d s) = rv (ix5 0 b h s d)
  ks : ∀ (b : Fin 4) (h : Fin 3) (s : Fin 1024), cks (ix4 0 h b s) = rks (ix4 0 b h s)
  vs : ∀ (b : Fin 4) (h : Fin 3) (s : Fin 1024), cvs (ix4 0 h b s) = rvs (ix4 0 b h s)

/-- Equal scores and values, equal means. -/
theorem mean_congr {n : ℕ} (so V vs : Fin 1024 → EReal) {sn sn' vn vn' vns vns' : Fin n → EReal} (h1 : sn = sn') (h2 : vn = vn') (h3 : vns = vns') :
    mean so sn (Spec.peak so sn) V vs vn vns = mean so sn' (Spec.peak so sn') V vs vn' vns' := by
  subst h1 h2 h3
  rfl

section
variable {co4 si4 : Vec Ideal S8x128 .f32} {co si : Vec Ideal Cert.ReferenceIdeal.S4x2x32 .f32} (A : Angles co4 si4 co si)
  {ck cv : Vec Ideal S1x4x3x64x1024 .i8} {cks cvs : Vec Ideal S1x3x4x1024 .f32}
  {rk rv : Vec Ideal Cert.ReferenceIdeal.S1x4x3x1024x64 .i8} {rks rvs : Vec Ideal Cert.ReferenceIdeal.S1x4x3x1024 .f32} (C : Caches ck cv cks cvs rk rv rks rvs)
include A C

/-- A head of the attended rows is the reference's. -/
theorem attended_eq (y : FVec Ideal S8x960 .f32) (ln : Vec Ideal S4 .i32) (h : Fin 9) (b : Fin 4) (t : Fin 2) (d : Fin 64) :
    Layer.head (Layer.attended (F := Ideal) y ln co4 si4 ck cks cv cvs) h (ix2 (tok b t) d)
      = RefLayer.attended (F := Ideal) y ln co si rk rks rv rvs (ix4 b t h d) := by
  have sk : Same (Layer.keyHead (F := Ideal) (Layer.rope y co4 si4)) (RefLayer.keys (F := Ideal) y co si) := fun k b t d => key_eq A y k b t d
  have sv : Same (Layer.valueHead (F := Ideal) y) (RefLayer.values (F := Ideal) y) := fun k b t d => value_eq y k b t d
  let r : Fin 72 := ⟨8 * h.val + (2 * b.val + t.val), by omega⟩
  have hseq : Layer.seqOf r = b := Fin.ext (by show (8 * h.val + (2 * b.val + t.val)) % 8 / 2 = b.val; omega)
  have htok : Layer.tokOf r = tok b t := Fin.ext (by show (8 * h.val + (2 * b.val + t.val)) % 8 = 2 * b.val + t.val; omega)
  have hhead : Layer.headOf r = h := Fin.ext (by show (8 * h.val + (2 * b.val + t.val)) / 8 = h.val; omega)
  have hkey : Layer.keyOf r = RefLayer.keyOfHead h := Fin.ext (by show (8 * h.val + (2 * b.val + t.val)) / 24 = h.val / 3; omega)
  have e1 : Layer.head (Layer.attended (F := Ideal) y ln co4 si4 ck cks cv cvs) h (ix2 (tok b t) d)
      = Layer.attended (F := Ideal) y ln co4 si4 ck cks cv cvs (ix2 r (Layer.laneAt (Layer.keyOf r) d)) := by
    pointwise [Layer.head]
    refine congrArg (fun l => Layer.attended (F := Ideal) y ln co4 si4 ck cks cv cvs (ix2 r l)) (Fin.ext ?_)
    show 64 * (h.val / 3) + d.val = 64 * ((8 * h.val + (2 * b.val + t.val)) / 24) + d.val
    omega
  rw [e1]
  refine (Layer.attend_apply (Layer.rope y co4 si4) ln ck cks cv cvs _ _ r d).trans ?_
  refine Eq.trans ?_ (RefLayer.attend_apply ln (RefLayer.queries y co si) rk rks rv rvs (RefLayer.keys y co si) (RefLayer.values y) b t h d).symm
  have hq : Layer.query (Layer.rope (F := Ideal) y co4 si4) r = fun d => RefLayer.queries (F := Ideal) y co si (ix4 b t h d) := by
    funext d
    show Layer.queryHead (F := Ideal) (Layer.rope y co4 si4) (Layer.headOf r) (ix2 (Layer.tokOf r) d) = _
    rw [hhead, htok, query_eq A]
  rw [hq, hseq, htok, hkey]
  simp only [C.k, C.v, C.ks, C.vs]
  refine (mean_own b _ _ (fun j hj => if_neg fun hs => hj (hs.1.trans (by show (2 * b.val + t.val) / 2 = b.val; omega))) _ _ _ _).trans ?_
  have hn : (fun s : Fin 2 => Spec.scoreNew (tok b t) (fun d => RefLayer.queries (F := Ideal) y co si (ix4 b t h d))
        (fun j d => Layer.codes (F := Ideal) (Layer.keyHead (F := Ideal) (Layer.rope y co4 si4) (RefLayer.keyOfHead h)) (ix2 j d))
        (fun j => Layer.scale (F := Ideal) (Layer.keyHead (F := Ideal) (Layer.rope y co4 si4) (RefLayer.keyOfHead h)) (ix2 j 0)) (tok b s))
      = RefLayer.news t (fun d => RefLayer.queries (F := Ideal) y co si (ix4 b t h d))
        (fun s d => FloatOps.sitofp (F := Ideal) .bf16 (RefLayer.codes (F := Ideal) (RefLayer.keys (F := Ideal) y co si) (ix4 b s (RefLayer.keyOfHead h) d)))
        (fun s => RefLayer.scale (F := Ideal) (RefLayer.keys (F := Ideal) y co si) (ix3 b s (RefLayer.keyOfHead h))) := by
    funext s
    unfold Spec.scoreNew RefLayer.news
    simp only [code_eq sk, scale_eq sk]
    by_cases hs : s.val ≤ t.val
    · rw [if_pos hs, if_pos ⟨by show (2 * b.val + s.val) / 2 = (2 * b.val + t.val) / 2; omega, by show 2 * b.val + s.val ≤ 2 * b.val + t.val; omega⟩]
    · rw [if_neg hs, if_neg fun q => hs (by have : 2 * b.val + s.val ≤ 2 * b.val + t.val := q.2; omega)]
  have hv : (fun s : Fin 2 => Layer.codes (F := Ideal) (Layer.valueHead (F := Ideal) y (RefLayer.keyOfHead h)) (ix2 (tok b s) d))
      = fun s => FloatOps.sitofp (F := Ideal) .bf16 (RefLayer.codes (F := Ideal) (RefLayer.values (F := Ideal) y) (ix4 b s (RefLayer.keyOfHead h) d)) :=
    funext fun s => (code_eq sv _ b s d).symm
  have hvs : (fun s : Fin 2 => Layer.scale (F := Ideal) (Layer.valueHead (F := Ideal) y (RefLayer.keyOfHead h)) (ix2 (tok b s) 0))
      = fun s => RefLayer.scale (F := Ideal) (RefLayer.values (F := Ideal) y) (ix3 b s (RefLayer.keyOfHead h)) :=
    funext fun s => scale_eq sv _ b s
  exact mean_congr _ _ _ hn hv hvs

end

end Cert.Match
-- ==== Proof.HeadsOut.lean ====
/- The block of attention heads as the body leaves it: nine pieces, one per head. -/
module

public import proofs.«01_k».proof.Proof.Layer
public import Idealize.ShloMosaic.Lib.Pipeline.ValueKit
public import proofs.«01_k».proof.Proof.Spec
public import Idealize.ShloMosaic.Lib.Pipeline.ReadBack

@[expose] public section

set_option maxRecDepth 16384

noncomputable section

namespace Cert.Layer

open Idealize.ShloMosaic Idealize.ShloMosaic.TcCoe Idealize.SL.Sem
open Cert.KernelIdeal Cert.KernelIdeal.Gen Cert.Block

variable {F : FTy → Type} [FloatOps F]

/-- The nine heads, each stored over its own rows; the last stored comes first. -/
def headsOut (a : FVec F S72x192 .f32) : Vec F S1x9x8x64 .f32 :=
  View.canon (Val := Elt F) (s := S1x9x8x64) (e := .f32) [⟨Rect.unit (s := S1x9x8x64) ![0, 8, 0, 0] ![1, 1, 8, 64] inb_S1x9x8x64_S1x1x8x64_0_8_0_0, headOut a 8⟩,
    ⟨Rect.unit (s := S1x9x8x64) ![0, 7, 0, 0] ![1, 1, 8, 64] inb_S1x9x8x64_S1x1x8x64_0_7_0_0, headOut a 7⟩,
    ⟨Rect.unit (s := S1x9x8x64) ![0, 6, 0, 0] ![1, 1, 8, 64] inb_S1x9x8x64_S1x1x8x64_0_6_0_0, headOut a 6⟩,
    ⟨Rect.unit (s := S1x9x8x64) ![0, 5, 0, 0] ![1, 1, 8, 64] inb_S1x9x8x64_S1x1x8x64_0_5_0_0, headOut a 5⟩,
    ⟨Rect.unit (s := S1x9x8x64) ![0, 4, 0, 0] ![1, 1, 8, 64] inb_S1x9x8x64_S1x1x8x64_0_4_0_0, headOut a 4⟩,
    ⟨Rect.unit (s := S1x9x8x64) ![0, 3, 0, 0] ![1, 1, 8, 64] inb_S1x9x8x64_S1x1x8x64_0_3_0_0, headOut a 3⟩,
    ⟨Rect.unit (s := S1x9x8x64) ![0, 2, 0, 0] ![1, 1, 8, 64] inb_S1x9x8x64_S1x1x8x64_0_2_0_0, headOut a 2⟩,
    ⟨Rect.unit (s := S1x9x8x64) ![0, 1, 0, 0] ![1, 1, 8, 64] inb_S1x9x8x64_S1x1x8x64_0_1_0_0, headOut a 1⟩,
    ⟨Rect.unit (s := S1x9x8x64) ![0, 0, 0, 0] ![1, 1, 8, 64] inb_S1x9x8x64_S1x1x8x64_0_0_0_0, headOut a 0⟩]

/-- An entry of a stored head. -/
theorem headOut_at (a : FVec Ideal S72x192 .f32) (h k : Fin 9) (x : S1x1x8x64.Idx) (i : Fin 8) (d : Fin 64) (hk : k.val = h.val)
    (hi : i.val = (x 2).val) (hd : d.val = (x 3).val) : headOut a h x = head a k (ix2 i d) := by
  obtain rfl : k = h := Fin.ext hk
  have e : x = ix4 0 0 i d := by
    funext q
    match q with
    | 0 => exact Subsingleton.elim (α := Fin 1) _ _
    | 1 => exact Subsingleton.elim (α := Fin 1) _ _
    | 2 => exact Fin.ext hi.symm
    | 3 => exact Fin.ext hd.symm
  rw [e]
  pointwise [headOut]

/-- Head `h` of the block is head `h` of the attended rows. -/
theorem headsOut_apply (a : FVec Ideal S72x192 .f32) (h : Fin 9) (i : Fin 8) (d : Fin 64) :
    headsOut a (ix4 0 h i d) = head a h (ix2 i d) := by
  have key : ∀ (y : S1x9x8x64.Idx), headsOut a y = head a (y 1) (ix2 (y 2) (y 3)) := by
    intro y
    unfold headsOut
    canon_tiles x h
    all_goals exact headOut_at a _ _ x _ _ (by simp only [h1]; have := x1_lt; omega) h2 h3
  exact key _

end Cert.Layer
-- ==== Proof.Match3.lean ====
/- A whole layer of the kernel against the reference's: the same residual stream and the same stored results. -/
module

public import proofs.«01_k».proof.Proof.Match2
public import proofs.«01_k».proof.Proof.HeadsOut

@[expose] public section

set_option maxRecDepth 16384

noncomputable section

namespace Cert.Match

open Idealize.ShloMosaic Idealize.ShloMosaic.TcCoe Idealize.SL.Sem
open Cert.KernelIdeal Cert.KernelIdeal.Gen Cert.Block Cert.Cat Cert.Spec Cert.Clip

/-- Two matrices with the same entries are the same. -/
theorem ext2 {α : Type} {a b : ℕ} {x y : (Mat a b).Idx → α} (h : ∀ i j, x (ix2 i j) = y (ix2 i j)) : x = y := by
  funext q
  have e : q = ix2 (q 0) (q 1) := by
    funext k
    match k with
    | 0 => rfl
    | 1 => rfl
  rw [e]
  exact h _ _

theorem start_eq (e : Vec Ideal S8x576 .i8) (s : Vec Ideal S8x1 .f32) : Layer.start (F := Ideal) e s = RefLayer.start (F := Ideal) e s := by
  refine ext2 fun i c => ?_
  pointwise [Layer.start, RefLayer.start]

/-- A layer's norm weights, the kernel's next to the reference's. -/
abbrev SameNorm (w : Vec Ideal S1x1x576 .f32) (r : Vec Ideal Cert.ReferenceIdeal.S1x576 .f32) : Prop := ∀ c : Fin 576, w (ix3 0 0 c) = r (ix2 0 c)

theorem norm_eq (x : FVec Ideal S8x576 .f32) {w : Vec Ideal S1x1x576 .f32} {r : Vec Ideal Cert.ReferenceIdeal.S1x576 .f32} (h : SameNorm w r) :
    Layer.norm (F := Ideal) x w = RefLayer.norm (F := Ideal) x r := by
  refine ext2 fun i c => ?_
  pointwise [Layer.norm, RefLayer.norm]
  rw [h c]
  rfl

theorem rows_eq (x : FVec Ideal S8x576 .f32) {w : Vec Ideal S1x1x576 .f32} {r : Vec Ideal Cert.ReferenceIdeal.S1x576 .f32} (h : SameNorm w r)
    (wq : Vec Ideal S1x288x960 .i8) (gq : Vec Ideal S1x18x960 .bf16) :
    Layer.rows (F := Ideal) x w wq gq = RefLayer.rows (F := Ideal) x r wq gq := by
  refine ext2 fun i c => ?_
  unfold Layer.rows RefLayer.rows
  rw [norm_eq x h]
  exact (Layer.qkv_apply _ wq gq i c).trans (RefLin.linear_apply RefLayer.facts_960 rfl rfl rfl _ wq gq i c).symm

/-- A token's place: its sequence and its turn. -/
theorem tok_split (i : Fin 8) : i = tok ⟨i.val / 2, by omega⟩ ⟨i.val % 2, by omega⟩ := Fin.ext (by show i.val = 2 * (i.val / 2) + i.val % 2; omega)

/-- A head's columns among the heads side by side. -/
theorem heads_apply (a : FVec Ideal S72x192 .f32) (i : Fin 8) (c : Fin 576) :
    Layer.heads (F := Ideal) a (ix2 i c) = Layer.head (F := Ideal) a ⟨c.val / 64, by omega⟩ (ix2 i ⟨c.val % 64, Nat.mod_lt _ (by decide)⟩) := by
  have key : ∀ (h : Fin 9) (i : Fin 8) (l : Fin 64) (c : Fin 576), c.val = 64 * h.val + l.val →
      Layer.head (F := Ideal) a h (ix2 i l) = Layer.head (F := Ideal) a ⟨c.val / 64, by omega⟩ (ix2 i ⟨c.val % 64, Nat.mod_lt _ (by decide)⟩) := by
    intro h i l c hc
    rw [show (⟨c.val / 64, by omega⟩ : Fin 9) = h from Fin.ext (by show c.val / 64 = h.val; omega),
      show (⟨c.val % 64, Nat.mod_lt _ (by decide)⟩ : Fin 64) = l from Fin.ext (by show c.val % 64 = l.val; omega)]
  exact cols (fun i c => Layer.head (F := Ideal) a ⟨c.val / 64, by omega⟩ (ix2 i ⟨c.val % 64, Nat.mod_lt _ (by decide)⟩)) _
    (by exact concatenates_S8x64_S8x64_S8x64_S8x64_S8x64_S8x64_S8x64_S8x64_S8x64_S8x576_d1)
    (.cons (key 0) (.cons (key 1) (.cons (key 2) (.cons (key 3) (.cons (key 4) (.cons (key 5) (.cons (key 6) (.cons (key 7) (.cons (key 8) (.nil _)))))))))) i c

theorem flat_apply (r : FVec Ideal Cert.ReferenceIdeal.S4x2x9x64 .f32) (b : Fin 4) (t : Fin 2) (c : Fin 576) :
    shapeCast Cert.ReferenceIdeal.S8x576 r (by decide) (ix2 (tok b t) c) = r (ix4 b t ⟨c.val / 64, by omega⟩ ⟨c.val % 64, Nat.mod_lt _ (by decide)⟩) := by
  refine Idealize.ShloMosaic.shapeCast_apply _ _ _ _ ?_
  rw [Shape.rowMajor_val_two, Shape.rowMajor_val_four]
  show ((b.val * 2 + t.val) * 9 + c.val / 64) * 64 + c.val % 64 = (2 * b.val + t.val) * 576 + c.val
  omega

/-- The attended heads, the kernel's next to the reference's. -/
def SameHeads (a : FVec Ideal S72x192 .f32) (r : FVec Ideal Cert.ReferenceIdeal.S4x2x9x64 .f32) : Prop :=
  ∀ (h : Fin 9) (b : Fin 4) (t : Fin 2) (d : Fin 64), Layer.head (F := Ideal) a h (ix2 (tok b t) d) = r (ix4 b t h d)

theorem middle_eq (x : FVec Ideal S8x576 .f32) {a : FVec Ideal S72x192 .f32} {r : FVec Ideal Cert.ReferenceIdeal.S4x2x9x64 .f32} (h : SameHeads a r)
    (wo : Vec Ideal S1x288x576 .i8) (go : Vec Ideal S1x18x576 .bf16) :
    Layer.middle (F := Ideal) x a wo go = RefLayer.middle (F := Ideal) x r wo go := by
  have e : Layer.heads (F := Ideal) a = truncf .bf16 (shapeCast Cert.ReferenceIdeal.S8x576 r (by decide)) Cert.ReferenceIdeal.Gen.bitsLt_bf16_f32 := by
    refine ext2 fun i c => ?_
    rw [heads_apply, tok_split i, h]
    exact (flat_apply r _ _ c).symm
  refine ext2 fun i c => ?_
  unfold Layer.middle RefLayer.middle
  rw [e]
  exact congrArg (x (ix2 i c) + ·) ((Layer.proj_apply _ wo go i c).trans (RefLin.linear_apply RefLayer.facts_576 rfl rfl rfl _ wo go i c).symm)

theorem final_eq (x : FVec Ideal S8x576 .f32) {w : Vec Ideal S1x1x576 .f32} {r : Vec Ideal Cert.ReferenceIdeal.S1x576 .f32} (h : SameNorm w r)
    (wgu : Vec Ideal S1x288x3072 .i8) (ggu : Vec Ideal S1x18x3072 .bf16) (wd : Vec Ideal S1x768x576 .i8) (gd : Vec Ideal S1x48x576 .bf16) :
    Layer.final (F := Ideal) x w wgu ggu wd gd = RefLayer.final (F := Ideal) x r wgu ggu wd gd := by
  have e : Layer.gateUp (F := Ideal) (Layer.norm x w) wgu ggu = RefLin.linear RefLayer.facts_3072 (RefLayer.norm (F := Ideal) x r) wgu ggu := by
    refine ext2 fun i c => ?_
    rw [norm_eq x h]
    exact (Layer.gateUp_apply _ wgu ggu i c).trans (RefLin.linear_apply RefLayer.facts_3072 rfl rfl rfl _ wgu ggu i c).symm
  refine ext2 fun i c => ?_
  unfold Layer.final RefLayer.final
  rw [e]
  exact congrArg (x (ix2 i c) + ·) ((Layer.down_apply _ wd gd i c).trans (RefLin.linear_apply RefLayer.facts_down rfl rfl rfl _ wd gd i c).symm)

/-! ## The stored results -/

theorem ext3 {α : Type} {a b : ℕ} {x y : (⟨3, ![1, a, b]⟩ : Shape).Idx → α} (h : ∀ i j, x (ix3 0 i j) = y (ix3 0 i j)) : x = y := by
  funext q
  have e : q = ix3 0 (q 1) (q 2) := by
    funext k
    match k with
    | 0 => exact Subsingleton.elim (α := Fin 1) _ _
    | 1 => rfl
    | 2 => rfl
  rw [e]
  exact h _ _

theorem ext4 {α : Type} {a b c : ℕ} {x y : (⟨4, ![1, a, b, c]⟩ : Shape).Idx → α} (h : ∀ i j k, x (ix4 0 i j k) = y (ix4 0 i j k)) : x = y := by
  funext q
  have e : q = ix4 0 (q 1) (q 2) (q 3) := by
    funext k
    match k with
    | 0 => exact Subsingleton.elim (α := Fin 1) _ _
    | 1 => rfl
    | 2 => rfl
    | 3 => rfl
  rw [e]
  exact h _ _ _

theorem headsOut_eq {a : FVec Ideal S72x192 .f32} {r : FVec Ideal Cert.ReferenceIdeal.S4x2x9x64 .f32} (h : SameHeads a r) :
    Layer.headsOut (F := Ideal) a = Cert.ReferenceIdeal.Gen.k0_pay55 (F := Ideal) r := by
  refine ext4 fun k i d => ?_
  refine (Layer.headsOut_apply a k i d).trans ?_
  rw [tok_split i, h]
  unfold Cert.ReferenceIdeal.Gen.k0_pay55
  pointwise []
  have e : ∀ (p p' : Fin 4) (q q' : Fin 2), p = p' → q = q' → r (ix4 p q k d) = r (ix4 p' q' k d) := by
    rintro p _ q _ rfl rfl
    rfl
  exact e _ _ _ _ (Fin.ext (by show i.val / 2 = (2 * (i.val / 2) + i.val % 2) / 2; omega)) (Fin.ext (by show i.val % 2 = (2 * (i.val / 2) + i.val % 2) % 2; omega))

theorem codesOut_eq {x : Fin 3 → FVec Ideal S8x64 .f32} {r : FVec Ideal Cert.ReferenceIdeal.S4x2x3x64 .f32} (h : Same x r) :
    Layer.codesOut (F := Ideal) x = Cert.ReferenceIdeal.Gen.k0_pay56 (RefLayer.codes (F := Ideal) r) := by
  refine ext3 fun i c => ?_
  have e1 : Layer.codesOut (F := Ideal) x (ix3 0 i c) = FloatOps.fptosi (F := Ideal) 8 (Layer.codes3 (F := Ideal) x (ix2 i c)) := by
    pointwise [Layer.codesOut]
  have e2 : Cert.ReferenceIdeal.Gen.k0_pay56 (RefLayer.codes (F := Ideal) r) (ix3 0 i c)
      = shapeCast Cert.ReferenceIdeal.S8x192 (RefLayer.codes (F := Ideal) r) Cert.ReferenceIdeal.Gen.shapeCasts_S4x2x3x64_S8x192 (ix2 i c) := by
    unfold Cert.ReferenceIdeal.Gen.k0_pay56
    refine Idealize.ShloMosaic.shapeCast_apply _ _ _ _ ?_
    rw [Shape.rowMajor_val_two, Shape.rowMajor_val_three]
    show i.val * 192 + c.val = (0 * 8 + i.val) * 192 + c.val
    omega
  rw [e1, e2, Layer.codes3_apply, tok_split i, byte_eq h]
  refine (Idealize.ShloMosaic.shapeCast_apply _ _ _ _ ?_).symm
  rw [Shape.rowMajor_val_two, Shape.rowMajor_val_four]
  show ((i.val / 2 * 2 + i.val % 2) * 3 + c.val / 64) * 64 + c.val % 64 = (2 * (i.val / 2) + i.val % 2) * 192 + c.val
  omega

theorem scalesOut_eq {x : Fin 3 → FVec Ideal S8x64 .f32} {r : FVec Ideal Cert.ReferenceIdeal.S4x2x3x64 .f32} (h : Same x r) :
    Layer.scalesOut (F := Ideal) x = Cert.ReferenceIdeal.Gen.k0_pay57 (F := Ideal) (RefLayer.scale (F := Ideal) r) := by
  refine ext3 fun i k => ?_
  have e0 : Layer.scalesOut (F := Ideal) x (ix3 0 i k) = Layer.scale (F := Ideal) (x k) (ix2 i 0) := by
    unfold Layer.scalesOut
    refine Eq.trans (Idealize.ShloMosaic.shapeCast_apply _ _ _ (ix2 i k) ?_) ?_
    · rw [Shape.rowMajor_val_two, Shape.rowMajor_val_three]
      show i.val * 3 + k.val = (0 * 8 + i.val) * 3 + k.val
      omega
    have key : ∀ (q : Fin 3) (i : Fin 8) (l : Fin 1) (c : Fin 3), c.val = q.val + l.val →
        Layer.scale (F := Ideal) (x q) (ix2 i l) = Layer.scale (F := Ideal) (x c) (ix2 i 0) := by
      intro q i l c hc
      obtain rfl : c = q := Fin.ext (by omega)
      rw [Subsingleton.elim (α := Fin 1) l 0]
    exact cols (fun i k => Layer.scale (F := Ideal) (x k) (ix2 i 0)) _ _ (.cons (key 0) (.cons (key 1) (.cons (key 2) (.nil _)))) i k
  have e2 : Cert.ReferenceIdeal.Gen.k0_pay57 (F := Ideal) (RefLayer.scale (F := Ideal) r) (ix3 0 i k)
      = shapeCast Cert.ReferenceIdeal.S8x3 (RefLayer.scale (F := Ideal) r) Cert.ReferenceIdeal.Gen.shapeCasts_S4x2x3_S8x3 (ix2 i k) := by
    unfold Cert.ReferenceIdeal.Gen.k0_pay57
    refine Idealize.ShloMosaic.shapeCast_apply _ _ _ _ ?_
    rw [Shape.rowMajor_val_two, Shape.rowMajor_val_three]
    show i.val * 3 + k.val = (0 * 8 + i.val) * 3 + k.val
    omega
  rw [e0, e2, tok_split i, scale_eq h]
  refine (Idealize.ShloMosaic.shapeCast_apply _ _ _ _ ?_).symm
  rw [Shape.rowMajor_val_two, Shape.rowMajor_val_three]
  show (i.val / 2 * 2 + i.val % 2) * 3 + k.val = (2 * (i.val / 2) + i.val % 2) * 3 + k.val
  omega

end Cert.Match
-- ==== Proof.StageA.lean ====
/- What the body leaves in each result block, in the stages of `Layer`. -/
module

public import proofs.«01_k».proof.Proof.Run.KernelIdeal.Outs
public import proofs.«01_k».proof.Proof.Layer
public import Idealize.ShloMosaic.Lib.Pipeline.ValueKit
public import Idealize.ShloMosaic.Lib.Pipeline.ReadBack

@[expose] public section

set_option maxRecDepth 100000
set_option maxHeartbeats 1000000

open Idealize.ShloMosaic Idealize.ShloMosaic.TcCoe Idealize.SL.Sem

namespace Cert.KernelIdeal.Gen

open Cert.Layer

variable {F : FTy → Type} [FloatOps F]

section
variable (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i) (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16)

/-- Case A: the residual stream the point starts from. -/
theorem x_A : (@kernelRun0_A.sl.v3 F _ c arg2 harg2 arg3 harg3 arg26 x1 x2) = (start x1 x2) := by
  unfold kernelRun0_A.sl.v3
  simp only [kernelRun0_A.sl.HS0_1]
  simp (disch := decide) only [View.read_writes_junk_eq_canon, View.canon_cons_unit_lit', View.ld_unit_lit', View.readCov_unit_lit', View.readCov_cons_unit_lit', View.readAt_eq_ld, Memref.IsWhole.read_unread]
  rfl

/-- Case A: its query, key and value rows. -/
theorem y_A : (@kernelRun0_A.sl.r_78 F _ c arg2 harg2 arg3 harg3 arg10 harg10 arg12 harg12 arg13 harg13 arg26 x1 x2 x9 x11 x12) = (rows (start x1 x2) x9 x11 x12) := by
  have hx := @x_A F _ c arg2 harg2 arg3 harg3 arg26 x1 x2
  simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_7, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_8, kernelRun0_A.sl.r_9, hx]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize (start x1 x2) = X
  rfl

/-- Case A: the sequence of each row. -/
theorem r_A : kernelRun0_A.sl.v668 = rowSeq := by
  simp only [kernelRun0_A.sl.v628, kernelRun0_A.sl.v631, kernelRun0_A.sl.v633, kernelRun0_A.sl.v634, kernelRun0_A.sl.v636, kernelRun0_A.sl.v638, kernelRun0_A.sl.v640, kernelRun0_A.sl.v643, kernelRun0_A.sl.v644, kernelRun0_A.sl.v645, kernelRun0_A.sl.v649, kernelRun0_A.sl.v652, kernelRun0_A.sl.v659, kernelRun0_A.sl.v660, kernelRun0_A.sl.v664, kernelRun0_A.sl.v667, kernelRun0_A.sl.v668]
  rfl

/-- Case A: the new tokens each row sees. -/
theorem v_A : kernelRun0_A.sl.v933 = seen := by
  simp only [kernelRun0_A.sl.v882, kernelRun0_A.sl.v887, kernelRun0_A.sl.v888, kernelRun0_A.sl.v890, kernelRun0_A.sl.v897, kernelRun0_A.sl.v898, kernelRun0_A.sl.v899, kernelRun0_A.sl.v902, kernelRun0_A.sl.v906, kernelRun0_A.sl.v911, kernelRun0_A.sl.v914, kernelRun0_A.sl.v922, kernelRun0_A.sl.v926, kernelRun0_A.sl.v929, kernelRun0_A.sl.v930, kernelRun0_A.sl.v933]
  rfl

/-- Case A: its rotated rows. -/
theorem z_A : (@kernelRun0_A.sl.r_88 F _ c arg2 harg2 arg3 harg3 arg4 harg4 arg5 harg5 arg10 harg10 arg12 harg12 arg13 harg13 arg26 x1 x2 x3 x4 x9 x11 x12) = (rope (rows (start x1 x2) x9 x11 x12) x3 x4) := by
  have hy := @y_A F _ c arg2 harg2 arg3 harg3 arg10 harg10 arg12 harg12 arg13 harg13 arg26 x1 x2 x9 x11 x12
  unfold kernelRun0_A.sl.r_78 at hy
  simp only [kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, k0_pay88, k0_pay89, k0_pay90, k0_pay91, k0_pay92, k0_pay93, k0_pay94, hy]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize (rows (start x1 x2) x9 x11 x12) = Y
  rfl

/-- Case A: its rows of queries. -/
theorem q_A : (@kernelRun0_A.sl.r_89 F _ c arg2 harg2 arg3 harg3 arg4 harg4 arg5 harg5 arg10 harg10 arg12 harg12 arg13 harg13 arg26 x1 x2 x3 x4 x9 x11 x12) = (queries (rope (rows (start x1 x2) x9 x11 x12) x3 x4)) := by
  have hz := @z_A F _ c arg2 harg2 arg3 harg3 arg4 harg4 arg5 harg5 arg10 harg10 arg12 harg12 arg13 harg13 arg26 x1 x2 x3 x4 x9 x11 x12
  unfold kernelRun0_A.sl.r_88 at hz
  unfold kernelRun0_A.sl.r_89
  unfold k0_pay96
  rw [hz]
  generalize (rope (rows (start x1 x2) x9 x11 x12) x3 x4) = Z
  rfl

/-- Case A: its scores against the cache. -/
theorem s_A : (@kernelRun0_A.sl.r_115 F _ c arg1 harg1 arg2 harg2 arg3 harg3 arg4 harg4 arg5 harg5 arg6 harg6 arg7 harg7 arg10 harg10 arg12 harg12 arg13 harg13 arg26 x0 x1 x2 x3 x4 x5 x6 x9 x11 x12) = (scoreOld (queries (rope (rows (start x1 x2) x9 x11 x12) x3 x4)) x0 x5 x6) := by
  have hq := @q_A F _ c arg2 harg2 arg3 harg3 arg4 harg4 arg5 harg5 arg10 harg10 arg12 harg12 arg13 harg13 arg26 x1 x2 x3 x4 x9 x11 x12
  have hr := r_A
  simp only [kernelRun0_A.sl.r_109, kernelRun0_A.sl.r_111, kernelRun0_A.sl.r_112, kernelRun0_A.sl.r_113, kernelRun0_A.sl.r_114, kernelRun0_A.sl.r_115, kernelRun0_A.sl.v633, kernelRun0_A.sl.v645, kernelRun0_A.sl.v659, kernelRun0_A.sl.v705, kernelRun0_A.sl.v706, kernelRun0_A.sl.v707, kernelRun0_A.sl.v709, kernelRun0_A.sl.v710, kernelRun0_A.sl.v711, kernelRun0_A.sl.v713, kernelRun0_A.sl.v714, kernelRun0_A.sl.v715, kernelRun0_A.sl.v716, kernelRun0_A.sl.v720, kernelRun0_A.sl.v721, kernelRun0_A.sl.v722, kernelRun0_A.sl.v724, kernelRun0_A.sl.v725, kernelRun0_A.sl.v726, kernelRun0_A.sl.v728, kernelRun0_A.sl.v729, kernelRun0_A.sl.v730, kernelRun0_A.sl.v731, kernelRun0_A.sl.v732, kernelRun0_A.sl.v734, kernelRun0_A.sl.v738, kernelRun0_A.sl.v739, kernelRun0_A.sl.v740, kernelRun0_A.sl.v742, kernelRun0_A.sl.v743, kernelRun0_A.sl.v744, kernelRun0_A.sl.v746, kernelRun0_A.sl.v747, kernelRun0_A.sl.v748, kernelRun0_A.sl.v749, kernelRun0_A.sl.v750, kernelRun0_A.sl.v752, kernelRun0_A.sl.v756, kernelRun0_A.sl.v757, kernelRun0_A.sl.v758, kernelRun0_A.sl.v760, kernelRun0_A.sl.v761, kernelRun0_A.sl.v762, kernelRun0_A.sl.v764, kernelRun0_A.sl.v765, kernelRun0_A.sl.v766, kernelRun0_A.sl.v767, kernelRun0_A.sl.v768, kernelRun0_A.sl.v770, kernelRun0_A.sl.v839, hq, hr]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize (queries (rope (rows (start x1 x2) x9 x11 x12) x3 x4)) = Q
  rfl

/-- Case A: its scores against the new keys. -/
theorem t_A : k0_pay141 (@kernelRun0_A.sl.r_92 F _ c arg2 harg2 arg3 harg3 arg4 harg4 arg5 harg5 arg10 harg10 arg12 harg12 arg13 harg13 arg26 x1 x2 x3 x4 x9 x11 x12) (@kernelRun0_A.sl.r_99 F _ c arg2 harg2 arg3 harg3 arg4 harg4 arg5 harg5 arg10 harg10 arg12 harg12 arg13 harg13 arg26 x1 x2 x3 x4 x9 x11 x12) (@kernelRun0_A.sl.r_103 F _ c arg2 harg2 arg3 harg3 arg4 harg4 arg5 harg5 arg10 harg10 arg12 harg12 arg13 harg13 arg26 x1 x2 x3 x4 x9 x11 x12) (@kernelRun0_A.sl.r_116 F _ c arg2 harg2 arg3 harg3 arg4 harg4 arg5 harg5 arg10 harg10 arg12 harg12 arg13 harg13 arg26 x1 x2 x3 x4 x9 x11 x12) kernelRun0_A.sl.v933 = (scoreNew (queries (rope (rows (start x1 x2) x9 x11 x12) x3 x4)) (keyHead (rope (rows (start x1 x2) x9 x11 x12) x3 x4))) := by
  have hz := @z_A F _ c arg2 harg2 arg3 harg3 arg4 harg4 arg5 harg5 arg10 harg10 arg12 harg12 arg13 harg13 arg26 x1 x2 x3 x4 x9 x11 x12
  have hzr := hz
  unfold kernelRun0_A.sl.r_88 at hzr
  have hq := @q_A F _ c arg2 harg2 arg3 harg3 arg4 harg4 arg5 harg5 arg10 harg10 arg12 harg12 arg13 harg13 arg26 x1 x2 x3 x4 x9 x11 x12
  have hv := v_A
  simp only [kernelRun0_A.sl.cst_102, kernelRun0_A.sl.r_100, kernelRun0_A.sl.r_103, kernelRun0_A.sl.r_104, kernelRun0_A.sl.r_106, kernelRun0_A.sl.r_116, kernelRun0_A.sl.r_90, kernelRun0_A.sl.r_91, kernelRun0_A.sl.r_92, kernelRun0_A.sl.r_93, kernelRun0_A.sl.r_96, kernelRun0_A.sl.r_97, kernelRun0_A.sl.r_98, kernelRun0_A.sl.r_99, k0_pay97, k0_pay98, hz, hzr, hq, hv]
  generalize (queries (rope (rows (start x1 x2) x9 x11 x12) x3 x4)) = Q
  generalize (rope (rows (start x1 x2) x9 x11 x12) x3 x4) = Z
  rfl

/-- Case A: its peaks. -/
theorem p_A : k0_pay142 (@kernelRun0_A.sl.r_92 F _ c arg2 harg2 arg3 harg3 arg4 harg4 arg5 harg5 arg10 harg10 arg12 harg12 arg13 harg13 arg26 x1 x2 x3 x4 x9 x11 x12) (@kernelRun0_A.sl.r_99 F _ c arg2 harg2 arg3 harg3 arg4 harg4 arg5 harg5 arg10 harg10 arg12 harg12 arg13 harg13 arg26 x1 x2 x3 x4 x9 x11 x12) (@kernelRun0_A.sl.r_103 F _ c arg2 harg2 arg3 harg3 arg4 harg4 arg5 harg5 arg10 harg10 arg12 harg12 arg13 harg13 arg26 x1 x2 x3 x4 x9 x11 x12) (@kernelRun0_A.sl.r_115 F _ c arg1 harg1 arg2 harg2 arg3 harg3 arg4 harg4 arg5 harg5 arg6 harg6 arg7 harg7 arg10 harg10 arg12 harg12 arg13 harg13 arg26 x0 x1 x2 x3 x4 x5 x6 x9 x11 x12) (@kernelRun0_A.sl.r_116 F _ c arg2 harg2 arg3 harg3 arg4 harg4 arg5 harg5 arg10 harg10 arg12 harg12 arg13 harg13 arg26 x1 x2 x3 x4 x9 x11 x12) kernelRun0_A.sl.v933 = (peak (scoreOld (queries (rope (rows (start x1 x2) x9 x11 x12) x3 x4)) x0 x5 x6) (scoreNew (queries (rope (rows (start x1 x2) x9 x11 x12) x3 x4)) (keyHead (rope (rows (start x1 x2) x9 x11 x12) x3 x4)))) := by
  have ht := @t_A F _ c arg2 harg2 arg3 harg3 arg4 harg4 arg5 harg5 arg10 harg10 arg12 harg12 arg13 harg13 arg26 x1 x2 x3 x4 x9 x11 x12
  have hs := @s_A F _ c arg1 harg1 arg2 harg2 arg3 harg3 arg4 harg4 arg5 harg5 arg6 harg6 arg7 harg7 arg10 harg10 arg12 harg12 arg13 harg13 arg26 x0 x1 x2 x3 x4 x5 x6 x9 x11 x12
  unfold k0_pay142
  rw [ht, hs]
  generalize (scoreOld (queries (rope (rows (start x1 x2) x9 x11 x12) x3 x4)) x0 x5 x6) = SO
  rfl

/-- Case A: its weights of the new keys. -/
theorem e_A : (@kernelRun0_A.sl.r_117 F _ c arg1 harg1 arg2 harg2 arg3 harg3 arg4 harg4 arg5 harg5 arg6 harg6 arg7 harg7 arg10 harg10 arg12 harg12 arg13 harg13 arg26 x0 x1 x2 x3 x4 x5 x6 x9 x11 x12) = (expNew (scoreNew (queries (rope (rows (start x1 x2) x9 x11 x12) x3 x4)) (keyHead (rope (rows (start x1 x2) x9 x11 x12) x3 x4))) (peak (scoreOld (queries (rope (rows (start x1 x2) x9 x11 x12) x3 x4)) x0 x5 x6) (scoreNew (queries (rope (rows (start x1 x2) x9 x11 x12) x3 x4)) (keyHead (rope (rows (start x1 x2) x9 x11 x12) x3 x4))))) := by
  have ht := @t_A F _ c arg2 harg2 arg3 harg3 arg4 harg4 arg5 harg5 arg10 harg10 arg12 harg12 arg13 harg13 arg26 x1 x2 x3 x4 x9 x11 x12
  have hp := @p_A F _ c arg1 harg1 arg2 harg2 arg3 harg3 arg4 harg4 arg5 harg5 arg6 harg6 arg7 harg7 arg10 harg10 arg12 harg12 arg13 harg13 arg26 x0 x1 x2 x3 x4 x5 x6 x9 x11 x12
  have hs := @s_A F _ c arg1 harg1 arg2 harg2 arg3 harg3 arg4 harg4 arg5 harg5 arg6 harg6 arg7 harg7 arg10 harg10 arg12 harg12 arg13 harg13 arg26 x0 x1 x2 x3 x4 x5 x6 x9 x11 x12
  unfold kernelRun0_A.sl.r_117 k0_pay144
  rw [ht, hp]
  generalize (peak (scoreOld (queries (rope (rows (start x1 x2) x9 x11 x12) x3 x4)) x0 x5 x6) (scoreNew (queries (rope (rows (start x1 x2) x9 x11 x12) x3 x4)) (keyHead (rope (rows (start x1 x2) x9 x11 x12) x3 x4)))) = P
  generalize (scoreNew (queries (rope (rows (start x1 x2) x9 x11 x12) x3 x4)) (keyHead (rope (rows (start x1 x2) x9 x11 x12) x3 x4))) = SN
  rfl

/-- Case A: its total weights. -/
theorem f_A : (@kernelRun0_A.sl.r_118 F _ c arg1 harg1 arg2 harg2 arg3 harg3 arg4 harg4 arg5 harg5 arg6 harg6 arg7 harg7 arg10 harg10 arg12 harg12 arg13 harg13 arg26 x0 x1 x2 x3 x4 x5 x6 x9 x11 x12) = total (expOld (scoreOld (queries (rope (rows (start x1 x2) x9 x11 x12) x3 x4)) x0 x5 x6) (peak (scoreOld (queries (rope (rows (start x1 x2) x9 x11 x12) x3 x4)) x0 x5 x6) (scoreNew (queries (rope (rows (start x1 x2) x9 x11 x12) x3 x4)) (keyHead (rope (rows (start x1 x2) x9 x11 x12) x3 x4))))) (expNew (scoreNew (queries (rope (rows (start x1 x2) x9 x11 x12) x3 x4)) (keyHead (rope (rows (start x1 x2) x9 x11 x12) x3 x4))) (peak (scoreOld (queries (rope (rows (start x1 x2) x9 x11 x12) x3 x4)) x0 x5 x6) (scoreNew (queries (rope (rows (start x1 x2) x9 x11 x12) x3 x4)) (keyHead (rope (rows (start x1 x2) x9 x11 x12) x3 x4))))) := by
  have ht := @t_A F _ c arg2 harg2 arg3 harg3 arg4 harg4 arg5 harg5 arg10 harg10 arg12 harg12 arg13 harg13 arg26 x1 x2 x3 x4 x9 x11 x12
  have hp := @p_A F _ c arg1 harg1 arg2 harg2 arg3 harg3 arg4 harg4 arg5 harg5 arg6 harg6 arg7 harg7 arg10 harg10 arg12 harg12 arg13 harg13 arg26 x0 x1 x2 x3 x4 x5 x6 x9 x11 x12
  have hs := @s_A F _ c arg1 harg1 arg2 harg2 arg3 harg3 arg4 harg4 arg5 harg5 arg6 harg6 arg7 harg7 arg10 harg10 arg12 harg12 arg13 harg13 arg26 x0 x1 x2 x3 x4 x5 x6 x9 x11 x12
  unfold kernelRun0_A.sl.r_118 k0_pay145 k0_pay143 k0_pay144
  rw [ht, hp, hs]
  generalize (peak (scoreOld (queries (rope (rows (start x1 x2) x9 x11 x12) x3 x4)) x0 x5 x6) (scoreNew (queries (rope (rows (start x1 x2) x9 x11 x12) x3 x4)) (keyHead (rope (rows (start x1 x2) x9 x11 x12) x3 x4)))) = P
  generalize (scoreNew (queries (rope (rows (start x1 x2) x9 x11 x12) x3 x4)) (keyHead (rope (rows (start x1 x2) x9 x11 x12) x3 x4))) = SN
  generalize (scoreOld (queries (rope (rows (start x1 x2) x9 x11 x12) x3 x4)) x0 x5 x6) = SO
  rfl

/-- Case A: its weights of the cache, each with its scale. -/
theorem g_A : (@kernelRun0_A.sl.r_119 F _ c arg1 harg1 arg2 harg2 arg3 harg3 arg4 harg4 arg5 harg5 arg6 harg6 arg7 harg7 arg9 harg9 arg10 harg10 arg12 harg12 arg13 harg13 arg26 x0 x1 x2 x3 x4 x5 x6 x8 x9 x11 x12) = truncf .bf16 (mulf (expOld (scoreOld (queries (rope (rows (start x1 x2) x9 x11 x12) x3 x4)) x0 x5 x6) (peak (scoreOld (queries (rope (rows (start x1 x2) x9 x11 x12) x3 x4)) x0 x5 x6) (scoreNew (queries (rope (rows (start x1 x2) x9 x11 x12) x3 x4)) (keyHead (rope (rows (start x1 x2) x9 x11 x12) x3 x4))))) (pick broadcasts_S72x1_S72x1024 (cachedScales x8))) bitsLt_bf16_f32 := by
  have ht := @t_A F _ c arg2 harg2 arg3 harg3 arg4 harg4 arg5 harg5 arg10 harg10 arg12 harg12 arg13 harg13 arg26 x1 x2 x3 x4 x9 x11 x12
  have hp := @p_A F _ c arg1 harg1 arg2 harg2 arg3 harg3 arg4 harg4 arg5 harg5 arg6 harg6 arg7 harg7 arg10 harg10 arg12 harg12 arg13 harg13 arg26 x0 x1 x2 x3 x4 x5 x6 x9 x11 x12
  have hs := @s_A F _ c arg1 harg1 arg2 harg2 arg3 harg3 arg4 harg4 arg5 harg5 arg6 harg6 arg7 harg7 arg10 harg10 arg12 harg12 arg13 harg13 arg26 x0 x1 x2 x3 x4 x5 x6 x9 x11 x12
  have hr := r_A
  unfold kernelRun0_A.sl.r_119 k0_pay146 k0_pay143
  rw [hp, hs]
  simp only [kernelRun0_A.sl.r_110, kernelRun0_A.sl.v633, kernelRun0_A.sl.v645, kernelRun0_A.sl.v659, kernelRun0_A.sl.v732, kernelRun0_A.sl.v750, kernelRun0_A.sl.v768, kernelRun0_A.sl.v772, kernelRun0_A.sl.v773, kernelRun0_A.sl.v774, kernelRun0_A.sl.v776, kernelRun0_A.sl.v777, kernelRun0_A.sl.v778, kernelRun0_A.sl.v780, kernelRun0_A.sl.v781, kernelRun0_A.sl.v782, kernelRun0_A.sl.v783, kernelRun0_A.sl.v787, kernelRun0_A.sl.v788, kernelRun0_A.sl.v789, kernelRun0_A.sl.v791, kernelRun0_A.sl.v792, kernelRun0_A.sl.v793, kernelRun0_A.sl.v795, kernelRun0_A.sl.v796, kernelRun0_A.sl.v797, kernelRun0_A.sl.v798, kernelRun0_A.sl.v801, kernelRun0_A.sl.v805, kernelRun0_A.sl.v806, kernelRun0_A.sl.v807, kernelRun0_A.sl.v809, kernelRun0_A.sl.v810, kernelRun0_A.sl.v811, kernelRun0_A.sl.v813, kernelRun0_A.sl.v814, kernelRun0_A.sl.v815, kernelRun0_A.sl.v816, kernelRun0_A.sl.v819, kernelRun0_A.sl.v823, kernelRun0_A.sl.v824, kernelRun0_A.sl.v825, kernelRun0_A.sl.v827, kernelRun0_A.sl.v828, kernelRun0_A.sl.v829, kernelRun0_A.sl.v831, kernelRun0_A.sl.v832, kernelRun0_A.sl.v833, kernelRun0_A.sl.v834, kernelRun0_A.sl.v837, hr]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize (peak (scoreOld (queries (rope (rows (start x1 x2) x9 x11 x12) x3 x4)) x0 x5 x6) (scoreNew (queries (rope (rows (start x1 x2) x9 x11 x12) x3 x4)) (keyHead (rope (rows (start x1 x2) x9 x11 x12) x3 x4)))) = P
  generalize (scoreNew (queries (rope (rows (start x1 x2) x9 x11 x12) x3 x4)) (keyHead (rope (rows (start x1 x2) x9 x11 x12) x3 x4))) = SN
  generalize (scoreOld (queries (rope (rows (start x1 x2) x9 x11 x12) x3 x4)) x0 x5 x6) = SO
  rfl

/-- Case A: the attended rows. -/
theorem a_A : (@kernelRun0_A.sl.r_124 F _ c arg1 harg1 arg2 harg2 arg3 harg3 arg4 harg4 arg5 harg5 arg6 harg6 arg7 harg7 arg8 harg8 arg9 harg9 arg10 harg10 arg12 harg12 arg13 harg13 arg26 x0 x1 x2 x3 x4 x5 x6 x7 x8 x9 x11 x12) = (attended (rows (start x1 x2) x9 x11 x12) x0 x3 x4 x5 x6 x7 x8) := by
  have he := @e_A F _ c arg1 harg1 arg2 harg2 arg3 harg3 arg4 harg4 arg5 harg5 arg6 harg6 arg7 harg7 arg10 harg10 arg12 harg12 arg13 harg13 arg26 x0 x1 x2 x3 x4 x5 x6 x9 x11 x12
  have hf := @f_A F _ c arg1 harg1 arg2 harg2 arg3 harg3 arg4 harg4 arg5 harg5 arg6 harg6 arg7 harg7 arg10 harg10 arg12 harg12 arg13 harg13 arg26 x0 x1 x2 x3 x4 x5 x6 x9 x11 x12
  have hg := @g_A F _ c arg1 harg1 arg2 harg2 arg3 harg3 arg4 harg4 arg5 harg5 arg6 harg6 arg7 harg7 arg9 harg9 arg10 harg10 arg12 harg12 arg13 harg13 arg26 x0 x1 x2 x3 x4 x5 x6 x8 x9 x11 x12
  have hy := @y_A F _ c arg2 harg2 arg3 harg3 arg10 harg10 arg12 harg12 arg13 harg13 arg26 x1 x2 x9 x11 x12
  have hr := r_A
  have hyr := hy
  unfold kernelRun0_A.sl.r_78 at hyr
  simp only [kernelRun0_A.sl.r_101, kernelRun0_A.sl.r_102, kernelRun0_A.sl.r_105, kernelRun0_A.sl.r_107, kernelRun0_A.sl.r_120, kernelRun0_A.sl.r_121, kernelRun0_A.sl.r_122, kernelRun0_A.sl.r_123, kernelRun0_A.sl.r_124, kernelRun0_A.sl.r_94, kernelRun0_A.sl.r_95, he, hf, hg, hy, hyr, hr]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  change _ = mix (expOld (scoreOld (queries (rope (rows (start x1 x2) x9 x11 x12) x3 x4)) x0 x5 x6) (peak (scoreOld (queries (rope (rows (start x1 x2) x9 x11 x12) x3 x4)) x0 x5 x6) (scoreNew (queries (rope (rows (start x1 x2) x9 x11 x12) x3 x4)) (keyHead (rope (rows (start x1 x2) x9 x11 x12) x3 x4))))) (expNew (scoreNew (queries (rope (rows (start x1 x2) x9 x11 x12) x3 x4)) (keyHead (rope (rows (start x1 x2) x9 x11 x12) x3 x4))) (peak (scoreOld (queries (rope (rows (start x1 x2) x9 x11 x12) x3 x4)) x0 x5 x6) (scoreNew (queries (rope (rows (start x1 x2) x9 x11 x12) x3 x4)) (keyHead (rope (rows (start x1 x2) x9 x11 x12) x3 x4))))) x7 x8 (valueHead (rows (start x1 x2) x9 x11 x12))
  generalize (expNew (scoreNew (queries (rope (rows (start x1 x2) x9 x11 x12) x3 x4)) (keyHead (rope (rows (start x1 x2) x9 x11 x12) x3 x4))) (peak (scoreOld (queries (rope (rows (start x1 x2) x9 x11 x12) x3 x4)) x0 x5 x6) (scoreNew (queries (rope (rows (start x1 x2) x9 x11 x12) x3 x4)) (keyHead (rope (rows (start x1 x2) x9 x11 x12) x3 x4))))) = EN
  generalize (expOld (scoreOld (queries (rope (rows (start x1 x2) x9 x11 x12) x3 x4)) x0 x5 x6) (peak (scoreOld (queries (rope (rows (start x1 x2) x9 x11 x12) x3 x4)) x0 x5 x6) (scoreNew (queries (rope (rows (start x1 x2) x9 x11 x12) x3 x4)) (keyHead (rope (rows (start x1 x2) x9 x11 x12) x3 x4))))) = EO
  generalize (rows (start x1 x2) x9 x11 x12) = Y
  rfl

/-- Case A: the residual stream after attention. -/
theorem m_A : (@kernelRun0_A.sl.r_178 F _ c arg1 harg1 arg2 harg2 arg3 harg3 arg4 harg4 arg5 harg5 arg6 harg6 arg7 harg7 arg8 harg8 arg9 harg9 arg10 harg10 arg12 harg12 arg13 harg13 arg14 harg14 arg15 harg15 arg26 x0 x1 x2 x3 x4 x5 x6 x7 x8 x9 x11 x12 x13 x14) = (middle (start x1 x2) (attended (rows (start x1 x2) x9 x11 x12) x0 x3 x4 x5 x6 x7 x8) x13 x14) := by
  have hx := @x_A F _ c arg2 harg2 arg3 harg3 arg26 x1 x2
  have ha := @a_A F _ c arg1 harg1 arg2 harg2 arg3 harg3 arg4 harg4 arg5 harg5 arg6 harg6 arg7 harg7 arg8 harg8 arg9 harg9 arg10 harg10 arg12 harg12 arg13 harg13 arg26 x0 x1 x2 x3 x4 x5 x6 x7 x8 x9 x11 x12
  unfold kernelRun0_A.sl.r_124 at ha
  simp only [kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, k0_pay153, k0_pay155, k0_pay157, k0_pay159, k0_pay161, ha, hx]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize (attended (rows (start x1 x2) x9 x11 x12) x0 x3 x4 x5 x6 x7 x8) = A
  generalize (start x1 x2) = X
  rfl

/-- Case A: the normalised rows. -/
theorem n_A : (@kernelRun0_A.sl.r_179 F _ c arg1 harg1 arg2 harg2 arg3 harg3 arg4 harg4 arg5 harg5 arg6 harg6 arg7 harg7 arg8 harg8 arg9 harg9 arg10 harg10 arg11 harg11 arg12 harg12 arg13 harg13 arg14 harg14 arg15 harg15 arg26 x0 x1 x2 x3 x4 x5 x6 x7 x8 x9 x10 x11 x12 x13 x14) = (norm (middle (start x1 x2) (attended (rows (start x1 x2) x9 x11 x12) x0 x3 x4 x5 x6 x7 x8) x13 x14) x10) := by
  have hm := @m_A F _ c arg1 harg1 arg2 harg2 arg3 harg3 arg4 harg4 arg5 harg5 arg6 harg6 arg7 harg7 arg8 harg8 arg9 harg9 arg10 harg10 arg12 harg12 arg13 harg13 arg14 harg14 arg15 harg15 arg26 x0 x1 x2 x3 x4 x5 x6 x7 x8 x9 x11 x12 x13 x14
  unfold kernelRun0_A.sl.r_178 at hm
  unfold kernelRun0_A.sl.r_179
  simp only [k0_pay220, hm]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize (middle (start x1 x2) (attended (rows (start x1 x2) x9 x11 x12) x0 x3 x4 x5 x6 x7 x8) x13 x14) = M
  rfl

/-- Case A: the gated activation. -/
theorem u_A : (@kernelRun0_A.sl.r_353 F _ c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg26 x0 x1 x2 x3 x4 x5 x6 x7 x8 x9 x10 x11 x12 x13 x14 x15 x16) = (act (gateUp (norm (middle (start x1 x2) (attended (rows (start x1 x2) x9 x11 x12) x0 x3 x4 x5 x6 x7 x8) x13 x14) x10) x15 x16)) := by
  have hn := @n_A F _ c arg1 harg1 arg2 harg2 arg3 harg3 arg4 harg4 arg5 harg5 arg6 harg6 arg7 harg7 arg8 harg8 arg9 harg9 arg10 harg10 arg11 harg11 arg12 harg12 arg13 harg13 arg14 harg14 arg15 harg15 arg26 x0 x1 x2 x3 x4 x5 x6 x7 x8 x9 x10 x11 x12 x13 x14
  unfold kernelRun0_A.sl.r_179 at hn
  simp only [kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.r_226, kernelRun0_A.sl.r_227, kernelRun0_A.sl.r_228, kernelRun0_A.sl.r_229, kernelRun0_A.sl.r_230, kernelRun0_A.sl.r_231, kernelRun0_A.sl.r_232, kernelRun0_A.sl.r_233, kernelRun0_A.sl.r_234, kernelRun0_A.sl.r_235, kernelRun0_A.sl.r_236, kernelRun0_A.sl.r_237, kernelRun0_A.sl.r_238, kernelRun0_A.sl.r_239, kernelRun0_A.sl.r_240, kernelRun0_A.sl.r_241, kernelRun0_A.sl.r_242, kernelRun0_A.sl.r_243, kernelRun0_A.sl.r_244, kernelRun0_A.sl.r_245, kernelRun0_A.sl.r_246, kernelRun0_A.sl.r_247, kernelRun0_A.sl.r_248, kernelRun0_A.sl.r_249, kernelRun0_A.sl.r_250, kernelRun0_A.sl.r_251, kernelRun0_A.sl.r_252, kernelRun0_A.sl.r_253, kernelRun0_A.sl.r_254, kernelRun0_A.sl.r_255, kernelRun0_A.sl.r_256, kernelRun0_A.sl.r_257, kernelRun0_A.sl.r_258, kernelRun0_A.sl.r_259, kernelRun0_A.sl.r_260, kernelRun0_A.sl.r_261, kernelRun0_A.sl.r_262, kernelRun0_A.sl.r_263, kernelRun0_A.sl.r_264, kernelRun0_A.sl.r_265, kernelRun0_A.sl.r_266, kernelRun0_A.sl.r_267, kernelRun0_A.sl.r_268, kernelRun0_A.sl.r_269, kernelRun0_A.sl.r_270, kernelRun0_A.sl.r_271, kernelRun0_A.sl.r_272, kernelRun0_A.sl.r_273, kernelRun0_A.sl.r_274, kernelRun0_A.sl.r_275, kernelRun0_A.sl.r_276, kernelRun0_A.sl.r_277, kernelRun0_A.sl.r_278, kernelRun0_A.sl.r_279, kernelRun0_A.sl.r_280, kernelRun0_A.sl.r_281, kernelRun0_A.sl.r_282, kernelRun0_A.sl.r_283, kernelRun0_A.sl.r_284, kernelRun0_A.sl.r_285, kernelRun0_A.sl.r_286, kernelRun0_A.sl.r_287, kernelRun0_A.sl.r_288, kernelRun0_A.sl.r_289, kernelRun0_A.sl.r_290, kernelRun0_A.sl.r_291, kernelRun0_A.sl.r_292, kernelRun0_A.sl.r_293, kernelRun0_A.sl.r_294, kernelRun0_A.sl.r_295, kernelRun0_A.sl.r_296, kernelRun0_A.sl.r_297, kernelRun0_A.sl.r_298, kernelRun0_A.sl.r_299, kernelRun0_A.sl.r_300, kernelRun0_A.sl.r_301, kernelRun0_A.sl.r_302, kernelRun0_A.sl.r_303, kernelRun0_A.sl.r_304, kernelRun0_A.sl.r_305, kernelRun0_A.sl.r_306, kernelRun0_A.sl.r_307, kernelRun0_A.sl.r_308, kernelRun0_A.sl.r_309, kernelRun0_A.sl.r_310, kernelRun0_A.sl.r_311, kernelRun0_A.sl.r_312, kernelRun0_A.sl.r_313, kernelRun0_A.sl.r_314, kernelRun0_A.sl.r_315, kernelRun0_A.sl.r_316, kernelRun0_A.sl.r_317, kernelRun0_A.sl.r_318, kernelRun0_A.sl.r_319, kernelRun0_A.sl.r_320, kernelRun0_A.sl.r_321, kernelRun0_A.sl.r_322, kernelRun0_A.sl.r_323, kernelRun0_A.sl.r_324, kernelRun0_A.sl.r_325, kernelRun0_A.sl.r_326, kernelRun0_A.sl.r_327, kernelRun0_A.sl.r_328, kernelRun0_A.sl.r_329, kernelRun0_A.sl.r_330, kernelRun0_A.sl.r_331, kernelRun0_A.sl.r_332, kernelRun0_A.sl.r_333, kernelRun0_A.sl.r_334, kernelRun0_A.sl.r_335, kernelRun0_A.sl.r_336, kernelRun0_A.sl.r_337, kernelRun0_A.sl.r_338, kernelRun0_A.sl.r_339, kernelRun0_A.sl.r_340, kernelRun0_A.sl.r_341, kernelRun0_A.sl.r_342, kernelRun0_A.sl.r_343, kernelRun0_A.sl.r_344, kernelRun0_A.sl.r_345, kernelRun0_A.sl.r_346, kernelRun0_A.sl.r_347, kernelRun0_A.sl.r_348, kernelRun0_A.sl.r_349, kernelRun0_A.sl.r_350, kernelRun0_A.sl.r_351, kernelRun0_A.sl.r_352, kernelRun0_A.sl.r_353, k0_pay222, hn]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize (norm (middle (start x1 x2) (attended (rows (start x1 x2) x9 x11 x12) x0 x3 x4 x5 x6 x7 x8) x13 x14) x10) = N
  rfl

end

end Cert.KernelIdeal.Gen
-- ==== Proof.BridgeA.lean ====
/- What the body leaves in each result block, in the stages of `Layer`. -/
module

public import proofs.«01_k».proof.Proof.StageA
public import proofs.«01_k».proof.Proof.HeadsOut
public import Idealize.ShloMosaic.Lib.Pipeline.ValueKit
public import Idealize.ShloMosaic.Lib.Pipeline.ReadBack

@[expose] public section

set_option maxRecDepth 100000
set_option maxHeartbeats 1000000

open Idealize.ShloMosaic Idealize.ShloMosaic.TcCoe Idealize.SL.Sem

namespace Cert.KernelIdeal.Gen

open Cert.Layer

variable {F : FTy → Type} [FloatOps F]

section
variable (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : cond0_0 i) (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16)

/-- Case A: the residual stream after the layer. -/
theorem d_A : k0_pay1 (@kernelRun0_A.sl.r_178 F _ c arg1 harg1 arg2 harg2 arg3 harg3 arg4 harg4 arg5 harg5 arg6 harg6 arg7 harg7 arg8 harg8 arg9 harg9 arg10 harg10 arg12 harg12 arg13 harg13 arg14 harg14 arg15 harg15 arg26 x0 x1 x2 x3 x4 x5 x6 x7 x8 x9 x11 x12 x13 x14) (@kernelRun0_A.sl.r_405 F _ c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 x0 x1 x2 x3 x4 x5 x6 x7 x8 x9 x10 x11 x12 x13 x14 x15 x16 x17 x18) (@kernelRun0_A.sl.r_462 F _ c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 x0 x1 x2 x3 x4 x5 x6 x7 x8 x9 x10 x11 x12 x13 x14 x15 x16 x17 x18) (@kernelRun0_A.sl.r_489 F _ c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 x0 x1 x2 x3 x4 x5 x6 x7 x8 x9 x10 x11 x12 x13 x14 x15 x16 x17 x18) (@kernelRun0_A.sl.r_490 F _ c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg26 x0 x1 x2 x3 x4 x5 x6 x7 x8 x9 x10 x11 x12 x13 x14 x15 x16) (@kernelRun0_A.sl.r_504 F _ c arg18 harg18 arg19 harg19 x17 x18) (@kernelRun0_A.sl.cst_631 F _) = (final (middle (start x1 x2) (attended (rows (start x1 x2) x9 x11 x12) x0 x3 x4 x5 x6 x7 x8) x13 x14) x10 x15 x16 x17 x18) := by
  have hm := @m_A F _ c arg1 harg1 arg2 harg2 arg3 harg3 arg4 harg4 arg5 harg5 arg6 harg6 arg7 harg7 arg8 harg8 arg9 harg9 arg10 harg10 arg12 harg12 arg13 harg13 arg14 harg14 arg15 harg15 arg26 x0 x1 x2 x3 x4 x5 x6 x7 x8 x9 x11 x12 x13 x14
  have hu := @u_A F _ c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg26 x0 x1 x2 x3 x4 x5 x6 x7 x8 x9 x10 x11 x12 x13 x14 x15 x16
  have hur := hu
  unfold kernelRun0_A.sl.r_353 at hur
  simp only [kernelRun0_A.sl.cst_631, kernelRun0_A.sl.r_354, kernelRun0_A.sl.r_355, kernelRun0_A.sl.r_356, kernelRun0_A.sl.r_357, kernelRun0_A.sl.r_358, kernelRun0_A.sl.r_359, kernelRun0_A.sl.r_360, kernelRun0_A.sl.r_361, kernelRun0_A.sl.r_362, kernelRun0_A.sl.r_363, kernelRun0_A.sl.r_364, kernelRun0_A.sl.r_365, kernelRun0_A.sl.r_366, kernelRun0_A.sl.r_367, kernelRun0_A.sl.r_368, kernelRun0_A.sl.r_369, kernelRun0_A.sl.r_370, kernelRun0_A.sl.r_371, kernelRun0_A.sl.r_372, kernelRun0_A.sl.r_373, kernelRun0_A.sl.r_374, kernelRun0_A.sl.r_375, kernelRun0_A.sl.r_376, kernelRun0_A.sl.r_377, kernelRun0_A.sl.r_378, kernelRun0_A.sl.r_379, kernelRun0_A.sl.r_380, kernelRun0_A.sl.r_381, kernelRun0_A.sl.r_382, kernelRun0_A.sl.r_383, kernelRun0_A.sl.r_384, kernelRun0_A.sl.r_385, kernelRun0_A.sl.r_386, kernelRun0_A.sl.r_387, kernelRun0_A.sl.r_388, kernelRun0_A.sl.r_389, kernelRun0_A.sl.r_390, kernelRun0_A.sl.r_391, kernelRun0_A.sl.r_392, kernelRun0_A.sl.r_393, kernelRun0_A.sl.r_394, kernelRun0_A.sl.r_395, kernelRun0_A.sl.r_396, kernelRun0_A.sl.r_397, kernelRun0_A.sl.r_398, kernelRun0_A.sl.r_399, kernelRun0_A.sl.r_400, kernelRun0_A.sl.r_401, kernelRun0_A.sl.r_402, kernelRun0_A.sl.r_403, kernelRun0_A.sl.r_404, kernelRun0_A.sl.r_405, kernelRun0_A.sl.r_406, kernelRun0_A.sl.r_407, kernelRun0_A.sl.r_408, kernelRun0_A.sl.r_409, kernelRun0_A.sl.r_410, kernelRun0_A.sl.r_411, kernelRun0_A.sl.r_412, kernelRun0_A.sl.r_413, kernelRun0_A.sl.r_414, kernelRun0_A.sl.r_415, kernelRun0_A.sl.r_416, kernelRun0_A.sl.r_417, kernelRun0_A.sl.r_418, kernelRun0_A.sl.r_419, kernelRun0_A.sl.r_420, kernelRun0_A.sl.r_421, kernelRun0_A.sl.r_422, kernelRun0_A.sl.r_423, kernelRun0_A.sl.r_424, kernelRun0_A.sl.r_425, kernelRun0_A.sl.r_426, kernelRun0_A.sl.r_427, kernelRun0_A.sl.r_428, kernelRun0_A.sl.r_429, kernelRun0_A.sl.r_430, kernelRun0_A.sl.r_431, kernelRun0_A.sl.r_432, kernelRun0_A.sl.r_433, kernelRun0_A.sl.r_434, kernelRun0_A.sl.r_435, kernelRun0_A.sl.r_436, kernelRun0_A.sl.r_437, kernelRun0_A.sl.r_438, kernelRun0_A.sl.r_439, kernelRun0_A.sl.r_440, kernelRun0_A.sl.r_441, kernelRun0_A.sl.r_442, kernelRun0_A.sl.r_443, kernelRun0_A.sl.r_444, kernelRun0_A.sl.r_445, kernelRun0_A.sl.r_446, kernelRun0_A.sl.r_447, kernelRun0_A.sl.r_448, kernelRun0_A.sl.r_449, kernelRun0_A.sl.r_450, kernelRun0_A.sl.r_451, kernelRun0_A.sl.r_452, kernelRun0_A.sl.r_453, kernelRun0_A.sl.r_454, kernelRun0_A.sl.r_455, kernelRun0_A.sl.r_456, kernelRun0_A.sl.r_457, kernelRun0_A.sl.r_458, kernelRun0_A.sl.r_459, kernelRun0_A.sl.r_460, kernelRun0_A.sl.r_461, kernelRun0_A.sl.r_462, kernelRun0_A.sl.r_463, kernelRun0_A.sl.r_464, kernelRun0_A.sl.r_465, kernelRun0_A.sl.r_466, kernelRun0_A.sl.r_467, kernelRun0_A.sl.r_468, kernelRun0_A.sl.r_469, kernelRun0_A.sl.r_470, kernelRun0_A.sl.r_471, kernelRun0_A.sl.r_472, kernelRun0_A.sl.r_473, kernelRun0_A.sl.r_474, kernelRun0_A.sl.r_475, kernelRun0_A.sl.r_476, kernelRun0_A.sl.r_477, kernelRun0_A.sl.r_478, kernelRun0_A.sl.r_479, kernelRun0_A.sl.r_480, kernelRun0_A.sl.r_481, kernelRun0_A.sl.r_482, kernelRun0_A.sl.r_483, kernelRun0_A.sl.r_484, kernelRun0_A.sl.r_485, kernelRun0_A.sl.r_486, kernelRun0_A.sl.r_487, kernelRun0_A.sl.r_488, kernelRun0_A.sl.r_489, kernelRun0_A.sl.r_490, kernelRun0_A.sl.r_491, kernelRun0_A.sl.r_492, kernelRun0_A.sl.r_493, kernelRun0_A.sl.r_494, kernelRun0_A.sl.r_495, kernelRun0_A.sl.r_496, kernelRun0_A.sl.r_497, kernelRun0_A.sl.r_498, kernelRun0_A.sl.r_499, kernelRun0_A.sl.r_500, kernelRun0_A.sl.r_501, kernelRun0_A.sl.r_502, kernelRun0_A.sl.r_503, kernelRun0_A.sl.r_504, k0_pay398, hm, hu, hur]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  unfold final
  generalize (act (gateUp (norm (middle (start x1 x2) (attended (rows (start x1 x2) x9 x11 x12) x0 x3 x4 x5 x6 x7 x8) x13 x14) x10) x15 x16)) = U
  generalize (middle (start x1 x2) (attended (rows (start x1 x2) x9 x11 x12) x0 x3 x4 x5 x6 x7 x8) x13 x14) = M
  rfl

/-- Case A: the stored residual stream -/
theorem out0_A_19_eq : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 = shapeCast S1x8x576 (final (middle (start x1 x2) (attended (rows (start x1 x2) x9 x11 x12) x0 x3 x4 x5 x6 x7 x8) x13 x14) x10 x15 x16 x17 x18) shapeCasts_S8x576_S1x8x576 := by
  unfold out0_A_19 kernelRun0_A
  dsimp only
  simp (disch := decide) only [View.read_writes_junk_eq_canon, View.canon_cons_unit_lit', View.ld_unit_lit', View.readCov_unit_lit', View.readCov_cons_unit_lit', View.readAt_eq_ld, Memref.IsWhole.read_unread]
  unfold k0_pay2
  rw [@d_A F _ c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 x0 x1 x2 x3 x4 x5 x6 x7 x8 x9 x10 x11 x12 x13 x14 x15 x16 x17 x18]

/-- Case A: the stored attention heads -/
theorem out0_A_20_eq : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 = headsOut (attended (rows (start x1 x2) x9 x11 x12) x0 x3 x4 x5 x6 x7 x8) := by
  unfold out0_A_20 kernelRun0_A
  dsimp only
  have ha := @a_A F _ c arg1 harg1 arg2 harg2 arg3 harg3 arg4 harg4 arg5 harg5 arg6 harg6 arg7 harg7 arg8 harg8 arg9 harg9 arg10 harg10 arg12 harg12 arg13 harg13 arg26 x0 x1 x2 x3 x4 x5 x6 x7 x8 x9 x11 x12
  have har := ha
  unfold kernelRun0_A.sl.r_124 at har
  simp only [kernelRun0_A.sl.r_125, kernelRun0_A.sl.r_126, kernelRun0_A.sl.r_127, kernelRun0_A.sl.r_128, kernelRun0_A.sl.r_129, k0_pay153, k0_pay154, k0_pay155, k0_pay156, k0_pay157, k0_pay158, k0_pay159, k0_pay160, k0_pay161]
  simp only [View.read_writes_junk_eq_canon]
  rw [har]
  try rw [ha]
  generalize (attended (rows (start x1 x2) x9 x11 x12) x0 x3 x4 x5 x6 x7 x8) = A
  rfl

/-- Case A: the stored key codes -/
theorem out0_A_21_eq : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 = codesOut (keyHead (rope (rows (start x1 x2) x9 x11 x12) x3 x4)) := by
  unfold out0_A_21 kernelRun0_A
  dsimp only
  simp (disch := decide) only [View.read_writes_junk_eq_canon, View.canon_cons_unit_lit', View.ld_unit_lit', View.readCov_unit_lit', View.readCov_cons_unit_lit', View.readAt_eq_ld, Memref.IsWhole.read_unread]
  have hy := @y_A F _ c arg2 harg2 arg3 harg3 arg10 harg10 arg12 harg12 arg13 harg13 arg26 x1 x2 x9 x11 x12
  have hz := @z_A F _ c arg2 harg2 arg3 harg3 arg4 harg4 arg5 harg5 arg10 harg10 arg12 harg12 arg13 harg13 arg26 x1 x2 x3 x4 x9 x11 x12
  have hzr := hz
  unfold kernelRun0_A.sl.r_88 at hzr
  simp only [kernelRun0_A.sl.cst_102, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.v627, k0_pay97, k0_pay98, hz, hzr]
  repeat rw [hzr]
  repeat rw [hz]
  repeat rw [hy]
  generalize (rope (rows (start x1 x2) x9 x11 x12) x3 x4) = Z
  generalize (rows (start x1 x2) x9 x11 x12) = Y
  rfl

/-- Case A: the stored key scales -/
theorem out0_A_22_eq : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 = scalesOut (keyHead (rope (rows (start x1 x2) x9 x11 x12) x3 x4)) := by
  unfold out0_A_22 kernelRun0_A
  dsimp only
  simp (disch := decide) only [View.read_writes_junk_eq_canon, View.canon_cons_unit_lit', View.ld_unit_lit', View.readCov_unit_lit', View.readCov_cons_unit_lit', View.readAt_eq_ld, Memref.IsWhole.read_unread]
  have hy := @y_A F _ c arg2 harg2 arg3 harg3 arg10 harg10 arg12 harg12 arg13 harg13 arg26 x1 x2 x9 x11 x12
  have hz := @z_A F _ c arg2 harg2 arg3 harg3 arg4 harg4 arg5 harg5 arg10 harg10 arg12 harg12 arg13 harg13 arg26 x1 x2 x3 x4 x9 x11 x12
  have hzr := hz
  unfold kernelRun0_A.sl.r_88 at hzr
  simp only [kernelRun0_A.sl.cst_102, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.v627, k0_pay97, k0_pay98, hz, hzr]
  repeat rw [hzr]
  repeat rw [hz]
  repeat rw [hy]
  generalize (rope (rows (start x1 x2) x9 x11 x12) x3 x4) = Z
  generalize (rows (start x1 x2) x9 x11 x12) = Y
  rfl

/-- Case A: the stored value codes -/
theorem out0_A_23_eq : out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 = codesOut (valueHead (rows (start x1 x2) x9 x11 x12)) := by
  unfold out0_A_23 kernelRun0_A
  dsimp only
  simp (disch := decide) only [View.read_writes_junk_eq_canon, View.canon_cons_unit_lit', View.ld_unit_lit', View.readCov_unit_lit', View.readCov_cons_unit_lit', View.readAt_eq_ld, Memref.IsWhole.read_unread]
  have hy := @y_A F _ c arg2 harg2 arg3 harg3 arg10 harg10 arg12 harg12 arg13 harg13 arg26 x1 x2 x9 x11 x12
  have hz := @z_A F _ c arg2 harg2 arg3 harg3 arg4 harg4 arg5 harg5 arg10 harg10 arg12 harg12 arg13 harg13 arg26 x1 x2 x3 x4 x9 x11 x12
  have hzr := hz
  unfold kernelRun0_A.sl.r_88 at hzr
  simp only [kernelRun0_A.sl.cst_102, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.v627, k0_pay97, k0_pay98, hz, hzr]
  repeat rw [hzr]
  repeat rw [hz]
  repeat rw [hy]
  generalize (rope (rows (start x1 x2) x9 x11 x12) x3 x4) = Z
  generalize (rows (start x1 x2) x9 x11 x12) = Y
  rfl

/-- Case A: the stored value scales -/
theorem out0_A_24_eq : out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 = scalesOut (valueHead (rows (start x1 x2) x9 x11 x12)) := by
  unfold out0_A_24 kernelRun0_A
  dsimp only
  simp (disch := decide) only [View.read_writes_junk_eq_canon, View.canon_cons_unit_lit', View.ld_unit_lit', View.readCov_unit_lit', View.readCov_cons_unit_lit', View.readAt_eq_ld, Memref.IsWhole.read_unread]
  have hy := @y_A F _ c arg2 harg2 arg3 harg3 arg10 harg10 arg12 harg12 arg13 harg13 arg26 x1 x2 x9 x11 x12
  have hz := @z_A F _ c arg2 harg2 arg3 harg3 arg4 harg4 arg5 harg5 arg10 harg10 arg12 harg12 arg13 harg13 arg26 x1 x2 x3 x4 x9 x11 x12
  have hzr := hz
  unfold kernelRun0_A.sl.r_88 at hzr
  simp only [kernelRun0_A.sl.cst_102, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.v627, k0_pay97, k0_pay98, hz, hzr]
  repeat rw [hzr]
  repeat rw [hz]
  repeat rw [hy]
  generalize (rope (rows (start x1 x2) x9 x11 x12) x3 x4) = Z
  generalize (rows (start x1 x2) x9 x11 x12) = Y
  rfl

/-- Case A: the carried residual stream -/
theorem sout0_A_0_eq : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 = shapeCast S8x576 (final (middle (start x1 x2) (attended (rows (start x1 x2) x9 x11 x12) x0 x3 x4 x5 x6 x7 x8) x13 x14) x10 x15 x16 x17 x18) shapeCasts_S8x576_S8x576 := by
  unfold sout0_A_0 kernelRun0_A
  dsimp only
  simp (disch := decide) only [View.read_writes_junk_eq_canon, View.canon_cons_unit_lit', View.ld_unit_lit', View.readCov_unit_lit', View.readCov_cons_unit_lit', View.readAt_eq_ld, Memref.IsWhole.read_unread]
  unfold k0_pay3
  rw [@d_A F _ c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 x0 x1 x2 x3 x4 x5 x6 x7 x8 x9 x10 x11 x12 x13 x14 x15 x16 x17 x18]

end

end Cert.KernelIdeal.Gen
-- ==== Proof.StageB.lean ====
/- What the body leaves in each result block, in the stages of `Layer`. -/
module

public import proofs.«01_k».proof.Proof.Run.KernelIdeal.Outs
public import proofs.«01_k».proof.Proof.Layer
public import Idealize.ShloMosaic.Lib.Pipeline.ValueKit
public import Idealize.ShloMosaic.Lib.Pipeline.ReadBack

@[expose] public section

set_option maxRecDepth 100000
set_option maxHeartbeats 1000000

open Idealize.ShloMosaic Idealize.ShloMosaic.TcCoe Idealize.SL.Sem

namespace Cert.KernelIdeal.Gen

open Cert.Layer

variable {F : FTy → Type} [FloatOps F]

section
variable (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i) (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32)

/-- Case B: the residual stream the point starts from. -/
theorem x_B : (@kernelRun0_B.sl.r F c arg26 harg26 xs0) = xs0 := by
  unfold kernelRun0_B.sl.r
  simp (disch := decide) only [View.read_writes_junk_eq_canon, View.canon_cons_unit_lit', View.ld_unit_lit', View.readCov_unit_lit', View.readCov_cons_unit_lit', View.readAt_eq_ld, Memref.IsWhole.read_unread]

/-- Case B: its query, key and value rows. -/
theorem y_B : (@kernelRun0_B.sl.r_79 F _ c arg10 harg10 arg12 harg12 arg13 harg13 arg26 harg26 x9 x11 x12 xs0) = (rows xs0 x9 x11 x12) := by
  have hx := @x_B F _ c arg26 harg26 xs0
  simp only [kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_7, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_8, kernelRun0_B.sl.r_9, hx]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize xs0 = X
  rfl

/-- Case B: the sequence of each row. -/
theorem r_B : kernelRun0_B.sl.v668 = rowSeq := by
  simp only [kernelRun0_B.sl.v628, kernelRun0_B.sl.v631, kernelRun0_B.sl.v633, kernelRun0_B.sl.v634, kernelRun0_B.sl.v636, kernelRun0_B.sl.v638, kernelRun0_B.sl.v640, kernelRun0_B.sl.v643, kernelRun0_B.sl.v644, kernelRun0_B.sl.v645, kernelRun0_B.sl.v649, kernelRun0_B.sl.v652, kernelRun0_B.sl.v659, kernelRun0_B.sl.v660, kernelRun0_B.sl.v664, kernelRun0_B.sl.v667, kernelRun0_B.sl.v668]
  rfl

/-- Case B: the new tokens each row sees. -/
theorem v_B : kernelRun0_B.sl.v933 = seen := by
  simp only [kernelRun0_B.sl.v882, kernelRun0_B.sl.v887, kernelRun0_B.sl.v888, kernelRun0_B.sl.v890, kernelRun0_B.sl.v897, kernelRun0_B.sl.v898, kernelRun0_B.sl.v899, kernelRun0_B.sl.v902, kernelRun0_B.sl.v906, kernelRun0_B.sl.v911, kernelRun0_B.sl.v914, kernelRun0_B.sl.v922, kernelRun0_B.sl.v926, kernelRun0_B.sl.v929, kernelRun0_B.sl.v930, kernelRun0_B.sl.v933]
  rfl

/-- Case B: its rotated rows. -/
theorem z_B : (@kernelRun0_B.sl.r_89 F _ c arg4 harg4 arg5 harg5 arg10 harg10 arg12 harg12 arg13 harg13 arg26 harg26 x3 x4 x9 x11 x12 xs0) = (rope (rows xs0 x9 x11 x12) x3 x4) := by
  have hy := @y_B F _ c arg10 harg10 arg12 harg12 arg13 harg13 arg26 harg26 x9 x11 x12 xs0
  unfold kernelRun0_B.sl.r_79 at hy
  simp only [kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, k0_pay88, k0_pay89, k0_pay90, k0_pay91, k0_pay92, k0_pay93, k0_pay94, hy]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize (rows xs0 x9 x11 x12) = Y
  rfl

/-- Case B: its rows of queries. -/
theorem q_B : (@kernelRun0_B.sl.r_90 F _ c arg4 harg4 arg5 harg5 arg10 harg10 arg12 harg12 arg13 harg13 arg26 harg26 x3 x4 x9 x11 x12 xs0) = (queries (rope (rows xs0 x9 x11 x12) x3 x4)) := by
  have hz := @z_B F _ c arg4 harg4 arg5 harg5 arg10 harg10 arg12 harg12 arg13 harg13 arg26 harg26 x3 x4 x9 x11 x12 xs0
  unfold kernelRun0_B.sl.r_89 at hz
  unfold kernelRun0_B.sl.r_90
  unfold k0_pay96
  rw [hz]
  generalize (rope (rows xs0 x9 x11 x12) x3 x4) = Z
  rfl

/-- Case B: its scores against the cache. -/
theorem s_B : (@kernelRun0_B.sl.r_116 F _ c arg1 harg1 arg4 harg4 arg5 harg5 arg6 harg6 arg7 harg7 arg10 harg10 arg12 harg12 arg13 harg13 arg26 harg26 x0 x3 x4 x5 x6 x9 x11 x12 xs0) = (scoreOld (queries (rope (rows xs0 x9 x11 x12) x3 x4)) x0 x5 x6) := by
  have hq := @q_B F _ c arg4 harg4 arg5 harg5 arg10 harg10 arg12 harg12 arg13 harg13 arg26 harg26 x3 x4 x9 x11 x12 xs0
  have hr := r_B
  simp only [kernelRun0_B.sl.r_110, kernelRun0_B.sl.r_112, kernelRun0_B.sl.r_113, kernelRun0_B.sl.r_114, kernelRun0_B.sl.r_115, kernelRun0_B.sl.r_116, kernelRun0_B.sl.v633, kernelRun0_B.sl.v645, kernelRun0_B.sl.v659, kernelRun0_B.sl.v705, kernelRun0_B.sl.v706, kernelRun0_B.sl.v707, kernelRun0_B.sl.v709, kernelRun0_B.sl.v710, kernelRun0_B.sl.v711, kernelRun0_B.sl.v713, kernelRun0_B.sl.v714, kernelRun0_B.sl.v715, kernelRun0_B.sl.v716, kernelRun0_B.sl.v720, kernelRun0_B.sl.v721, kernelRun0_B.sl.v722, kernelRun0_B.sl.v724, kernelRun0_B.sl.v725, kernelRun0_B.sl.v726, kernelRun0_B.sl.v728, kernelRun0_B.sl.v729, kernelRun0_B.sl.v730, kernelRun0_B.sl.v731, kernelRun0_B.sl.v732, kernelRun0_B.sl.v734, kernelRun0_B.sl.v738, kernelRun0_B.sl.v739, kernelRun0_B.sl.v740, kernelRun0_B.sl.v742, kernelRun0_B.sl.v743, kernelRun0_B.sl.v744, kernelRun0_B.sl.v746, kernelRun0_B.sl.v747, kernelRun0_B.sl.v748, kernelRun0_B.sl.v749, kernelRun0_B.sl.v750, kernelRun0_B.sl.v752, kernelRun0_B.sl.v756, kernelRun0_B.sl.v757, kernelRun0_B.sl.v758, kernelRun0_B.sl.v760, kernelRun0_B.sl.v761, kernelRun0_B.sl.v762, kernelRun0_B.sl.v764, kernelRun0_B.sl.v765, kernelRun0_B.sl.v766, kernelRun0_B.sl.v767, kernelRun0_B.sl.v768, kernelRun0_B.sl.v770, kernelRun0_B.sl.v839, hq, hr]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize (queries (rope (rows xs0 x9 x11 x12) x3 x4)) = Q
  rfl

/-- Case B: its scores against the new keys. -/
theorem t_B : k0_pay141 (@kernelRun0_B.sl.r_93 F _ c arg4 harg4 arg5 harg5 arg10 harg10 arg12 harg12 arg13 harg13 arg26 harg26 x3 x4 x9 x11 x12 xs0) (@kernelRun0_B.sl.r_100 F _ c arg4 harg4 arg5 harg5 arg10 harg10 arg12 harg12 arg13 harg13 arg26 harg26 x3 x4 x9 x11 x12 xs0) (@kernelRun0_B.sl.r_104 F _ c arg4 harg4 arg5 harg5 arg10 harg10 arg12 harg12 arg13 harg13 arg26 harg26 x3 x4 x9 x11 x12 xs0) (@kernelRun0_B.sl.r_117 F _ c arg4 harg4 arg5 harg5 arg10 harg10 arg12 harg12 arg13 harg13 arg26 harg26 x3 x4 x9 x11 x12 xs0) kernelRun0_B.sl.v933 = (scoreNew (queries (rope (rows xs0 x9 x11 x12) x3 x4)) (keyHead (rope (rows xs0 x9 x11 x12) x3 x4))) := by
  have hz := @z_B F _ c arg4 harg4 arg5 harg5 arg10 harg10 arg12 harg12 arg13 harg13 arg26 harg26 x3 x4 x9 x11 x12 xs0
  have hzr := hz
  unfold kernelRun0_B.sl.r_89 at hzr
  have hq := @q_B F _ c arg4 harg4 arg5 harg5 arg10 harg10 arg12 harg12 arg13 harg13 arg26 harg26 x3 x4 x9 x11 x12 xs0
  have hv := v_B
  simp only [kernelRun0_B.sl.cst_102, kernelRun0_B.sl.r_100, kernelRun0_B.sl.r_101, kernelRun0_B.sl.r_104, kernelRun0_B.sl.r_105, kernelRun0_B.sl.r_107, kernelRun0_B.sl.r_117, kernelRun0_B.sl.r_91, kernelRun0_B.sl.r_92, kernelRun0_B.sl.r_93, kernelRun0_B.sl.r_94, kernelRun0_B.sl.r_97, kernelRun0_B.sl.r_98, kernelRun0_B.sl.r_99, k0_pay97, k0_pay98, hz, hzr, hq, hv]
  generalize (queries (rope (rows xs0 x9 x11 x12) x3 x4)) = Q
  generalize (rope (rows xs0 x9 x11 x12) x3 x4) = Z
  rfl

/-- Case B: its peaks. -/
theorem p_B : k0_pay142 (@kernelRun0_B.sl.r_93 F _ c arg4 harg4 arg5 harg5 arg10 harg10 arg12 harg12 arg13 harg13 arg26 harg26 x3 x4 x9 x11 x12 xs0) (@kernelRun0_B.sl.r_100 F _ c arg4 harg4 arg5 harg5 arg10 harg10 arg12 harg12 arg13 harg13 arg26 harg26 x3 x4 x9 x11 x12 xs0) (@kernelRun0_B.sl.r_104 F _ c arg4 harg4 arg5 harg5 arg10 harg10 arg12 harg12 arg13 harg13 arg26 harg26 x3 x4 x9 x11 x12 xs0) (@kernelRun0_B.sl.r_116 F _ c arg1 harg1 arg4 harg4 arg5 harg5 arg6 harg6 arg7 harg7 arg10 harg10 arg12 harg12 arg13 harg13 arg26 harg26 x0 x3 x4 x5 x6 x9 x11 x12 xs0) (@kernelRun0_B.sl.r_117 F _ c arg4 harg4 arg5 harg5 arg10 harg10 arg12 harg12 arg13 harg13 arg26 harg26 x3 x4 x9 x11 x12 xs0) kernelRun0_B.sl.v933 = (peak (scoreOld (queries (rope (rows xs0 x9 x11 x12) x3 x4)) x0 x5 x6) (scoreNew (queries (rope (rows xs0 x9 x11 x12) x3 x4)) (keyHead (rope (rows xs0 x9 x11 x12) x3 x4)))) := by
  have ht := @t_B F _ c arg4 harg4 arg5 harg5 arg10 harg10 arg12 harg12 arg13 harg13 arg26 harg26 x3 x4 x9 x11 x12 xs0
  have hs := @s_B F _ c arg1 harg1 arg4 harg4 arg5 harg5 arg6 harg6 arg7 harg7 arg10 harg10 arg12 harg12 arg13 harg13 arg26 harg26 x0 x3 x4 x5 x6 x9 x11 x12 xs0
  unfold k0_pay142
  rw [ht, hs]
  generalize (scoreOld (queries (rope (rows xs0 x9 x11 x12) x3 x4)) x0 x5 x6) = SO
  rfl

/-- Case B: its weights of the new keys. -/
theorem e_B : (@kernelRun0_B.sl.r_118 F _ c arg1 harg1 arg4 harg4 arg5 harg5 arg6 harg6 arg7 harg7 arg10 harg10 arg12 harg12 arg13 harg13 arg26 harg26 x0 x3 x4 x5 x6 x9 x11 x12 xs0) = (expNew (scoreNew (queries (rope (rows xs0 x9 x11 x12) x3 x4)) (keyHead (rope (rows xs0 x9 x11 x12) x3 x4))) (peak (scoreOld (queries (rope (rows xs0 x9 x11 x12) x3 x4)) x0 x5 x6) (scoreNew (queries (rope (rows xs0 x9 x11 x12) x3 x4)) (keyHead (rope (rows xs0 x9 x11 x12) x3 x4))))) := by
  have ht := @t_B F _ c arg4 harg4 arg5 harg5 arg10 harg10 arg12 harg12 arg13 harg13 arg26 harg26 x3 x4 x9 x11 x12 xs0
  have hp := @p_B F _ c arg1 harg1 arg4 harg4 arg5 harg5 arg6 harg6 arg7 harg7 arg10 harg10 arg12 harg12 arg13 harg13 arg26 harg26 x0 x3 x4 x5 x6 x9 x11 x12 xs0
  have hs := @s_B F _ c arg1 harg1 arg4 harg4 arg5 harg5 arg6 harg6 arg7 harg7 arg10 harg10 arg12 harg12 arg13 harg13 arg26 harg26 x0 x3 x4 x5 x6 x9 x11 x12 xs0
  unfold kernelRun0_B.sl.r_118 k0_pay144
  rw [ht, hp]
  generalize (peak (scoreOld (queries (rope (rows xs0 x9 x11 x12) x3 x4)) x0 x5 x6) (scoreNew (queries (rope (rows xs0 x9 x11 x12) x3 x4)) (keyHead (rope (rows xs0 x9 x11 x12) x3 x4)))) = P
  generalize (scoreNew (queries (rope (rows xs0 x9 x11 x12) x3 x4)) (keyHead (rope (rows xs0 x9 x11 x12) x3 x4))) = SN
  rfl

/-- Case B: its total weights. -/
theorem f_B : (@kernelRun0_B.sl.r_119 F _ c arg1 harg1 arg4 harg4 arg5 harg5 arg6 harg6 arg7 harg7 arg10 harg10 arg12 harg12 arg13 harg13 arg26 harg26 x0 x3 x4 x5 x6 x9 x11 x12 xs0) = total (expOld (scoreOld (queries (rope (rows xs0 x9 x11 x12) x3 x4)) x0 x5 x6) (peak (scoreOld (queries (rope (rows xs0 x9 x11 x12) x3 x4)) x0 x5 x6) (scoreNew (queries (rope (rows xs0 x9 x11 x12) x3 x4)) (keyHead (rope (rows xs0 x9 x11 x12) x3 x4))))) (expNew (scoreNew (queries (rope (rows xs0 x9 x11 x12) x3 x4)) (keyHead (rope (rows xs0 x9 x11 x12) x3 x4))) (peak (scoreOld (queries (rope (rows xs0 x9 x11 x12) x3 x4)) x0 x5 x6) (scoreNew (queries (rope (rows xs0 x9 x11 x12) x3 x4)) (keyHead (rope (rows xs0 x9 x11 x12) x3 x4))))) := by
  have ht := @t_B F _ c arg4 harg4 arg5 harg5 arg10 harg10 arg12 harg12 arg13 harg13 arg26 harg26 x3 x4 x9 x11 x12 xs0
  have hp := @p_B F _ c arg1 harg1 arg4 harg4 arg5 harg5 arg6 harg6 arg7 harg7 arg10 harg10 arg12 harg12 arg13 harg13 arg26 harg26 x0 x3 x4 x5 x6 x9 x11 x12 xs0
  have hs := @s_B F _ c arg1 harg1 arg4 harg4 arg5 harg5 arg6 harg6 arg7 harg7 arg10 harg10 arg12 harg12 arg13 harg13 arg26 harg26 x0 x3 x4 x5 x6 x9 x11 x12 xs0
  unfold kernelRun0_B.sl.r_119 k0_pay145 k0_pay143 k0_pay144
  rw [ht, hp, hs]
  generalize (peak (scoreOld (queries (rope (rows xs0 x9 x11 x12) x3 x4)) x0 x5 x6) (scoreNew (queries (rope (rows xs0 x9 x11 x12) x3 x4)) (keyHead (rope (rows xs0 x9 x11 x12) x3 x4)))) = P
  generalize (scoreNew (queries (rope (rows xs0 x9 x11 x12) x3 x4)) (keyHead (rope (rows xs0 x9 x11 x12) x3 x4))) = SN
  generalize (scoreOld (queries (rope (rows xs0 x9 x11 x12) x3 x4)) x0 x5 x6) = SO
  rfl

/-- Case B: its weights of the cache, each with its scale. -/
theorem g_B : (@kernelRun0_B.sl.r_120 F _ c arg1 harg1 arg4 harg4 arg5 harg5 arg6 harg6 arg7 harg7 arg9 harg9 arg10 harg10 arg12 harg12 arg13 harg13 arg26 harg26 x0 x3 x4 x5 x6 x8 x9 x11 x12 xs0) = truncf .bf16 (mulf (expOld (scoreOld (queries (rope (rows xs0 x9 x11 x12) x3 x4)) x0 x5 x6) (peak (scoreOld (queries (rope (rows xs0 x9 x11 x12) x3 x4)) x0 x5 x6) (scoreNew (queries (rope (rows xs0 x9 x11 x12) x3 x4)) (keyHead (rope (rows xs0 x9 x11 x12) x3 x4))))) (pick broadcasts_S72x1_S72x1024 (cachedScales x8))) bitsLt_bf16_f32 := by
  have ht := @t_B F _ c arg4 harg4 arg5 harg5 arg10 harg10 arg12 harg12 arg13 harg13 arg26 harg26 x3 x4 x9 x11 x12 xs0
  have hp := @p_B F _ c arg1 harg1 arg4 harg4 arg5 harg5 arg6 harg6 arg7 harg7 arg10 harg10 arg12 harg12 arg13 harg13 arg26 harg26 x0 x3 x4 x5 x6 x9 x11 x12 xs0
  have hs := @s_B F _ c arg1 harg1 arg4 harg4 arg5 harg5 arg6 harg6 arg7 harg7 arg10 harg10 arg12 harg12 arg13 harg13 arg26 harg26 x0 x3 x4 x5 x6 x9 x11 x12 xs0
  have hr := r_B
  unfold kernelRun0_B.sl.r_120 k0_pay146 k0_pay143
  rw [hp, hs]
  simp only [kernelRun0_B.sl.r_111, kernelRun0_B.sl.v633, kernelRun0_B.sl.v645, kernelRun0_B.sl.v659, kernelRun0_B.sl.v732, kernelRun0_B.sl.v750, kernelRun0_B.sl.v768, kernelRun0_B.sl.v772, kernelRun0_B.sl.v773, kernelRun0_B.sl.v774, kernelRun0_B.sl.v776, kernelRun0_B.sl.v777, kernelRun0_B.sl.v778, kernelRun0_B.sl.v780, kernelRun0_B.sl.v781, kernelRun0_B.sl.v782, kernelRun0_B.sl.v783, kernelRun0_B.sl.v787, kernelRun0_B.sl.v788, kernelRun0_B.sl.v789, kernelRun0_B.sl.v791, kernelRun0_B.sl.v792, kernelRun0_B.sl.v793, kernelRun0_B.sl.v795, kernelRun0_B.sl.v796, kernelRun0_B.sl.v797, kernelRun0_B.sl.v798, kernelRun0_B.sl.v801, kernelRun0_B.sl.v805, kernelRun0_B.sl.v806, kernelRun0_B.sl.v807, kernelRun0_B.sl.v809, kernelRun0_B.sl.v810, kernelRun0_B.sl.v811, kernelRun0_B.sl.v813, kernelRun0_B.sl.v814, kernelRun0_B.sl.v815, kernelRun0_B.sl.v816, kernelRun0_B.sl.v819, kernelRun0_B.sl.v823, kernelRun0_B.sl.v824, kernelRun0_B.sl.v825, kernelRun0_B.sl.v827, kernelRun0_B.sl.v828, kernelRun0_B.sl.v829, kernelRun0_B.sl.v831, kernelRun0_B.sl.v832, kernelRun0_B.sl.v833, kernelRun0_B.sl.v834, kernelRun0_B.sl.v837, hr]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize (peak (scoreOld (queries (rope (rows xs0 x9 x11 x12) x3 x4)) x0 x5 x6) (scoreNew (queries (rope (rows xs0 x9 x11 x12) x3 x4)) (keyHead (rope (rows xs0 x9 x11 x12) x3 x4)))) = P
  generalize (scoreNew (queries (rope (rows xs0 x9 x11 x12) x3 x4)) (keyHead (rope (rows xs0 x9 x11 x12) x3 x4))) = SN
  generalize (scoreOld (queries (rope (rows xs0 x9 x11 x12) x3 x4)) x0 x5 x6) = SO
  rfl

/-- Case B: the attended rows. -/
theorem a_B : (@kernelRun0_B.sl.r_125 F _ c arg1 harg1 arg4 harg4 arg5 harg5 arg6 harg6 arg7 harg7 arg8 harg8 arg9 harg9 arg10 harg10 arg12 harg12 arg13 harg13 arg26 harg26 x0 x3 x4 x5 x6 x7 x8 x9 x11 x12 xs0) = (attended (rows xs0 x9 x11 x12) x0 x3 x4 x5 x6 x7 x8) := by
  have he := @e_B F _ c arg1 harg1 arg4 harg4 arg5 harg5 arg6 harg6 arg7 harg7 arg10 harg10 arg12 harg12 arg13 harg13 arg26 harg26 x0 x3 x4 x5 x6 x9 x11 x12 xs0
  have hf := @f_B F _ c arg1 harg1 arg4 harg4 arg5 harg5 arg6 harg6 arg7 harg7 arg10 harg10 arg12 harg12 arg13 harg13 arg26 harg26 x0 x3 x4 x5 x6 x9 x11 x12 xs0
  have hg := @g_B F _ c arg1 harg1 arg4 harg4 arg5 harg5 arg6 harg6 arg7 harg7 arg9 harg9 arg10 harg10 arg12 harg12 arg13 harg13 arg26 harg26 x0 x3 x4 x5 x6 x8 x9 x11 x12 xs0
  have hy := @y_B F _ c arg10 harg10 arg12 harg12 arg13 harg13 arg26 harg26 x9 x11 x12 xs0
  have hr := r_B
  have hyr := hy
  unfold kernelRun0_B.sl.r_79 at hyr
  simp only [kernelRun0_B.sl.r_102, kernelRun0_B.sl.r_103, kernelRun0_B.sl.r_106, kernelRun0_B.sl.r_108, kernelRun0_B.sl.r_121, kernelRun0_B.sl.r_122, kernelRun0_B.sl.r_123, kernelRun0_B.sl.r_124, kernelRun0_B.sl.r_125, kernelRun0_B.sl.r_95, kernelRun0_B.sl.r_96, he, hf, hg, hy, hyr, hr]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  change _ = mix (expOld (scoreOld (queries (rope (rows xs0 x9 x11 x12) x3 x4)) x0 x5 x6) (peak (scoreOld (queries (rope (rows xs0 x9 x11 x12) x3 x4)) x0 x5 x6) (scoreNew (queries (rope (rows xs0 x9 x11 x12) x3 x4)) (keyHead (rope (rows xs0 x9 x11 x12) x3 x4))))) (expNew (scoreNew (queries (rope (rows xs0 x9 x11 x12) x3 x4)) (keyHead (rope (rows xs0 x9 x11 x12) x3 x4))) (peak (scoreOld (queries (rope (rows xs0 x9 x11 x12) x3 x4)) x0 x5 x6) (scoreNew (queries (rope (rows xs0 x9 x11 x12) x3 x4)) (keyHead (rope (rows xs0 x9 x11 x12) x3 x4))))) x7 x8 (valueHead (rows xs0 x9 x11 x12))
  generalize (expNew (scoreNew (queries (rope (rows xs0 x9 x11 x12) x3 x4)) (keyHead (rope (rows xs0 x9 x11 x12) x3 x4))) (peak (scoreOld (queries (rope (rows xs0 x9 x11 x12) x3 x4)) x0 x5 x6) (scoreNew (queries (rope (rows xs0 x9 x11 x12) x3 x4)) (keyHead (rope (rows xs0 x9 x11 x12) x3 x4))))) = EN
  generalize (expOld (scoreOld (queries (rope (rows xs0 x9 x11 x12) x3 x4)) x0 x5 x6) (peak (scoreOld (queries (rope (rows xs0 x9 x11 x12) x3 x4)) x0 x5 x6) (scoreNew (queries (rope (rows xs0 x9 x11 x12) x3 x4)) (keyHead (rope (rows xs0 x9 x11 x12) x3 x4))))) = EO
  generalize (rows xs0 x9 x11 x12) = Y
  rfl

/-- Case B: the residual stream after attention. -/
theorem m_B : (@kernelRun0_B.sl.r_179 F _ c arg1 harg1 arg4 harg4 arg5 harg5 arg6 harg6 arg7 harg7 arg8 harg8 arg9 harg9 arg10 harg10 arg12 harg12 arg13 harg13 arg14 harg14 arg15 harg15 arg26 harg26 x0 x3 x4 x5 x6 x7 x8 x9 x11 x12 x13 x14 xs0) = (middle xs0 (attended (rows xs0 x9 x11 x12) x0 x3 x4 x5 x6 x7 x8) x13 x14) := by
  have hx := @x_B F _ c arg26 harg26 xs0
  have ha := @a_B F _ c arg1 harg1 arg4 harg4 arg5 harg5 arg6 harg6 arg7 harg7 arg8 harg8 arg9 harg9 arg10 harg10 arg12 harg12 arg13 harg13 arg26 harg26 x0 x3 x4 x5 x6 x7 x8 x9 x11 x12 xs0
  unfold kernelRun0_B.sl.r_125 at ha
  simp only [kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167, kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176, kernelRun0_B.sl.r_177, kernelRun0_B.sl.r_178, kernelRun0_B.sl.r_179, k0_pay153, k0_pay155, k0_pay157, k0_pay159, k0_pay161, ha, hx]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize (attended (rows xs0 x9 x11 x12) x0 x3 x4 x5 x6 x7 x8) = A
  generalize xs0 = X
  rfl

/-- Case B: the normalised rows. -/
theorem n_B : (@kernelRun0_B.sl.r_180 F _ c arg1 harg1 arg4 harg4 arg5 harg5 arg6 harg6 arg7 harg7 arg8 harg8 arg9 harg9 arg10 harg10 arg11 harg11 arg12 harg12 arg13 harg13 arg14 harg14 arg15 harg15 arg26 harg26 x0 x3 x4 x5 x6 x7 x8 x9 x10 x11 x12 x13 x14 xs0) = (norm (middle xs0 (attended (rows xs0 x9 x11 x12) x0 x3 x4 x5 x6 x7 x8) x13 x14) x10) := by
  have hm := @m_B F _ c arg1 harg1 arg4 harg4 arg5 harg5 arg6 harg6 arg7 harg7 arg8 harg8 arg9 harg9 arg10 harg10 arg12 harg12 arg13 harg13 arg14 harg14 arg15 harg15 arg26 harg26 x0 x3 x4 x5 x6 x7 x8 x9 x11 x12 x13 x14 xs0
  unfold kernelRun0_B.sl.r_179 at hm
  unfold kernelRun0_B.sl.r_180
  simp only [k0_pay220, hm]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize (middle xs0 (attended (rows xs0 x9 x11 x12) x0 x3 x4 x5 x6 x7 x8) x13 x14) = M
  rfl

/-- Case B: the gated activation. -/
theorem u_B : (@kernelRun0_B.sl.r_354 F _ c arg1 harg1 arg4 harg4 arg5 harg5 arg6 harg6 arg7 harg7 arg8 harg8 arg9 harg9 arg10 harg10 arg11 harg11 arg12 harg12 arg13 harg13 arg14 harg14 arg15 harg15 arg16 harg16 arg17 harg17 arg26 harg26 x0 x3 x4 x5 x6 x7 x8 x9 x10 x11 x12 x13 x14 x15 x16 xs0) = (act (gateUp (norm (middle xs0 (attended (rows xs0 x9 x11 x12) x0 x3 x4 x5 x6 x7 x8) x13 x14) x10) x15 x16)) := by
  have hn := @n_B F _ c arg1 harg1 arg4 harg4 arg5 harg5 arg6 harg6 arg7 harg7 arg8 harg8 arg9 harg9 arg10 harg10 arg11 harg11 arg12 harg12 arg13 harg13 arg14 harg14 arg15 harg15 arg26 harg26 x0 x3 x4 x5 x6 x7 x8 x9 x10 x11 x12 x13 x14 xs0
  unfold kernelRun0_B.sl.r_180 at hn
  simp only [kernelRun0_B.sl.r_180, kernelRun0_B.sl.r_181, kernelRun0_B.sl.r_182, kernelRun0_B.sl.r_183, kernelRun0_B.sl.r_184, kernelRun0_B.sl.r_185, kernelRun0_B.sl.r_186, kernelRun0_B.sl.r_187, kernelRun0_B.sl.r_188, kernelRun0_B.sl.r_189, kernelRun0_B.sl.r_190, kernelRun0_B.sl.r_191, kernelRun0_B.sl.r_192, kernelRun0_B.sl.r_193, kernelRun0_B.sl.r_194, kernelRun0_B.sl.r_195, kernelRun0_B.sl.r_196, kernelRun0_B.sl.r_197, kernelRun0_B.sl.r_198, kernelRun0_B.sl.r_199, kernelRun0_B.sl.r_200, kernelRun0_B.sl.r_201, kernelRun0_B.sl.r_202, kernelRun0_B.sl.r_203, kernelRun0_B.sl.r_204, kernelRun0_B.sl.r_205, kernelRun0_B.sl.r_206, kernelRun0_B.sl.r_207, kernelRun0_B.sl.r_208, kernelRun0_B.sl.r_209, kernelRun0_B.sl.r_210, kernelRun0_B.sl.r_211, kernelRun0_B.sl.r_212, kernelRun0_B.sl.r_213, kernelRun0_B.sl.r_214, kernelRun0_B.sl.r_215, kernelRun0_B.sl.r_216, kernelRun0_B.sl.r_217, kernelRun0_B.sl.r_218, kernelRun0_B.sl.r_219, kernelRun0_B.sl.r_220, kernelRun0_B.sl.r_221, kernelRun0_B.sl.r_222, kernelRun0_B.sl.r_223, kernelRun0_B.sl.r_224, kernelRun0_B.sl.r_225, kernelRun0_B.sl.r_226, kernelRun0_B.sl.r_227, kernelRun0_B.sl.r_228, kernelRun0_B.sl.r_229, kernelRun0_B.sl.r_230, kernelRun0_B.sl.r_231, kernelRun0_B.sl.r_232, kernelRun0_B.sl.r_233, kernelRun0_B.sl.r_234, kernelRun0_B.sl.r_235, kernelRun0_B.sl.r_236, kernelRun0_B.sl.r_237, kernelRun0_B.sl.r_238, kernelRun0_B.sl.r_239, kernelRun0_B.sl.r_240, kernelRun0_B.sl.r_241, kernelRun0_B.sl.r_242, kernelRun0_B.sl.r_243, kernelRun0_B.sl.r_244, kernelRun0_B.sl.r_245, kernelRun0_B.sl.r_246, kernelRun0_B.sl.r_247, kernelRun0_B.sl.r_248, kernelRun0_B.sl.r_249, kernelRun0_B.sl.r_250, kernelRun0_B.sl.r_251, kernelRun0_B.sl.r_252, kernelRun0_B.sl.r_253, kernelRun0_B.sl.r_254, kernelRun0_B.sl.r_255, kernelRun0_B.sl.r_256, kernelRun0_B.sl.r_257, kernelRun0_B.sl.r_258, kernelRun0_B.sl.r_259, kernelRun0_B.sl.r_260, kernelRun0_B.sl.r_261, kernelRun0_B.sl.r_262, kernelRun0_B.sl.r_263, kernelRun0_B.sl.r_264, kernelRun0_B.sl.r_265, kernelRun0_B.sl.r_266, kernelRun0_B.sl.r_267, kernelRun0_B.sl.r_268, kernelRun0_B.sl.r_269, kernelRun0_B.sl.r_270, kernelRun0_B.sl.r_271, kernelRun0_B.sl.r_272, kernelRun0_B.sl.r_273, kernelRun0_B.sl.r_274, kernelRun0_B.sl.r_275, kernelRun0_B.sl.r_276, kernelRun0_B.sl.r_277, kernelRun0_B.sl.r_278, kernelRun0_B.sl.r_279, kernelRun0_B.sl.r_280, kernelRun0_B.sl.r_281, kernelRun0_B.sl.r_282, kernelRun0_B.sl.r_283, kernelRun0_B.sl.r_284, kernelRun0_B.sl.r_285, kernelRun0_B.sl.r_286, kernelRun0_B.sl.r_287, kernelRun0_B.sl.r_288, kernelRun0_B.sl.r_289, kernelRun0_B.sl.r_290, kernelRun0_B.sl.r_291, kernelRun0_B.sl.r_292, kernelRun0_B.sl.r_293, kernelRun0_B.sl.r_294, kernelRun0_B.sl.r_295, kernelRun0_B.sl.r_296, kernelRun0_B.sl.r_297, kernelRun0_B.sl.r_298, kernelRun0_B.sl.r_299, kernelRun0_B.sl.r_300, kernelRun0_B.sl.r_301, kernelRun0_B.sl.r_302, kernelRun0_B.sl.r_303, kernelRun0_B.sl.r_304, kernelRun0_B.sl.r_305, kernelRun0_B.sl.r_306, kernelRun0_B.sl.r_307, kernelRun0_B.sl.r_308, kernelRun0_B.sl.r_309, kernelRun0_B.sl.r_310, kernelRun0_B.sl.r_311, kernelRun0_B.sl.r_312, kernelRun0_B.sl.r_313, kernelRun0_B.sl.r_314, kernelRun0_B.sl.r_315, kernelRun0_B.sl.r_316, kernelRun0_B.sl.r_317, kernelRun0_B.sl.r_318, kernelRun0_B.sl.r_319, kernelRun0_B.sl.r_320, kernelRun0_B.sl.r_321, kernelRun0_B.sl.r_322, kernelRun0_B.sl.r_323, kernelRun0_B.sl.r_324, kernelRun0_B.sl.r_325, kernelRun0_B.sl.r_326, kernelRun0_B.sl.r_327, kernelRun0_B.sl.r_328, kernelRun0_B.sl.r_329, kernelRun0_B.sl.r_330, kernelRun0_B.sl.r_331, kernelRun0_B.sl.r_332, kernelRun0_B.sl.r_333, kernelRun0_B.sl.r_334, kernelRun0_B.sl.r_335, kernelRun0_B.sl.r_336, kernelRun0_B.sl.r_337, kernelRun0_B.sl.r_338, kernelRun0_B.sl.r_339, kernelRun0_B.sl.r_340, kernelRun0_B.sl.r_341, kernelRun0_B.sl.r_342, kernelRun0_B.sl.r_343, kernelRun0_B.sl.r_344, kernelRun0_B.sl.r_345, kernelRun0_B.sl.r_346, kernelRun0_B.sl.r_347, kernelRun0_B.sl.r_348, kernelRun0_B.sl.r_349, kernelRun0_B.sl.r_350, kernelRun0_B.sl.r_351, kernelRun0_B.sl.r_352, kernelRun0_B.sl.r_353, kernelRun0_B.sl.r_354, k0_pay222, hn]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  generalize (norm (middle xs0 (attended (rows xs0 x9 x11 x12) x0 x3 x4 x5 x6 x7 x8) x13 x14) x10) = N
  rfl

end

end Cert.KernelIdeal.Gen
-- ==== Proof.BridgeB.lean ====
/- What the body leaves in each result block, in the stages of `Layer`. -/
module

public import proofs.«01_k».proof.Proof.StageB
public import proofs.«01_k».proof.Proof.HeadsOut
public import Idealize.ShloMosaic.Lib.Pipeline.ValueKit
public import Idealize.ShloMosaic.Lib.Pipeline.ReadBack

@[expose] public section

set_option maxRecDepth 100000
set_option maxHeartbeats 1000000

open Idealize.ShloMosaic Idealize.ShloMosaic.TcCoe Idealize.SL.Sem

namespace Cert.KernelIdeal.Gen

open Cert.Layer

variable {F : FTy → Type} [FloatOps F]

section
variable (c : Dev nD) (i : grid0.Coords) (arg1 : Memref sig .tc .smem S4 .i32) (harg1 : arg1.IsWhole) (arg2 : Memref sig .tc .vmem S8x576 .i8) (harg2 : arg2.IsWhole) (arg3 : Memref sig .tc .vmem S8x1 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S1x4x3x64x1024 .i8) (harg6 : arg6.IsWhole) (arg7 : Memref sig .tc .vmem S1x3x4x1024 .f32) (harg7 : arg7.IsWhole) (arg8 : Memref sig .tc .vmem S1x4x3x64x1024 .i8) (harg8 : arg8.IsWhole) (arg9 : Memref sig .tc .vmem S1x3x4x1024 .f32) (harg9 : arg9.IsWhole) (arg10 : Memref sig .tc .vmem S1x1x576 .f32) (harg10 : arg10.IsWhole) (arg11 : Memref sig .tc .vmem S1x1x576 .f32) (harg11 : arg11.IsWhole) (arg12 : Memref sig .tc .vmem S1x288x960 .i8) (harg12 : arg12.IsWhole) (arg13 : Memref sig .tc .vmem S1x18x960 .bf16) (harg13 : arg13.IsWhole) (arg14 : Memref sig .tc .vmem S1x288x576 .i8) (harg14 : arg14.IsWhole) (arg15 : Memref sig .tc .vmem S1x18x576 .bf16) (harg15 : arg15.IsWhole) (arg16 : Memref sig .tc .vmem S1x288x3072 .i8) (harg16 : arg16.IsWhole) (arg17 : Memref sig .tc .vmem S1x18x3072 .bf16) (harg17 : arg17.IsWhole) (arg18 : Memref sig .tc .vmem S1x768x576 .i8) (harg18 : arg18.IsWhole) (arg19 : Memref sig .tc .vmem S1x48x576 .bf16) (harg19 : arg19.IsWhole) (arg20 : Memref sig .tc .vmem S1x8x576 .f32) (harg20 : arg20.IsWhole) (arg21 : Memref sig .tc .vmem S1x9x8x64 .f32) (harg21 : arg21.IsWhole) (arg22 : Memref sig .tc .vmem S1x8x192 .i8) (harg22 : arg22.IsWhole) (arg23 : Memref sig .tc .vmem S1x8x3 .f32) (harg23 : arg23.IsWhole) (arg24 : Memref sig .tc .vmem S1x8x192 .i8) (harg24 : arg24.IsWhole) (arg25 : Memref sig .tc .vmem S1x8x3 .f32) (harg25 : arg25.IsWhole) (arg26 : Memref sig .tc .vmem S8x576 .f32) (harg26 : arg26.IsWhole) (hc0 : ¬cond0_0 i) (x0 : Vec F S4 .i32) (x1 : Vec F S8x576 .i8) (x2 : Vec F S8x1 .f32) (x3 : Vec F S8x128 .f32) (x4 : Vec F S8x128 .f32) (x5 : Vec F S1x4x3x64x1024 .i8) (x6 : Vec F S1x3x4x1024 .f32) (x7 : Vec F S1x4x3x64x1024 .i8) (x8 : Vec F S1x3x4x1024 .f32) (x9 : Vec F S1x1x576 .f32) (x10 : Vec F S1x1x576 .f32) (x11 : Vec F S1x288x960 .i8) (x12 : Vec F S1x18x960 .bf16) (x13 : Vec F S1x288x576 .i8) (x14 : Vec F S1x18x576 .bf16) (x15 : Vec F S1x288x3072 .i8) (x16 : Vec F S1x18x3072 .bf16) (x17 : Vec F S1x768x576 .i8) (x18 : Vec F S1x48x576 .bf16) (xs0 : Vec F S8x576 .f32)

/-- Case B: the residual stream after the layer. -/
theorem d_B : k0_pay1 (@kernelRun0_B.sl.r_179 F _ c arg1 harg1 arg4 harg4 arg5 harg5 arg6 harg6 arg7 harg7 arg8 harg8 arg9 harg9 arg10 harg10 arg12 harg12 arg13 harg13 arg14 harg14 arg15 harg15 arg26 harg26 x0 x3 x4 x5 x6 x7 x8 x9 x11 x12 x13 x14 xs0) (@kernelRun0_B.sl.r_406 F _ c arg1 harg1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 harg26 x0 x3 x4 x5 x6 x7 x8 x9 x10 x11 x12 x13 x14 x15 x16 x17 x18 xs0) (@kernelRun0_B.sl.r_463 F _ c arg1 harg1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 harg26 x0 x3 x4 x5 x6 x7 x8 x9 x10 x11 x12 x13 x14 x15 x16 x17 x18 xs0) (@kernelRun0_B.sl.r_490 F _ c arg1 harg1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 harg26 x0 x3 x4 x5 x6 x7 x8 x9 x10 x11 x12 x13 x14 x15 x16 x17 x18 xs0) (@kernelRun0_B.sl.r_491 F _ c arg1 harg1 arg4 harg4 arg5 harg5 arg6 harg6 arg7 harg7 arg8 harg8 arg9 harg9 arg10 harg10 arg11 harg11 arg12 harg12 arg13 harg13 arg14 harg14 arg15 harg15 arg16 harg16 arg17 harg17 arg26 harg26 x0 x3 x4 x5 x6 x7 x8 x9 x10 x11 x12 x13 x14 x15 x16 xs0) (@kernelRun0_B.sl.r_505 F _ c arg18 harg18 arg19 harg19 x17 x18) (@kernelRun0_B.sl.cst_631 F _) = (final (middle xs0 (attended (rows xs0 x9 x11 x12) x0 x3 x4 x5 x6 x7 x8) x13 x14) x10 x15 x16 x17 x18) := by
  have hm := @m_B F _ c arg1 harg1 arg4 harg4 arg5 harg5 arg6 harg6 arg7 harg7 arg8 harg8 arg9 harg9 arg10 harg10 arg12 harg12 arg13 harg13 arg14 harg14 arg15 harg15 arg26 harg26 x0 x3 x4 x5 x6 x7 x8 x9 x11 x12 x13 x14 xs0
  have hu := @u_B F _ c arg1 harg1 arg4 harg4 arg5 harg5 arg6 harg6 arg7 harg7 arg8 harg8 arg9 harg9 arg10 harg10 arg11 harg11 arg12 harg12 arg13 harg13 arg14 harg14 arg15 harg15 arg16 harg16 arg17 harg17 arg26 harg26 x0 x3 x4 x5 x6 x7 x8 x9 x10 x11 x12 x13 x14 x15 x16 xs0
  have hur := hu
  unfold kernelRun0_B.sl.r_354 at hur
  simp only [kernelRun0_B.sl.cst_631, kernelRun0_B.sl.r_355, kernelRun0_B.sl.r_356, kernelRun0_B.sl.r_357, kernelRun0_B.sl.r_358, kernelRun0_B.sl.r_359, kernelRun0_B.sl.r_360, kernelRun0_B.sl.r_361, kernelRun0_B.sl.r_362, kernelRun0_B.sl.r_363, kernelRun0_B.sl.r_364, kernelRun0_B.sl.r_365, kernelRun0_B.sl.r_366, kernelRun0_B.sl.r_367, kernelRun0_B.sl.r_368, kernelRun0_B.sl.r_369, kernelRun0_B.sl.r_370, kernelRun0_B.sl.r_371, kernelRun0_B.sl.r_372, kernelRun0_B.sl.r_373, kernelRun0_B.sl.r_374, kernelRun0_B.sl.r_375, kernelRun0_B.sl.r_376, kernelRun0_B.sl.r_377, kernelRun0_B.sl.r_378, kernelRun0_B.sl.r_379, kernelRun0_B.sl.r_380, kernelRun0_B.sl.r_381, kernelRun0_B.sl.r_382, kernelRun0_B.sl.r_383, kernelRun0_B.sl.r_384, kernelRun0_B.sl.r_385, kernelRun0_B.sl.r_386, kernelRun0_B.sl.r_387, kernelRun0_B.sl.r_388, kernelRun0_B.sl.r_389, kernelRun0_B.sl.r_390, kernelRun0_B.sl.r_391, kernelRun0_B.sl.r_392, kernelRun0_B.sl.r_393, kernelRun0_B.sl.r_394, kernelRun0_B.sl.r_395, kernelRun0_B.sl.r_396, kernelRun0_B.sl.r_397, kernelRun0_B.sl.r_398, kernelRun0_B.sl.r_399, kernelRun0_B.sl.r_400, kernelRun0_B.sl.r_401, kernelRun0_B.sl.r_402, kernelRun0_B.sl.r_403, kernelRun0_B.sl.r_404, kernelRun0_B.sl.r_405, kernelRun0_B.sl.r_406, kernelRun0_B.sl.r_407, kernelRun0_B.sl.r_408, kernelRun0_B.sl.r_409, kernelRun0_B.sl.r_410, kernelRun0_B.sl.r_411, kernelRun0_B.sl.r_412, kernelRun0_B.sl.r_413, kernelRun0_B.sl.r_414, kernelRun0_B.sl.r_415, kernelRun0_B.sl.r_416, kernelRun0_B.sl.r_417, kernelRun0_B.sl.r_418, kernelRun0_B.sl.r_419, kernelRun0_B.sl.r_420, kernelRun0_B.sl.r_421, kernelRun0_B.sl.r_422, kernelRun0_B.sl.r_423, kernelRun0_B.sl.r_424, kernelRun0_B.sl.r_425, kernelRun0_B.sl.r_426, kernelRun0_B.sl.r_427, kernelRun0_B.sl.r_428, kernelRun0_B.sl.r_429, kernelRun0_B.sl.r_430, kernelRun0_B.sl.r_431, kernelRun0_B.sl.r_432, kernelRun0_B.sl.r_433, kernelRun0_B.sl.r_434, kernelRun0_B.sl.r_435, kernelRun0_B.sl.r_436, kernelRun0_B.sl.r_437, kernelRun0_B.sl.r_438, kernelRun0_B.sl.r_439, kernelRun0_B.sl.r_440, kernelRun0_B.sl.r_441, kernelRun0_B.sl.r_442, kernelRun0_B.sl.r_443, kernelRun0_B.sl.r_444, kernelRun0_B.sl.r_445, kernelRun0_B.sl.r_446, kernelRun0_B.sl.r_447, kernelRun0_B.sl.r_448, kernelRun0_B.sl.r_449, kernelRun0_B.sl.r_450, kernelRun0_B.sl.r_451, kernelRun0_B.sl.r_452, kernelRun0_B.sl.r_453, kernelRun0_B.sl.r_454, kernelRun0_B.sl.r_455, kernelRun0_B.sl.r_456, kernelRun0_B.sl.r_457, kernelRun0_B.sl.r_458, kernelRun0_B.sl.r_459, kernelRun0_B.sl.r_460, kernelRun0_B.sl.r_461, kernelRun0_B.sl.r_462, kernelRun0_B.sl.r_463, kernelRun0_B.sl.r_464, kernelRun0_B.sl.r_465, kernelRun0_B.sl.r_466, kernelRun0_B.sl.r_467, kernelRun0_B.sl.r_468, kernelRun0_B.sl.r_469, kernelRun0_B.sl.r_470, kernelRun0_B.sl.r_471, kernelRun0_B.sl.r_472, kernelRun0_B.sl.r_473, kernelRun0_B.sl.r_474, kernelRun0_B.sl.r_475, kernelRun0_B.sl.r_476, kernelRun0_B.sl.r_477, kernelRun0_B.sl.r_478, kernelRun0_B.sl.r_479, kernelRun0_B.sl.r_480, kernelRun0_B.sl.r_481, kernelRun0_B.sl.r_482, kernelRun0_B.sl.r_483, kernelRun0_B.sl.r_484, kernelRun0_B.sl.r_485, kernelRun0_B.sl.r_486, kernelRun0_B.sl.r_487, kernelRun0_B.sl.r_488, kernelRun0_B.sl.r_489, kernelRun0_B.sl.r_490, kernelRun0_B.sl.r_491, kernelRun0_B.sl.r_492, kernelRun0_B.sl.r_493, kernelRun0_B.sl.r_494, kernelRun0_B.sl.r_495, kernelRun0_B.sl.r_496, kernelRun0_B.sl.r_497, kernelRun0_B.sl.r_498, kernelRun0_B.sl.r_499, kernelRun0_B.sl.r_500, kernelRun0_B.sl.r_501, kernelRun0_B.sl.r_502, kernelRun0_B.sl.r_503, kernelRun0_B.sl.r_504, kernelRun0_B.sl.r_505, k0_pay398, hm, hu, hur]
  simp (disch := decide) only [View.read_writes_junk_eq_canon, View.canon_cons_unit_lit', View.ld_unit_lit', View.readCov_unit_lit', View.readCov_cons_unit_lit', View.readAt_eq_ld, Memref.IsWhole.read_unread]
  repeat rw [Memref.IsWhole.read_unread]
  unfold final
  generalize (act (gateUp (norm (middle xs0 (attended (rows xs0 x9 x11 x12) x0 x3 x4 x5 x6 x7 x8) x13 x14) x10) x15 x16)) = U
  generalize (middle xs0 (attended (rows xs0 x9 x11 x12) x0 x3 x4 x5 x6 x7 x8) x13 x14) = M
  rfl

/-- Case B: the stored residual stream -/
theorem out0_B_19_eq : out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0 = shapeCast S1x8x576 (final (middle xs0 (attended (rows xs0 x9 x11 x12) x0 x3 x4 x5 x6 x7 x8) x13 x14) x10 x15 x16 x17 x18) shapeCasts_S8x576_S1x8x576 := by
  unfold out0_B_19 kernelRun0_B
  dsimp only
  simp (disch := decide) only [View.read_writes_junk_eq_canon, View.canon_cons_unit_lit', View.ld_unit_lit', View.readCov_unit_lit', View.readCov_cons_unit_lit', View.readAt_eq_ld, Memref.IsWhole.read_unread]
  unfold k0_pay2
  rw [@d_B F _ c arg1 harg1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 harg26 x0 x3 x4 x5 x6 x7 x8 x9 x10 x11 x12 x13 x14 x15 x16 x17 x18 xs0]

/-- Case B: the stored attention heads -/
theorem out0_B_20_eq : out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0 = headsOut (attended (rows xs0 x9 x11 x12) x0 x3 x4 x5 x6 x7 x8) := by
  unfold out0_B_20 kernelRun0_B
  dsimp only
  have ha := @a_B F _ c arg1 harg1 arg4 harg4 arg5 harg5 arg6 harg6 arg7 harg7 arg8 harg8 arg9 harg9 arg10 harg10 arg12 harg12 arg13 harg13 arg26 harg26 x0 x3 x4 x5 x6 x7 x8 x9 x11 x12 xs0
  have har := ha
  unfold kernelRun0_B.sl.r_125 at har
  simp only [kernelRun0_B.sl.r_126, kernelRun0_B.sl.r_127, kernelRun0_B.sl.r_128, kernelRun0_B.sl.r_129, kernelRun0_B.sl.r_130, k0_pay153, k0_pay154, k0_pay155, k0_pay156, k0_pay157, k0_pay158, k0_pay159, k0_pay160, k0_pay161]
  simp only [View.read_writes_junk_eq_canon]
  rw [har]
  try rw [ha]
  generalize (attended (rows xs0 x9 x11 x12) x0 x3 x4 x5 x6 x7 x8) = A
  rfl

/-- Case B: the stored key codes -/
theorem out0_B_21_eq : out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0 = codesOut (keyHead (rope (rows xs0 x9 x11 x12) x3 x4)) := by
  unfold out0_B_21 kernelRun0_B
  dsimp only
  simp (disch := decide) only [View.read_writes_junk_eq_canon, View.canon_cons_unit_lit', View.ld_unit_lit', View.readCov_unit_lit', View.readCov_cons_unit_lit', View.readAt_eq_ld, Memref.IsWhole.read_unread]
  have hy := @y_B F _ c arg10 harg10 arg12 harg12 arg13 harg13 arg26 harg26 x9 x11 x12 xs0
  have hz := @z_B F _ c arg4 harg4 arg5 harg5 arg10 harg10 arg12 harg12 arg13 harg13 arg26 harg26 x3 x4 x9 x11 x12 xs0
  have hzr := hz
  unfold kernelRun0_B.sl.r_89 at hzr
  simp only [kernelRun0_B.sl.cst_102, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.v627, k0_pay97, k0_pay98, hz, hzr]
  repeat rw [hzr]
  repeat rw [hz]
  repeat rw [hy]
  generalize (rope (rows xs0 x9 x11 x12) x3 x4) = Z
  generalize (rows xs0 x9 x11 x12) = Y
  rfl

/-- Case B: the stored key scales -/
theorem out0_B_22_eq : out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0 = scalesOut (keyHead (rope (rows xs0 x9 x11 x12) x3 x4)) := by
  unfold out0_B_22 kernelRun0_B
  dsimp only
  simp (disch := decide) only [View.read_writes_junk_eq_canon, View.canon_cons_unit_lit', View.ld_unit_lit', View.readCov_unit_lit', View.readCov_cons_unit_lit', View.readAt_eq_ld, Memref.IsWhole.read_unread]
  have hy := @y_B F _ c arg10 harg10 arg12 harg12 arg13 harg13 arg26 harg26 x9 x11 x12 xs0
  have hz := @z_B F _ c arg4 harg4 arg5 harg5 arg10 harg10 arg12 harg12 arg13 harg13 arg26 harg26 x3 x4 x9 x11 x12 xs0
  have hzr := hz
  unfold kernelRun0_B.sl.r_89 at hzr
  simp only [kernelRun0_B.sl.cst_102, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.v627, k0_pay97, k0_pay98, hz, hzr]
  repeat rw [hzr]
  repeat rw [hz]
  repeat rw [hy]
  generalize (rope (rows xs0 x9 x11 x12) x3 x4) = Z
  generalize (rows xs0 x9 x11 x12) = Y
  rfl

/-- Case B: the stored value codes -/
theorem out0_B_23_eq : out0_B_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0 = codesOut (valueHead (rows xs0 x9 x11 x12)) := by
  unfold out0_B_23 kernelRun0_B
  dsimp only
  simp (disch := decide) only [View.read_writes_junk_eq_canon, View.canon_cons_unit_lit', View.ld_unit_lit', View.readCov_unit_lit', View.readCov_cons_unit_lit', View.readAt_eq_ld, Memref.IsWhole.read_unread]
  have hy := @y_B F _ c arg10 harg10 arg12 harg12 arg13 harg13 arg26 harg26 x9 x11 x12 xs0
  have hz := @z_B F _ c arg4 harg4 arg5 harg5 arg10 harg10 arg12 harg12 arg13 harg13 arg26 harg26 x3 x4 x9 x11 x12 xs0
  have hzr := hz
  unfold kernelRun0_B.sl.r_89 at hzr
  simp only [kernelRun0_B.sl.cst_102, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.v627, k0_pay97, k0_pay98, hz, hzr]
  repeat rw [hzr]
  repeat rw [hz]
  repeat rw [hy]
  generalize (rope (rows xs0 x9 x11 x12) x3 x4) = Z
  generalize (rows xs0 x9 x11 x12) = Y
  rfl

/-- Case B: the stored value scales -/
theorem out0_B_24_eq : out0_B_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0 = scalesOut (valueHead (rows xs0 x9 x11 x12)) := by
  unfold out0_B_24 kernelRun0_B
  dsimp only
  simp (disch := decide) only [View.read_writes_junk_eq_canon, View.canon_cons_unit_lit', View.ld_unit_lit', View.readCov_unit_lit', View.readCov_cons_unit_lit', View.readAt_eq_ld, Memref.IsWhole.read_unread]
  have hy := @y_B F _ c arg10 harg10 arg12 harg12 arg13 harg13 arg26 harg26 x9 x11 x12 xs0
  have hz := @z_B F _ c arg4 harg4 arg5 harg5 arg10 harg10 arg12 harg12 arg13 harg13 arg26 harg26 x3 x4 x9 x11 x12 xs0
  have hzr := hz
  unfold kernelRun0_B.sl.r_89 at hzr
  simp only [kernelRun0_B.sl.cst_102, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.v627, k0_pay97, k0_pay98, hz, hzr]
  repeat rw [hzr]
  repeat rw [hz]
  repeat rw [hy]
  generalize (rope (rows xs0 x9 x11 x12) x3 x4) = Z
  generalize (rows xs0 x9 x11 x12) = Y
  rfl

/-- Case B: the carried residual stream -/
theorem sout0_B_0_eq : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 xs0 = shapeCast S8x576 (final (middle xs0 (attended (rows xs0 x9 x11 x12) x0 x3 x4 x5 x6 x7 x8) x13 x14) x10 x15 x16 x17 x18) shapeCasts_S8x576_S8x576 := by
  unfold sout0_B_0 kernelRun0_B
  dsimp only
  simp (disch := decide) only [View.read_writes_junk_eq_canon, View.canon_cons_unit_lit', View.ld_unit_lit', View.readCov_unit_lit', View.readCov_cons_unit_lit', View.readAt_eq_ld, Memref.IsWhole.read_unread]
  unfold k0_pay3
  rw [@d_B F _ c arg1 harg1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg26 harg26 x0 x3 x4 x5 x6 x7 x8 x9 x10 x11 x12 x13 x14 x15 x16 x17 x18 xs0]

end

end Cert.KernelIdeal.Gen
-- ==== Proof.Points.lean ====
/- The kernel's points against the reference's layers: the same residual stream, the same stored results. -/
module

public import proofs.«01_k».proof.Proof.KInputs
public import proofs.«01_k».proof.Proof.RefRun
public import proofs.«01_k».proof.Proof.Match3
public import proofs.«01_k».proof.Proof.BridgeA
public import proofs.«01_k».proof.Proof.BridgeB

@[expose] public section

set_option maxRecDepth 16384

noncomputable section

namespace Cert.KernelIdeal.Value

open Cert.KernelIdeal Cert.KernelIdeal.Gen Idealize.ShloMosaic Idealize.ShloMosaic.TcCoe Idealize.SL.Sem
open Cert.Block Cert.Cat Cert.Match Cert.Spec
open Cert.ReferenceIdeal.Gen (Operands)

variable (m : (ℓ : Loc nD τ sig) → Buf (Elt Ideal) ℓ) (c : Dev nD)

/-- The reference's operands, from the arguments. -/
def operands : Operands Ideal where
  ln := m ((c : Thread nD τ).loc main_arg1)
  e := V m c main_v7
  s := V m c main_v15
  co := m ((c : Thread nD τ).loc main_arg2)
  si := m ((c : Thread nD τ).loc main_arg3)
  ck := m ((c : Thread nD τ).loc main_arg4)
  cks := m ((c : Thread nD τ).loc main_arg5)
  cv := m ((c : Thread nD τ).loc main_arg6)
  cvs := m ((c : Thread nD τ).loc main_arg7)
  an := m ((c : Thread nD τ).loc main_arg10)
  mn := m ((c : Thread nD τ).loc main_arg11)
  wq := m ((c : Thread nD τ).loc main_arg12)
  gq := m ((c : Thread nD τ).loc main_arg13)
  wo := m ((c : Thread nD τ).loc main_arg14)
  go := m ((c : Thread nD τ).loc main_arg15)
  wgu := m ((c : Thread nD τ).loc main_arg16)
  ggu := m ((c : Thread nD τ).loc main_arg17)
  wd := m ((c : Thread nD τ).loc main_arg18)
  gd := m ((c : Thread nD τ).loc main_arg19)

theorem off1 : ∀ k : Fin Cert.ReferenceIdeal.k0_t1_loop.trips, Cert.ReferenceIdeal.k0_off1 k = ![k.val, 0] := by decide +kernel
theorem off2 : ∀ k : Fin Cert.ReferenceIdeal.k0_t1_loop.trips, Cert.ReferenceIdeal.k0_off2 k = ![k.val, 0, 0] := by decide +kernel
theorem off3 : ∀ k : Fin Cert.ReferenceIdeal.k0_t1_loop.trips, Cert.ReferenceIdeal.k0_off3 k = ![k.val, 0, 0] := by decide +kernel
theorem off4 : ∀ k : Fin Cert.ReferenceIdeal.k0_t1_loop.trips, Cert.ReferenceIdeal.k0_off4 k = ![k.val, 0, 0, 0, 0] := by decide +kernel
theorem off5 : ∀ k : Fin Cert.ReferenceIdeal.k0_t1_loop.trips, Cert.ReferenceIdeal.k0_off5 k = ![k.val, 0, 0, 0] := by decide +kernel
theorem off6 : ∀ k : Fin Cert.ReferenceIdeal.k0_t1_loop.trips, Cert.ReferenceIdeal.k0_off6 k = ![k.val, 0, 0] := by decide +kernel
theorem off7 : ∀ k : Fin Cert.ReferenceIdeal.k0_t1_loop.trips, Cert.ReferenceIdeal.k0_off7 k = ![k.val, 0, 0] := by decide +kernel
theorem off8 : ∀ k : Fin Cert.ReferenceIdeal.k0_t1_loop.trips, Cert.ReferenceIdeal.k0_off8 k = ![k.val, 0, 0] := by decide +kernel
theorem off9 : ∀ k : Fin Cert.ReferenceIdeal.k0_t1_loop.trips, Cert.ReferenceIdeal.k0_off9 k = ![k.val, 0, 0] := by decide +kernel
theorem off10 : ∀ k : Fin Cert.ReferenceIdeal.k0_t1_loop.trips, Cert.ReferenceIdeal.k0_off10 k = ![k.val, 0, 0] := by decide +kernel
theorem off11 : ∀ k : Fin Cert.ReferenceIdeal.k0_t1_loop.trips, Cert.ReferenceIdeal.k0_off11 k = ![k.val, 0, 0] := by decide +kernel

section Point
variable (t : Fin cfg0.N) (k : Fin Cert.ReferenceIdeal.k0_t1_loop.trips) (hk : k.val = t.val)
include hk

theorem wq_eq : (iblk m c 11 t : Vec Ideal S1x288x960 .i8) = View.ld (operands m c).wq (Rect.unit (s := Cert.ReferenceIdeal.S30x288x960) (Cert.ReferenceIdeal.k0_off2 k) Cert.ReferenceIdeal.S1x288x960.size (Cert.ReferenceIdeal.Gen.k0_off2_inb k)) := by
  refine funext fun (x : S1x288x960.Idx) => ?_
  have hx : (x 0).val < 1 := (x 0).isLt
  refine wq_at m c t x ((Rect.unit (s := Cert.ReferenceIdeal.S30x288x960) (Cert.ReferenceIdeal.k0_off2 k) Cert.ReferenceIdeal.S1x288x960.size (Cert.ReferenceIdeal.Gen.k0_off2_inb k)).idx x) ?_ ?_ ?_ <;> rw [Rect.idx_unit_val] <;> refine (congrArg (· + _) (congrFun (off2 k) _)).trans ?_
  · show k.val + (x 0).val = t.val
    omega
  · exact Nat.zero_add _
  · exact Nat.zero_add _

theorem gq_eq : (iblk m c 12 t : Vec Ideal S1x18x960 .bf16) = View.ld (operands m c).gq (Rect.unit (s := Cert.ReferenceIdeal.S30x18x960) (Cert.ReferenceIdeal.k0_off3 k) Cert.ReferenceIdeal.S1x18x960.size (Cert.ReferenceIdeal.Gen.k0_off3_inb k)) := by
  refine funext fun (x : S1x18x960.Idx) => ?_
  have hx : (x 0).val < 1 := (x 0).isLt
  refine gq_at m c t x ((Rect.unit (s := Cert.ReferenceIdeal.S30x18x960) (Cert.ReferenceIdeal.k0_off3 k) Cert.ReferenceIdeal.S1x18x960.size (Cert.ReferenceIdeal.Gen.k0_off3_inb k)).idx x) ?_ ?_ ?_ <;> rw [Rect.idx_unit_val] <;> refine (congrArg (· + _) (congrFun (off3 k) _)).trans ?_
  · show k.val + (x 0).val = t.val
    omega
  · exact Nat.zero_add _
  · exact Nat.zero_add _

theorem wo_eq : (iblk m c 13 t : Vec Ideal S1x288x576 .i8) = View.ld (operands m c).wo (Rect.unit (s := Cert.ReferenceIdeal.S30x288x576) (Cert.ReferenceIdeal.k0_off6 k) Cert.ReferenceIdeal.S1x288x576.size (Cert.ReferenceIdeal.Gen.k0_off6_inb k)) := by
  refine funext fun (x : S1x288x576.Idx) => ?_
  have hx : (x 0).val < 1 := (x 0).isLt
  refine wo_at m c t x ((Rect.unit (s := Cert.ReferenceIdeal.S30x288x576) (Cert.ReferenceIdeal.k0_off6 k) Cert.ReferenceIdeal.S1x288x576.size (Cert.ReferenceIdeal.Gen.k0_off6_inb k)).idx x) ?_ ?_ ?_ <;> rw [Rect.idx_unit_val] <;> refine (congrArg (· + _) (congrFun (off6 k) _)).trans ?_
  · show k.val + (x 0).val = t.val
    omega
  · exact Nat.zero_add _
  · exact Nat.zero_add _

theorem go_eq : (iblk m c 14 t : Vec Ideal S1x18x576 .bf16) = View.ld (operands m c).go (Rect.unit (s := Cert.ReferenceIdeal.S30x18x576) (Cert.ReferenceIdeal.k0_off7 k) Cert.ReferenceIdeal.S1x18x576.size (Cert.ReferenceIdeal.Gen.k0_off7_inb k)) := by
  refine funext fun (x : S1x18x576.Idx) => ?_
  have hx : (x 0).val < 1 := (x 0).isLt
  refine go_at m c t x ((Rect.unit (s := Cert.ReferenceIdeal.S30x18x576) (Cert.ReferenceIdeal.k0_off7 k) Cert.ReferenceIdeal.S1x18x576.size (Cert.ReferenceIdeal.Gen.k0_off7_inb k)).idx x) ?_ ?_ ?_ <;> rw [Rect.idx_unit_val] <;> refine (congrArg (· + _) (congrFun (off7 k) _)).trans ?_
  · show k.val + (x 0).val = t.val
    omega
  · exact Nat.zero_add _
  · exact Nat.zero_add _

theorem wgu_eq : (iblk m c 15 t : Vec Ideal S1x288x3072 .i8) = View.ld (operands m c).wgu (Rect.unit (s := Cert.ReferenceIdeal.S30x288x3072) (Cert.ReferenceIdeal.k0_off8 k) Cert.ReferenceIdeal.S1x288x3072.size (Cert.ReferenceIdeal.Gen.k0_off8_inb k)) := by
  refine funext fun (x : S1x288x3072.Idx) => ?_
  have hx : (x 0).val < 1 := (x 0).isLt
  refine wgu_at m c t x ((Rect.unit (s := Cert.ReferenceIdeal.S30x288x3072) (Cert.ReferenceIdeal.k0_off8 k) Cert.ReferenceIdeal.S1x288x3072.size (Cert.ReferenceIdeal.Gen.k0_off8_inb k)).idx x) ?_ ?_ ?_ <;> rw [Rect.idx_unit_val] <;> refine (congrArg (· + _) (congrFun (off8 k) _)).trans ?_
  · show k.val + (x 0).val = t.val
    omega
  · exact Nat.zero_add _
  · exact Nat.zero_add _

theorem ggu_eq : (iblk m c 16 t : Vec Ideal S1x18x3072 .bf16) = View.ld (operands m c).ggu (Rect.unit (s := Cert.ReferenceIdeal.S30x18x3072) (Cert.ReferenceIdeal.k0_off9 k) Cert.ReferenceIdeal.S1x18x3072.size (Cert.ReferenceIdeal.Gen.k0_off9_inb k)) := by
  refine funext fun (x : S1x18x3072.Idx) => ?_
  have hx : (x 0).val < 1 := (x 0).isLt
  refine ggu_at m c t x ((Rect.unit (s := Cert.ReferenceIdeal.S30x18x3072) (Cert.ReferenceIdeal.k0_off9 k) Cert.ReferenceIdeal.S1x18x3072.size (Cert.ReferenceIdeal.Gen.k0_off9_inb k)).idx x) ?_ ?_ ?_ <;> rw [Rect.idx_unit_val] <;> refine (congrArg (· + _) (congrFun (off9 k) _)).trans ?_
  · show k.val + (x 0).val = t.val
    omega
  · exact Nat.zero_add _
  · exact Nat.zero_add _

theorem wd_eq : (iblk m c 17 t : Vec Ideal S1x768x576 .i8) = View.ld (operands m c).wd (Rect.unit (s := Cert.ReferenceIdeal.S30x768x576) (Cert.ReferenceIdeal.k0_off10 k) Cert.ReferenceIdeal.S1x768x576.size (Cert.ReferenceIdeal.Gen.k0_off10_inb k)) := by
  refine funext fun (x : S1x768x576.Idx) => ?_
  have hx : (x 0).val < 1 := (x 0).isLt
  refine wd_at m c t x ((Rect.unit (s := Cert.ReferenceIdeal.S30x768x576) (Cert.ReferenceIdeal.k0_off10 k) Cert.ReferenceIdeal.S1x768x576.size (Cert.ReferenceIdeal.Gen.k0_off10_inb k)).idx x) ?_ ?_ ?_ <;> rw [Rect.idx_unit_val] <;> refine (congrArg (· + _) (congrFun (off10 k) _)).trans ?_
  · show k.val + (x 0).val = t.val
    omega
  · exact Nat.zero_add _
  · exact Nat.zero_add _

theorem gd_eq : (iblk m c 18 t : Vec Ideal S1x48x576 .bf16) = View.ld (operands m c).gd (Rect.unit (s := Cert.ReferenceIdeal.S30x48x576) (Cert.ReferenceIdeal.k0_off11 k) Cert.ReferenceIdeal.S1x48x576.size (Cert.ReferenceIdeal.Gen.k0_off11_inb k)) := by
  refine funext fun (x : S1x48x576.Idx) => ?_
  have hx : (x 0).val < 1 := (x 0).isLt
  refine gd_at m c t x ((Rect.unit (s := Cert.ReferenceIdeal.S30x48x576) (Cert.ReferenceIdeal.k0_off11 k) Cert.ReferenceIdeal.S1x48x576.size (Cert.ReferenceIdeal.Gen.k0_off11_inb k)).idx x) ?_ ?_ ?_ <;> rw [Rect.idx_unit_val] <;> refine (congrArg (· + _) (congrFun (off11 k) _)).trans ?_
  · show k.val + (x 0).val = t.val
    omega
  · exact Nat.zero_add _
  · exact Nat.zero_add _

theorem an_eq : SameNorm (iblk m c 9 t) (View.ld (operands m c).an (Rect.unit (s := Cert.ReferenceIdeal.S30x576) (Cert.ReferenceIdeal.k0_off1 k) Cert.ReferenceIdeal.S1x576.size (Cert.ReferenceIdeal.Gen.k0_off1_inb k))) := fun j => by
  refine an_at m c t (ix3 0 0 j) ((Rect.unit (s := Cert.ReferenceIdeal.S30x576) (Cert.ReferenceIdeal.k0_off1 k) Cert.ReferenceIdeal.S1x576.size (Cert.ReferenceIdeal.Gen.k0_off1_inb k)).idx (ix2 0 j)) ?_ ?_ <;> rw [Rect.idx_unit_val] <;> refine (congrArg (· + _) (congrFun (off1 k) _)).trans ?_
  · exact hk
  · exact Nat.zero_add _

theorem mn_eq : SameNorm (iblk m c 10 t) (View.ld (operands m c).mn (Rect.unit (s := Cert.ReferenceIdeal.S30x576) (Cert.ReferenceIdeal.k0_off1 k) Cert.ReferenceIdeal.S1x576.size (Cert.ReferenceIdeal.Gen.k0_off1_inb k))) := fun j => by
  refine mn_at m c t (ix3 0 0 j) ((Rect.unit (s := Cert.ReferenceIdeal.S30x576) (Cert.ReferenceIdeal.k0_off1 k) Cert.ReferenceIdeal.S1x576.size (Cert.ReferenceIdeal.Gen.k0_off1_inb k)).idx (ix2 0 j)) ?_ ?_ <;> rw [Rect.idx_unit_val] <;> refine (congrArg (· + _) (congrFun (off1 k) _)).trans ?_
  · exact hk
  · exact Nat.zero_add _

theorem caches : Caches (iblk m c 5 t) (iblk m c 7 t) (iblk m c 6 t) (iblk m c 8 t) (View.ld (operands m c).ck (Rect.unit (s := Cert.ReferenceIdeal.S30x4x3x1024x64) (Cert.ReferenceIdeal.k0_off4 k) Cert.ReferenceIdeal.S1x4x3x1024x64.size (Cert.ReferenceIdeal.Gen.k0_off4_inb k))) (View.ld (operands m c).cv (Rect.unit (s := Cert.ReferenceIdeal.S30x4x3x1024x64) (Cert.ReferenceIdeal.k0_off4 k) Cert.ReferenceIdeal.S1x4x3x1024x64.size (Cert.ReferenceIdeal.Gen.k0_off4_inb k))) (View.ld (operands m c).cks (Rect.unit (s := Cert.ReferenceIdeal.S30x4x3x1024) (Cert.ReferenceIdeal.k0_off5 k) Cert.ReferenceIdeal.S1x4x3x1024.size (Cert.ReferenceIdeal.Gen.k0_off5_inb k))) (View.ld (operands m c).cvs (Rect.unit (s := Cert.ReferenceIdeal.S30x4x3x1024) (Cert.ReferenceIdeal.k0_off5 k) Cert.ReferenceIdeal.S1x4x3x1024.size (Cert.ReferenceIdeal.Gen.k0_off5_inb k))) where
  k := fun b h d s => by
    refine ck_at m c t (ix5 0 b h d s) ((Rect.unit (s := Cert.ReferenceIdeal.S30x4x3x1024x64) (Cert.ReferenceIdeal.k0_off4 k) Cert.ReferenceIdeal.S1x4x3x1024x64.size (Cert.ReferenceIdeal.Gen.k0_off4_inb k)).idx (ix5 0 b h s d)) ?_ ?_ ?_ ?_ ?_ <;> rw [Rect.idx_unit_val] <;> refine (congrArg (· + _) (congrFun (off4 k) _)).trans ?_
    · exact hk
    all_goals exact Nat.zero_add _
  v := fun b h d s => by
    refine cv_at m c t (ix5 0 b h d s) ((Rect.unit (s := Cert.ReferenceIdeal.S30x4x3x1024x64) (Cert.ReferenceIdeal.k0_off4 k) Cert.ReferenceIdeal.S1x4x3x1024x64.size (Cert.ReferenceIdeal.Gen.k0_off4_inb k)).idx (ix5 0 b h s d)) ?_ ?_ ?_ ?_ ?_ <;> rw [Rect.idx_unit_val] <;> refine (congrArg (· + _) (congrFun (off4 k) _)).trans ?_
    · exact hk
    all_goals exact Nat.zero_add _
  ks := fun b h s => by
    refine cks_at m c t (ix4 0 h b s) ((Rect.unit (s := Cert.ReferenceIdeal.S30x4x3x1024) (Cert.ReferenceIdeal.k0_off5 k) Cert.ReferenceIdeal.S1x4x3x1024.size (Cert.ReferenceIdeal.Gen.k0_off5_inb k)).idx (ix4 0 b h s)) ?_ ?_ ?_ ?_ <;> rw [Rect.idx_unit_val] <;> refine (congrArg (· + _) (congrFun (off5 k) _)).trans ?_
    · exact hk
    all_goals exact Nat.zero_add _
  vs := fun b h s => by
    refine cvs_at m c t (ix4 0 h b s) ((Rect.unit (s := Cert.ReferenceIdeal.S30x4x3x1024) (Cert.ReferenceIdeal.k0_off5 k) Cert.ReferenceIdeal.S1x4x3x1024.size (Cert.ReferenceIdeal.Gen.k0_off5_inb k)).idx (ix4 0 b h s)) ?_ ?_ ?_ ?_ <;> rw [Rect.idx_unit_val] <;> refine (congrArg (· + _) (congrFun (off5 k) _)).trans ?_
    · exact hk
    all_goals exact Nat.zero_add _

omit hk in
theorem angles : Angles (iblk m c 3 t) (iblk m c 4 t) (operands m c).co (operands m c).si := by
  have row : ∀ (x : FVec Ideal S4x2x32 .f32) (i : Fin 8) (l : Fin 32),
      shapeCast S8x32 x shapeCasts_S4x2x32_S8x32 (ix2 i l) = x (ix3 ⟨i.val / 2, by omega⟩ ⟨i.val % 2, by omega⟩ l) := fun x i l => by
    refine Idealize.ShloMosaic.shapeCast_apply _ _ _ _ ?_
    rw [Shape.rowMajor_val_two, Shape.rowMajor_val_three]
    show (i.val / 2 * 2 + i.val % 2) * 32 + l.val = i.val * 32 + l.val
    omega
  have at' : ∀ (x : FVec Ideal S4x2x32 .f32) (b b' : Fin 4) (t t' : Fin 2) (l l' : Fin 32), b.val = b'.val → t.val = t'.val → l.val = l'.val →
      x (ix3 b t l) = x (ix3 b' t' l') := fun x b b' t t' l l' h1 h2 h3 => by
    rw [Fin.ext h1, Fin.ext h2, Fin.ext h3]
  constructor
  · intro b t' l
    rw [whole3, V_main_v18]
    refine (cols (fun (i : Fin 8) (j : Fin 128) => (operands m c).co (ix3 ⟨i.val / 2, by omega⟩ ⟨i.val % 2, by omega⟩ ⟨j.val % 32, by omega⟩)) _ _
      (.cons ?_ (.cons ?_ (.cons ?_ (.cons ?_ (.nil _))))) (tok b t') l).trans ?_
    rotate_left 4
    · exact at' (operands m c).co ⟨(2 * b.val + t'.val) / 2, by omega⟩ b ⟨(2 * b.val + t'.val) % 2, by omega⟩ t' _ _ (by show (2 * b.val + t'.val) / 2 = b.val; omega) (by show (2 * b.val + t'.val) % 2 = t'.val; omega) rfl
    all_goals
      intro i j q hq
      have hj := j.isLt
      exact (row _ i j).trans (at' (operands m c).co _ _ _ _ _ _ rfl rfl (by show j.val = q.val % 32; omega))
  · intro b t' l
    rw [whole4, V_main_v21]
    refine (cols (fun (i : Fin 8) (j : Fin 128) => if j.val % 64 < 32 then (-((operands m c).si (ix3 ⟨i.val / 2, by omega⟩ ⟨i.val % 2, by omega⟩ ⟨j.val % 32, by omega⟩) : EReal) : EReal)
      else (operands m c).si (ix3 ⟨i.val / 2, by omega⟩ ⟨i.val % 2, by omega⟩ ⟨j.val % 32, by omega⟩)) _ _
      (.cons ?_ (.cons ?_ (.cons ?_ (.cons ?_ (.nil _))))) (tok b t') l).trans ?_
    rotate_left 4
    · have e := at' (operands m c).si ⟨(2 * b.val + t'.val) / 2, by omega⟩ b ⟨(2 * b.val + t'.val) % 2, by omega⟩ t' ⟨l.val % 32, by omega⟩ ⟨l.val % 32, by omega⟩ (by show (2 * b.val + t'.val) / 2 = b.val; omega)
        (by show (2 * b.val + t'.val) % 2 = t'.val; omega) rfl
      exact congrArg (fun z : EReal => if l.val % 64 < 32 then -z else z) e
    all_goals
      intro i j q hq
      have hj := j.isLt
      have e := (row (operands m c).si i j).trans (at' (operands m c).si _ _ _ _ _ ⟨q.val % 32, by omega⟩ rfl rfl (by show j.val = q.val % 32; omega))
    · exact (congrArg (fun z : EReal => -z) e).trans (if_pos (by omega)).symm
    · exact e.trans (if_neg (by omega)).symm
    · exact (congrArg (fun z : EReal => -z) e).trans (if_pos (by omega)).symm
    · exact e.trans (if_neg (by omega)).symm

variable (x : FVec Ideal S8x576 .f32)

theorem point_rows : Layer.rows x (iblk m c 9 t) (iblk m c 11 t) (iblk m c 12 t) = (operands m c).rows k x := by
  rw [wq_eq m c t k hk, gq_eq m c t k hk]
  exact rows_eq x (an_eq m c t k hk) _ _

theorem point_heads : SameHeads (Layer.attended (Layer.rows x (iblk m c 9 t) (iblk m c 11 t) (iblk m c 12 t)) (iblk m c 0 t) (iblk m c 3 t) (iblk m c 4 t)
    (iblk m c 5 t) (iblk m c 6 t) (iblk m c 7 t) (iblk m c 8 t)) ((operands m c).att k x) := fun h b t' d => by
  rw [point_rows m c t k hk, whole0, V_main_arg1]
  exact attended_eq (angles m c t) (caches m c t k hk) _ _ h b t' d

theorem point_next : Layer.final (Layer.middle x (Layer.attended (Layer.rows x (iblk m c 9 t) (iblk m c 11 t) (iblk m c 12 t)) (iblk m c 0 t) (iblk m c 3 t) (iblk m c 4 t)
    (iblk m c 5 t) (iblk m c 6 t) (iblk m c 7 t) (iblk m c 8 t)) (iblk m c 13 t) (iblk m c 14 t)) (iblk m c 10 t) (iblk m c 15 t) (iblk m c 16 t) (iblk m c 17 t) (iblk m c 18 t)
      = (operands m c).next k x := by
  rw [middle_eq x (point_heads m c t k hk x), final_eq _ (mn_eq m c t k hk), wo_eq m c t k hk, go_eq m c t k hk, wgu_eq m c t k hk, ggu_eq m c t k hk, wd_eq m c t k hk, gd_eq m c t k hk]
  rfl

theorem point_keys : Same (Layer.keyHead (Layer.rope (Layer.rows x (iblk m c 9 t) (iblk m c 11 t) (iblk m c 12 t)) (iblk m c 3 t) (iblk m c 4 t)))
    (RefLayer.keys ((operands m c).rows k x) (operands m c).co (operands m c).si) := fun h b t' d => by
  rw [point_rows m c t k hk]
  exact key_eq (angles m c t) _ h b t' d

theorem point_values : Same (Layer.valueHead (Layer.rows x (iblk m c 9 t) (iblk m c 11 t) (iblk m c 12 t))) (RefLayer.values ((operands m c).rows k x)) := fun h b t' d => by
  rw [point_rows m c t k hk]
  exact value_eq _ h b t' d

end Point

/-- What point `t` leaves: layer `t`'s results, and the residual stream for the next layer. -/
theorem outs_eq : ∀ (n : ℕ) (hn : n < cfg0.N) (k : Fin Cert.ReferenceIdeal.k0_t1_loop.trips), k.val = n →
    outsAt0 m c n hn = ((operands m c).res k, (operands m c).heads k, (operands m c).kc k, (operands m c).ks k, (operands m c).vc k, (operands m c).vs k,
      (operands m c).next k ((operands m c).stream k.val)) := by
  intro n
  induction n with
  | zero =>
    intro hn k hk
    have hx : Layer.start (iblk m c 1 ⟨0, hn⟩) (iblk m c 2 ⟨0, hn⟩) = (operands m c).stream k.val := by
      rw [hk, whole1, whole2]
      exact start_eq _ _
    rw [show outsAt0 m c 0 hn = _ from outsAt0_A m c ⟨0, hn⟩ rfl]
    rw [out0_A_19_eq, out0_A_20_eq, out0_A_21_eq, out0_A_22_eq, out0_A_23_eq, out0_A_24_eq, sout0_A_0_eq, hx, point_next m c ⟨0, hn⟩ k hk,
      headsOut_eq (point_heads m c ⟨0, hn⟩ k hk _), codesOut_eq (point_keys m c ⟨0, hn⟩ k hk _), scalesOut_eq (point_keys m c ⟨0, hn⟩ k hk _),
      codesOut_eq (point_values m c ⟨0, hn⟩ k hk _), scalesOut_eq (point_values m c ⟨0, hn⟩ k hk _), shapeCast_self]
    rfl
  | succ n ih =>
    intro hn k hk
    have hN : cfg0.N = 30 := N_0
    have hn' : n < Cert.ReferenceIdeal.k0_t1_loop.trips := by have := k.isLt; omega
    have hx : (outsAt0 m c n (Nat.lt_of_succ_lt hn)).2.2.2.2.2.2 = (operands m c).stream k.val := by
      rw [ih (Nat.lt_of_succ_lt hn) ⟨n, hn'⟩ rfl, hk]
      exact ((operands m c).stream_succ ⟨n, hn'⟩).symm
    rw [show outsAt0 m c (n + 1) hn = _ from outsAt0_B m c ⟨n + 1, hn⟩ (by show ¬ (n + 1) % 30 = 0; omega)]
    rw [show (outsAt0 m c ((⟨n + 1, hn⟩ : Fin cfg0.N).val - 1) _).2.2.2.2.2.2 = (operands m c).stream k.val from hx]
    rw [out0_B_19_eq, out0_B_20_eq, out0_B_21_eq, out0_B_22_eq, out0_B_23_eq, out0_B_24_eq, sout0_B_0_eq, point_next m c ⟨n + 1, hn⟩ k hk,
      headsOut_eq (point_heads m c ⟨n + 1, hn⟩ k hk _), codesOut_eq (point_keys m c ⟨n + 1, hn⟩ k hk _), scalesOut_eq (point_keys m c ⟨n + 1, hn⟩ k hk _),
      codesOut_eq (point_values m c ⟨n + 1, hn⟩ k hk _), scalesOut_eq (point_values m c ⟨n + 1, hn⟩ k hk _), shapeCast_self]
    rfl

end Cert.KernelIdeal.Value
-- ==== Proof.RefOut.lean ====
/- The reference's six result arrays, layer by layer. -/
module

public import proofs.«01_k».proof.Proof.RefRun
public import proofs.«01_k».proof.Proof.Gen.ReferenceIdeal.Value

@[expose] public section

set_option maxRecDepth 100000
set_option maxHeartbeats 1000000

noncomputable section

open Idealize.ShloMosaic Idealize.ShloMosaic.TcCoe Idealize.SL.Sem

namespace Cert.ReferenceIdeal.Gen

variable {F : FTy → Type} [FloatOps F] (m : (ℓ : Loc nD τ sig) → Buf (Elt F) ℓ) (c : Dev nD)

/-- The call's operands in memory. -/
def operandsAt (t : Fin cfg0.N) : Operands F where
  ln := iblk m c 0 t
  e := iblk m c 1 t
  s := iblk m c 2 t
  co := iblk m c 3 t
  si := iblk m c 4 t
  ck := iblk m c 5 t
  cks := iblk m c 6 t
  cv := iblk m c 7 t
  cvs := iblk m c 8 t
  an := iblk m c 9 t
  mn := iblk m c 10 t
  wq := iblk m c 11 t
  gq := iblk m c 12 t
  wo := iblk m c 13 t
  go := iblk m c 14 t
  wgu := iblk m c 15 t
  ggu := iblk m c 16 t
  wd := iblk m c 17 t
  gd := iblk m c 18 t

theorem trips_eq : k0_t1_loop.trips = 30 := by decide

/-- The loop of the reference's one point. -/
abbrev loop0 (t : Fin cfg0.N) (n : ℕ) := loopAt Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (operandsAt m c t) n

/-- What the point's first loads read. -/
theorem reads (t : Fin cfg0.N) : View.read (Elt F) (View.whole cc0_stg0_0) ((hs0_0 t).unread (iblk m c 0 t)) = iblk m c 0 t ∧ View.read (Elt F) (View.whole cc0_stg1_0) ((hs0_1 t).unread (iblk m c 1 t)) = iblk m c 1 t ∧ View.read (Elt F) (View.whole cc0_stg2_0) ((hs0_2 t).unread (iblk m c 2 t)) = iblk m c 2 t ∧ View.read (Elt F) (View.whole cc0_stg3_0) ((hs0_3 t).unread (iblk m c 3 t)) = iblk m c 3 t ∧ View.read (Elt F) (View.whole cc0_stg4_0) ((hs0_4 t).unread (iblk m c 4 t)) = iblk m c 4 t :=
  ⟨(hs0_0 t).read_unread _, (hs0_1 t).read_unread _, (hs0_2 t).read_unread _, (hs0_3 t).read_unread _, (hs0_4 t).read_unread _⟩

theorem out_res (t : Fin cfg0.N) : (outsAt0 m c t).1 = View.read (Elt F) VO0_19 (VO0_19.writes (Elt F) VO0_19.junk (loop0 m c t k0_t1_loop.trips).2.1) := by
  unfold outsAt0 out0_A_19 kernelRun0_A
  dsimp only
  simp (disch := decide) only [View.ld_unit_lit', View.readAt_eq_ld, Memref.IsWhole.read_unread]
  obtain ⟨e0, e1, e2, e3, e4⟩ := reads m c t
  rw [e0, e1, e2, e3, e4]
  rfl

/-- Layer `k` of the array. -/
theorem res_at (t : Fin cfg0.N) (k : Fin k0_t1_loop.trips) (y : S30x8x576.Idx) (x : S1x8x576.Idx) (h : ∀ b, (y b).val = k0_off12 k b + (x b).val) :
    (outsAt0 m c t).1 y = (operandsAt m c t).res k x := by
  rw [out_res]
  exact read_layers VO0_19 _ k0_off12 k0_off12_inb (fun k => (operandsAt m c t).res k) (fun n => (loop0 m c t n).2.1)
    (fun k => congrArg (·.1) (stored_eq Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (operandsAt m c t) k)) 0 (by decide +kernel) rfl k y x h _ k.isLt le_rfl

theorem out_heads (t : Fin cfg0.N) : (outsAt0 m c t).2.1 = View.read (Elt F) VO0_20 (VO0_20.writes (Elt F) VO0_20.junk (loop0 m c t k0_t1_loop.trips).2.2.1) := by
  unfold outsAt0 out0_A_20 kernelRun0_A
  dsimp only
  simp (disch := decide) only [View.ld_unit_lit', View.readAt_eq_ld, Memref.IsWhole.read_unread]
  obtain ⟨e0, e1, e2, e3, e4⟩ := reads m c t
  rw [e0, e1, e2, e3, e4]
  rfl

/-- Layer `k` of the array. -/
theorem heads_at (t : Fin cfg0.N) (k : Fin k0_t1_loop.trips) (y : S30x9x8x64.Idx) (x : S1x9x8x64.Idx) (h : ∀ b, (y b).val = k0_off13 k b + (x b).val) :
    (outsAt0 m c t).2.1 y = (operandsAt m c t).heads k x := by
  rw [out_heads]
  exact read_layers VO0_20 _ k0_off13 k0_off13_inb (fun k => (operandsAt m c t).heads k) (fun n => (loop0 m c t n).2.2.1)
    (fun k => congrArg (·.2.1) (stored_eq Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (operandsAt m c t) k)) 0 (by decide +kernel) rfl k y x h _ k.isLt le_rfl

theorem out_kc (t : Fin cfg0.N) : (outsAt0 m c t).2.2.1 = View.read (Elt F) VO0_21 (VO0_21.writes (Elt F) VO0_21.junk (loop0 m c t k0_t1_loop.trips).2.2.2.1) := by
  unfold outsAt0 out0_A_21 kernelRun0_A
  dsimp only
  simp (disch := decide) only [View.ld_unit_lit', View.readAt_eq_ld, Memref.IsWhole.read_unread]
  obtain ⟨e0, e1, e2, e3, e4⟩ := reads m c t
  rw [e0, e1, e2, e3, e4]
  rfl

/-- Layer `k` of the array. -/
theorem kc_at (t : Fin cfg0.N) (k : Fin k0_t1_loop.trips) (y : S30x8x192.Idx) (x : S1x8x192.Idx) (h : ∀ b, (y b).val = k0_off14 k b + (x b).val) :
    (outsAt0 m c t).2.2.1 y = (operandsAt m c t).kc k x := by
  rw [out_kc]
  exact read_layers VO0_21 _ k0_off14 k0_off14_inb (fun k => (operandsAt m c t).kc k) (fun n => (loop0 m c t n).2.2.2.1)
    (fun k => congrArg (·.2.2.1) (stored_eq Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (operandsAt m c t) k)) 0 (by decide +kernel) rfl k y x h _ k.isLt le_rfl

theorem out_ks (t : Fin cfg0.N) : (outsAt0 m c t).2.2.2.1 = View.read (Elt F) VO0_22 (VO0_22.writes (Elt F) VO0_22.junk (loop0 m c t k0_t1_loop.trips).2.2.2.2.1) := by
  unfold outsAt0 out0_A_22 kernelRun0_A
  dsimp only
  simp (disch := decide) only [View.ld_unit_lit', View.readAt_eq_ld, Memref.IsWhole.read_unread]
  obtain ⟨e0, e1, e2, e3, e4⟩ := reads m c t
  rw [e0, e1, e2, e3, e4]
  rfl

/-- Layer `k` of the array. -/
theorem ks_at (t : Fin cfg0.N) (k : Fin k0_t1_loop.trips) (y : S30x8x3.Idx) (x : S1x8x3.Idx) (h : ∀ b, (y b).val = k0_off15 k b + (x b).val) :
    (outsAt0 m c t).2.2.2.1 y = (operandsAt m c t).ks k x := by
  rw [out_ks]
  exact read_layers VO0_22 _ k0_off15 k0_off15_inb (fun k => (operandsAt m c t).ks k) (fun n => (loop0 m c t n).2.2.2.2.1)
    (fun k => congrArg (·.2.2.2.1) (stored_eq Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (operandsAt m c t) k)) 0 (by decide +kernel) rfl k y x h _ k.isLt le_rfl

theorem out_vc (t : Fin cfg0.N) : (outsAt0 m c t).2.2.2.2.1 = View.read (Elt F) VO0_23 (VO0_23.writes (Elt F) VO0_23.junk (loop0 m c t k0_t1_loop.trips).2.2.2.2.2.1) := by
  unfold outsAt0 out0_A_23 kernelRun0_A
  dsimp only
  simp (disch := decide) only [View.ld_unit_lit', View.readAt_eq_ld, Memref.IsWhole.read_unread]
  obtain ⟨e0, e1, e2, e3, e4⟩ := reads m c t
  rw [e0, e1, e2, e3, e4]
  rfl

/-- Layer `k` of the array. -/
theorem vc_at (t : Fin cfg0.N) (k : Fin k0_t1_loop.trips) (y : S30x8x192.Idx) (x : S1x8x192.Idx) (h : ∀ b, (y b).val = k0_off14 k b + (x b).val) :
    (outsAt0 m c t).2.2.2.2.1 y = (operandsAt m c t).vc k x := by
  rw [out_vc]
  exact read_layers VO0_23 _ k0_off14 k0_off14_inb (fun k => (operandsAt m c t).vc k) (fun n => (loop0 m c t n).2.2.2.2.2.1)
    (fun k => congrArg (·.2.2.2.2.1) (stored_eq Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (operandsAt m c t) k)) 0 (by decide +kernel) rfl k y x h _ k.isLt le_rfl

theorem out_vs (t : Fin cfg0.N) : (outsAt0 m c t).2.2.2.2.2 = View.read (Elt F) VO0_24 (VO0_24.writes (Elt F) VO0_24.junk (loop0 m c t k0_t1_loop.trips).2.2.2.2.2.2) := by
  unfold outsAt0 out0_A_24 kernelRun0_A
  dsimp only
  simp (disch := decide) only [View.ld_unit_lit', View.readAt_eq_ld, Memref.IsWhole.read_unread]
  obtain ⟨e0, e1, e2, e3, e4⟩ := reads m c t
  rw [e0, e1, e2, e3, e4]
  rfl

/-- Layer `k` of the array. -/
theorem vs_at (t : Fin cfg0.N) (k : Fin k0_t1_loop.trips) (y : S30x8x3.Idx) (x : S1x8x3.Idx) (h : ∀ b, (y b).val = k0_off15 k b + (x b).val) :
    (outsAt0 m c t).2.2.2.2.2 y = (operandsAt m c t).vs k x := by
  rw [out_vs]
  exact read_layers VO0_24 _ k0_off15 k0_off15_inb (fun k => (operandsAt m c t).vs k) (fun n => (loop0 m c t n).2.2.2.2.2.2)
    (fun k => congrArg (·.2.2.2.2.2) (stored_eq Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (operandsAt m c t) k)) 0 (by decide +kernel) rfl k y x h _ k.isLt le_rfl

end Cert.ReferenceIdeal.Gen
-- ==== Proof.RefArr.lean ====
/- The reference's result arrays, layer by layer, over its arguments. -/
module

public import proofs.«01_k».proof.Proof.RefOut
public import Idealize.ShloMosaic.Lib.StableHlo.RunClose

@[expose] public section

set_option maxRecDepth 16384

noncomputable section

open Idealize.ShloMosaic Idealize.ShloMosaic.TcCoe Idealize.SL.Sem

namespace Cert.ReferenceIdeal.Gen

variable (m : (ℓ : Loc nD τ sig) → Buf (Elt Ideal) ℓ) (c : Dev nD)

theorem index0 : ∀ t : Fin cfg0.N, win0_0.index t = ![0] := (by decide +kernel : ∀ t : Fin grid0.N, _)
theorem whole0 (t : Fin cfg0.N) : iblk m c 0 t = V m c main_arg1 := by
  funext x
  blk_simp [iblk]
  refine congrArg _ ?_
  blk_ext [index0]

theorem index1 : ∀ t : Fin cfg0.N, win0_1.index t = ![0, 0] := (by decide +kernel : ∀ t : Fin grid0.N, _)
theorem whole1 (t : Fin cfg0.N) : iblk m c 1 t = V m c main_v7 := by
  funext x
  blk_simp [iblk]
  refine congrArg _ ?_
  blk_ext [index1]

theorem index2 : ∀ t : Fin cfg0.N, win0_2.index t = ![0, 0] := (by decide +kernel : ∀ t : Fin grid0.N, _)
theorem whole2 (t : Fin cfg0.N) : iblk m c 2 t = V m c main_v15 := by
  funext x
  blk_simp [iblk]
  refine congrArg _ ?_
  blk_ext [index2]

theorem index3 : ∀ t : Fin cfg0.N, win0_3.index t = ![0, 0, 0] := (by decide +kernel : ∀ t : Fin grid0.N, _)
theorem whole3 (t : Fin cfg0.N) : iblk m c 3 t = V m c main_arg2 := by
  funext x
  blk_simp [iblk]
  refine congrArg _ ?_
  blk_ext [index3]

theorem index4 : ∀ t : Fin cfg0.N, win0_4.index t = ![0, 0, 0] := (by decide +kernel : ∀ t : Fin grid0.N, _)
theorem whole4 (t : Fin cfg0.N) : iblk m c 4 t = V m c main_arg3 := by
  funext x
  blk_simp [iblk]
  refine congrArg _ ?_
  blk_ext [index4]

theorem index5 : ∀ t : Fin cfg0.N, win0_5.index t = ![0, 0, 0, 0, 0] := (by decide +kernel : ∀ t : Fin grid0.N, _)
theorem whole5 (t : Fin cfg0.N) : iblk m c 5 t = V m c main_arg4 := by
  funext x
  blk_simp [iblk]
  refine congrArg _ ?_
  blk_ext [index5]

theorem index6 : ∀ t : Fin cfg0.N, win0_6.index t = ![0, 0, 0, 0] := (by decide +kernel : ∀ t : Fin grid0.N, _)
theorem whole6 (t : Fin cfg0.N) : iblk m c 6 t = V m c main_arg5 := by
  funext x
  blk_simp [iblk]
  refine congrArg _ ?_
  blk_ext [index6]

theorem index7 : ∀ t : Fin cfg0.N, win0_7.index t = ![0, 0, 0, 0, 0] := (by decide +kernel : ∀ t : Fin grid0.N, _)
theorem whole7 (t : Fin cfg0.N) : iblk m c 7 t = V m c main_arg6 := by
  funext x
  blk_simp [iblk]
  refine congrArg _ ?_
  blk_ext [index7]

theorem index8 : ∀ t : Fin cfg0.N, win0_8.index t = ![0, 0, 0, 0] := (by decide +kernel : ∀ t : Fin grid0.N, _)
theorem whole8 (t : Fin cfg0.N) : iblk m c 8 t = V m c main_arg7 := by
  funext x
  blk_simp [iblk]
  refine congrArg _ ?_
  blk_ext [index8]

theorem index9 : ∀ t : Fin cfg0.N, win0_9.index t = ![0, 0] := (by decide +kernel : ∀ t : Fin grid0.N, _)
theorem whole9 (t : Fin cfg0.N) : iblk m c 9 t = V m c main_arg10 := by
  funext x
  blk_simp [iblk]
  refine congrArg _ ?_
  blk_ext [index9]

theorem index10 : ∀ t : Fin cfg0.N, win0_10.index t = ![0, 0] := (by decide +kernel : ∀ t : Fin grid0.N, _)
theorem whole10 (t : Fin cfg0.N) : iblk m c 10 t = V m c main_arg11 := by
  funext x
  blk_simp [iblk]
  refine congrArg _ ?_
  blk_ext [index10]

theorem index11 : ∀ t : Fin cfg0.N, win0_11.index t = ![0, 0, 0] := (by decide +kernel : ∀ t : Fin grid0.N, _)
theorem whole11 (t : Fin cfg0.N) : iblk m c 11 t = V m c main_arg12 := by
  funext x
  blk_simp [iblk]
  refine congrArg _ ?_
  blk_ext [index11]

theorem index12 : ∀ t : Fin cfg0.N, win0_12.index t = ![0, 0, 0] := (by decide +kernel : ∀ t : Fin grid0.N, _)
theorem whole12 (t : Fin cfg0.N) : iblk m c 12 t = V m c main_arg13 := by
  funext x
  blk_simp [iblk]
  refine congrArg _ ?_
  blk_ext [index12]

theorem index13 : ∀ t : Fin cfg0.N, win0_13.index t = ![0, 0, 0] := (by decide +kernel : ∀ t : Fin grid0.N, _)
theorem whole13 (t : Fin cfg0.N) : iblk m c 13 t = V m c main_arg14 := by
  funext x
  blk_simp [iblk]
  refine congrArg _ ?_
  blk_ext [index13]

theorem index14 : ∀ t : Fin cfg0.N, win0_14.index t = ![0, 0, 0] := (by decide +kernel : ∀ t : Fin grid0.N, _)
theorem whole14 (t : Fin cfg0.N) : iblk m c 14 t = V m c main_arg15 := by
  funext x
  blk_simp [iblk]
  refine congrArg _ ?_
  blk_ext [index14]

theorem index15 : ∀ t : Fin cfg0.N, win0_15.index t = ![0, 0, 0] := (by decide +kernel : ∀ t : Fin grid0.N, _)
theorem whole15 (t : Fin cfg0.N) : iblk m c 15 t = V m c main_arg16 := by
  funext x
  blk_simp [iblk]
  refine congrArg _ ?_
  blk_ext [index15]

theorem index16 : ∀ t : Fin cfg0.N, win0_16.index t = ![0, 0, 0] := (by decide +kernel : ∀ t : Fin grid0.N, _)
theorem whole16 (t : Fin cfg0.N) : iblk m c 16 t = V m c main_arg17 := by
  funext x
  blk_simp [iblk]
  refine congrArg _ ?_
  blk_ext [index16]

theorem index17 : ∀ t : Fin cfg0.N, win0_17.index t = ![0, 0, 0] := (by decide +kernel : ∀ t : Fin grid0.N, _)
theorem whole17 (t : Fin cfg0.N) : iblk m c 17 t = V m c main_arg18 := by
  funext x
  blk_simp [iblk]
  refine congrArg _ ?_
  blk_ext [index17]

theorem index18 : ∀ t : Fin cfg0.N, win0_18.index t = ![0, 0, 0] := (by decide +kernel : ∀ t : Fin grid0.N, _)
theorem whole18 (t : Fin cfg0.N) : iblk m c 18 t = V m c main_arg19 := by
  funext x
  blk_simp [iblk]
  refine congrArg _ ?_
  blk_ext [index18]

/-- The call's operands, from the arguments. -/
def operands : Operands Ideal where
  ln := m ((c : Thread nD τ).loc main_arg1)
  e := V m c main_v7
  s := V m c main_v15
  co := m ((c : Thread nD τ).loc main_arg2)
  si := m ((c : Thread nD τ).loc main_arg3)
  ck := m ((c : Thread nD τ).loc main_arg4)
  cks := m ((c : Thread nD τ).loc main_arg5)
  cv := m ((c : Thread nD τ).loc main_arg6)
  cvs := m ((c : Thread nD τ).loc main_arg7)
  an := m ((c : Thread nD τ).loc main_arg10)
  mn := m ((c : Thread nD τ).loc main_arg11)
  wq := m ((c : Thread nD τ).loc main_arg12)
  gq := m ((c : Thread nD τ).loc main_arg13)
  wo := m ((c : Thread nD τ).loc main_arg14)
  go := m ((c : Thread nD τ).loc main_arg15)
  wgu := m ((c : Thread nD τ).loc main_arg16)
  ggu := m ((c : Thread nD τ).loc main_arg17)
  wd := m ((c : Thread nD τ).loc main_arg18)
  gd := m ((c : Thread nD τ).loc main_arg19)

theorem operandsAt_eq (t : Fin cfg0.N) : operandsAt m c t = operands m c := by
  unfold operandsAt operands
  rw [whole0, whole1, whole2, whole3, whole4, whole5, whole6, whole7, whole8, whole9, whole10, whole11, whole12, whole13, whole14, whole15, whole16, whole17, whole18, V_main_arg1, V_main_arg2, V_main_arg3, V_main_arg4, V_main_arg5, V_main_arg6, V_main_arg7, V_main_arg10, V_main_arg11, V_main_arg12, V_main_arg13, V_main_arg14, V_main_arg15, V_main_arg16, V_main_arg17, V_main_arg18, V_main_arg19]

/-- The rows the token ids pick, a negative id counting from the end. -/
def tokens (i : IVec S4x2 32) : IVec S4x2x1 32 :=
  broadcastInDim S4x2x1 ![0, 1] bcast_S4x2_S4x2x1_0_1 (select (cmpi .slt i (broadcastInDim S4x2 ![] bcast_S_S4x2 (constantI S_ 32 0#32)))
    (addi i (broadcastInDim S4x2 ![] bcast_S_S4x2 (constantI S_ 32 49152#32))) i)

theorem V_main_v7 : V m c main_v7 = shapeCast S8x576 (Host.gather gather_S49152x576_S4x2x1_S4x2x576_2_0_n_n_0_2_1576 (m ((c : Thread nD τ).loc main_arg8)) (tokens (m ((c : Thread nD τ).loc main_arg0)))) shapeCasts_S4x2x576_S8x576 := by
  show StableHlo.after hostOps0 _ (Proc.devRef .tc main_v7) = _
  after_results_simp
  rfl

theorem V_main_v15 : V m c main_v15 = shapeCast S8x1 (Host.gather gather_S49152_S4x2x1_S4x2_n_0_n_n_0_2_1 (m ((c : Thread nD τ).loc main_arg9)) (tokens (m ((c : Thread nD τ).loc main_arg0)))) shapeCasts_S4x2_S8x1 := by
  show StableHlo.after hostOps0 _ (Proc.devRef .tc main_v15) = _
  after_results_simp
  rfl

/-- Layer `k` of result 1. -/
theorem arr19_at (y : S30x8x576.Idx) (k : Fin k0_t1_loop.trips) (x : S1x8x576.Idx) (h : ∀ b, (y b).val = k0_off12 k b + (x b).val) :
    (dats m 0 c).arrAt 19 cfg0.N y = (operands m c).res k x := by
  have e : (dats m 0 c).arrAt 19 cfg0.N = (outsAt0 m c ⟨0, by decide⟩).1 := by
    refine (dats m 0 c).arrAt_eq_of_after_last 19 ⟨0, by decide⟩ (by decide +kernel) _ fun j => ?_
    rw [after0_19]
    blk_simp
  rw [← operandsAt_eq m c ⟨0, by decide⟩]
  exact (congrFun e y).trans (res_at m c _ k y x h)

/-- Layer `k` of result 2. -/
theorem arr20_at (y : S30x9x8x64.Idx) (k : Fin k0_t1_loop.trips) (x : S1x9x8x64.Idx) (h : ∀ b, (y b).val = k0_off13 k b + (x b).val) :
    (dats m 0 c).arrAt 20 cfg0.N y = (operands m c).heads k x := by
  have e : (dats m 0 c).arrAt 20 cfg0.N = (outsAt0 m c ⟨0, by decide⟩).2.1 := by
    refine (dats m 0 c).arrAt_eq_of_after_last 20 ⟨0, by decide⟩ (by decide +kernel) _ fun j => ?_
    rw [after0_20]
    blk_simp
  rw [← operandsAt_eq m c ⟨0, by decide⟩]
  exact (congrFun e y).trans (heads_at m c _ k y x h)

/-- Layer `k` of result 3. -/
theorem arr21_at (y : S30x8x192.Idx) (k : Fin k0_t1_loop.trips) (x : S1x8x192.Idx) (h : ∀ b, (y b).val = k0_off14 k b + (x b).val) :
    (dats m 0 c).arrAt 21 cfg0.N y = (operands m c).kc k x := by
  have e : (dats m 0 c).arrAt 21 cfg0.N = (outsAt0 m c ⟨0, by decide⟩).2.2.1 := by
    refine (dats m 0 c).arrAt_eq_of_after_last 21 ⟨0, by decide⟩ (by decide +kernel) _ fun j => ?_
    rw [after0_21]
    blk_simp
  rw [← operandsAt_eq m c ⟨0, by decide⟩]
  exact (congrFun e y).trans (kc_at m c _ k y x h)

/-- Layer `k` of result 4. -/
theorem arr22_at (y : S30x8x3.Idx) (k : Fin k0_t1_loop.trips) (x : S1x8x3.Idx) (h : ∀ b, (y b).val = k0_off15 k b + (x b).val) :
    (dats m 0 c).arrAt 22 cfg0.N y = (operands m c).ks k x := by
  have e : (dats m 0 c).arrAt 22 cfg0.N = (outsAt0 m c ⟨0, by decide⟩).2.2.2.1 := by
    refine (dats m 0 c).arrAt_eq_of_after_last 22 ⟨0, by decide⟩ (by decide +kernel) _ fun j => ?_
    rw [after0_22]
    blk_simp
  rw [← operandsAt_eq m c ⟨0, by decide⟩]
  exact (congrFun e y).trans (ks_at m c _ k y x h)

/-- Layer `k` of result 5. -/
theorem arr23_at (y : S30x8x192.Idx) (k : Fin k0_t1_loop.trips) (x : S1x8x192.Idx) (h : ∀ b, (y b).val = k0_off14 k b + (x b).val) :
    (dats m 0 c).arrAt 23 cfg0.N y = (operands m c).vc k x := by
  have e : (dats m 0 c).arrAt 23 cfg0.N = (outsAt0 m c ⟨0, by decide⟩).2.2.2.2.1 := by
    refine (dats m 0 c).arrAt_eq_of_after_last 23 ⟨0, by decide⟩ (by decide +kernel) _ fun j => ?_
    rw [after0_23]
    blk_simp
  rw [← operandsAt_eq m c ⟨0, by decide⟩]
  exact (congrFun e y).trans (vc_at m c _ k y x h)

/-- Layer `k` of result 6. -/
theorem arr24_at (y : S30x8x3.Idx) (k : Fin k0_t1_loop.trips) (x : S1x8x3.Idx) (h : ∀ b, (y b).val = k0_off15 k b + (x b).val) :
    (dats m 0 c).arrAt 24 cfg0.N y = (operands m c).vs k x := by
  have e : (dats m 0 c).arrAt 24 cfg0.N = (outsAt0 m c ⟨0, by decide⟩).2.2.2.2.2 := by
    refine (dats m 0 c).arrAt_eq_of_after_last 24 ⟨0, by decide⟩ (by decide +kernel) _ fun j => ?_
    rw [after0_24]
    blk_simp
  rw [← operandsAt_eq m c ⟨0, by decide⟩]
  exact (congrFun e y).trans (vs_at m c _ k y x h)

end Cert.ReferenceIdeal.Gen
-- ==== Proof.Agree.lean ====
/- The kernel's result arrays are the reference's, on the same arguments. -/
module

public import proofs.«01_k».proof.Proof.Points
public import proofs.«01_k».proof.Proof.RefArr

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The two programs' arguments are the same on device `c`. -/
structure SameArgs : Prop where
  a0 : m' ((c.tc : Thread Cert.ReferenceIdeal.nD Cert.ReferenceIdeal.τ).loc Cert.ReferenceIdeal.main_arg0) = m ((c : Thread nD τ).loc main_arg0)
  a1 : m' ((c.tc : Thread Cert.ReferenceIdeal.nD Cert.ReferenceIdeal.τ).loc Cert.ReferenceIdeal.main_arg1) = m ((c : Thread nD τ).loc main_arg1)
  a2 : m' ((c.tc : Thread Cert.ReferenceIdeal.nD Cert.ReferenceIdeal.τ).loc Cert.ReferenceIdeal.main_arg2) = m ((c : Thread nD τ).loc main_arg2)
  a3 : m' ((c.tc : Thread Cert.ReferenceIdeal.nD Cert.ReferenceIdeal.τ).loc Cert.ReferenceIdeal.main_arg3) = m ((c : Thread nD τ).loc main_arg3)
  a4 : m' ((c.tc : Thread Cert.ReferenceIdeal.nD Cert.ReferenceIdeal.τ).loc Cert.ReferenceIdeal.main_arg4) = m ((c : Thread nD τ).loc main_arg4)
  a5 : m' ((c.tc : Thread Cert.ReferenceIdeal.nD Cert.ReferenceIdeal.τ).loc Cert.ReferenceIdeal.main_arg5) = m ((c : Thread nD τ).loc main_arg5)
  a6 : m' ((c.tc : Thread Cert.ReferenceIdeal.nD Cert.ReferenceIdeal.τ).loc Cert.ReferenceIdeal.main_arg6) = m ((c : Thread nD τ).loc main_arg6)
  a7 : m' ((c.tc : Thread Cert.ReferenceIdeal.nD Cert.ReferenceIdeal.τ).loc Cert.ReferenceIdeal.main_arg7) = m ((c : Thread nD τ).loc main_arg7)
  a8 : m' ((c.tc : Thread Cert.ReferenceIdeal.nD Cert.ReferenceIdeal.τ).loc Cert.ReferenceIdeal.main_arg8) = m ((c : Thread nD τ).loc main_arg8)
  a9 : m' ((c.tc : Thread Cert.ReferenceIdeal.nD Cert.ReferenceIdeal.τ).loc Cert.ReferenceIdeal.main_arg9) = m ((c : Thread nD τ).loc main_arg9)
  a10 : m' ((c.tc : Thread Cert.ReferenceIdeal.nD Cert.ReferenceIdeal.τ).loc Cert.ReferenceIdeal.main_arg10) = m ((c : Thread nD τ).loc main_arg10)
  a11 : m' ((c.tc : Thread Cert.ReferenceIdeal.nD Cert.ReferenceIdeal.τ).loc Cert.ReferenceIdeal.main_arg11) = m ((c : Thread nD τ).loc main_arg11)
  a12 : m' ((c.tc : Thread Cert.ReferenceIdeal.nD Cert.ReferenceIdeal.τ).loc Cert.ReferenceIdeal.main_arg12) = m ((c : Thread nD τ).loc main_arg12)
  a13 : m' ((c.tc : Thread Cert.ReferenceIdeal.nD Cert.ReferenceIdeal.τ).loc Cert.ReferenceIdeal.main_arg13) = m ((c : Thread nD τ).loc main_arg13)
  a14 : m' ((c.tc : Thread Cert.ReferenceIdeal.nD Cert.ReferenceIdeal.τ).loc Cert.ReferenceIdeal.main_arg14) = m ((c : Thread nD τ).loc main_arg14)
  a15 : m' ((c.tc : Thread Cert.ReferenceIdeal.nD Cert.ReferenceIdeal.τ).loc Cert.ReferenceIdeal.main_arg15) = m ((c : Thread nD τ).loc main_arg15)
  a16 : m' ((c.tc : Thread Cert.ReferenceIdeal.nD Cert.ReferenceIdeal.τ).loc Cert.ReferenceIdeal.main_arg16) = m ((c : Thread nD τ).loc main_arg16)
  a17 : m' ((c.tc : Thread Cert.ReferenceIdeal.nD Cert.ReferenceIdeal.τ).loc Cert.ReferenceIdeal.main_arg17) = m ((c : Thread nD τ).loc main_arg17)
  a18 : m' ((c.tc : Thread Cert.ReferenceIdeal.nD Cert.ReferenceIdeal.τ).loc Cert.ReferenceIdeal.main_arg18) = m ((c : Thread nD τ).loc main_arg18)
  a19 : m' ((c.tc : Thread Cert.ReferenceIdeal.nD Cert.ReferenceIdeal.τ).loc Cert.ReferenceIdeal.main_arg19) = m ((c : Thread nD τ).loc main_arg19)

variable {m m' c}

theorem same_e (h : SameArgs m m' c) : Cert.ReferenceIdeal.Gen.V m' c Cert.ReferenceIdeal.main_v7 = V m c main_v7 := by
  rw [Cert.ReferenceIdeal.Gen.V_main_v7, V_main_v7, h.a8, h.a0]
  rfl

theorem same_s (h : SameArgs m m' c) : Cert.ReferenceIdeal.Gen.V m' c Cert.ReferenceIdeal.main_v15 = V m c main_v15 := by
  rw [Cert.ReferenceIdeal.Gen.V_main_v15, V_main_v15, h.a9, h.a0]
  rfl

theorem same_operands (h : SameArgs m m' c) : Cert.ReferenceIdeal.Gen.operands m' c = operands m c := by
  unfold Cert.ReferenceIdeal.Gen.operands operands
  rw [same_e h, same_s h, h.a1, h.a2, h.a3, h.a4, h.a5, h.a6, h.a7, h.a10, h.a11, h.a12, h.a13, h.a14, h.a15, h.a16, h.a17, h.a18, h.a19]

theorem off12 : ∀ k : Fin Cert.ReferenceIdeal.k0_t1_loop.trips, Cert.ReferenceIdeal.k0_off12 k = ![k.val, 0, 0] := by decide +kernel
theorem off13 : ∀ k : Fin Cert.ReferenceIdeal.k0_t1_loop.trips, Cert.ReferenceIdeal.k0_off13 k = ![k.val, 0, 0, 0] := by decide +kernel
theorem off14 : ∀ k : Fin Cert.ReferenceIdeal.k0_t1_loop.trips, Cert.ReferenceIdeal.k0_off14 k = ![k.val, 0, 0] := by decide +kernel
theorem off15 : ∀ k : Fin Cert.ReferenceIdeal.k0_t1_loop.trips, Cert.ReferenceIdeal.k0_off15 k = ![k.val, 0, 0] := by decide +kernel

theorem lt_trips (t : Fin cfg0.N) : t.val < Cert.ReferenceIdeal.k0_t1_loop.trips := by
  have h : cfg0.N = 30 := N_0
  have := t.isLt
  rw [Cert.ReferenceIdeal.Gen.trips_eq]
  omega

theorem index19 : ∀ t : Fin cfg0.N, win0_19.index t = ![t.val, 0, 0] := (by decide +kernel : ∀ t : Fin grid0.N, _)

/-- Result 1. -/
theorem agree19 (h : SameArgs m m' c) : (dats m 0 c).arrAt 19 cfg0.N = (Cert.ReferenceIdeal.Gen.dats m' 0 c).arrAt 19 Cert.ReferenceIdeal.cfg0.N := by
  refine (dats m 0 c).arrAt_eq_of_covers 19 _ (by decide +kernel) fun t hf y => ?_
  blk_simp
  rw [after0_19, outs_eq m c t.val t.isLt ⟨t.val, lt_trips t⟩ rfl, ← same_operands h]
  refine (Cert.ReferenceIdeal.Gen.arr19_at m' c _ ⟨t.val, lt_trips t⟩ _ fun b => ?_).symm
  rw [off12]
  idx_bounds y
  fin_cases b
  · show ((win0_19.blk t).view.emb y 0).val = t.val + (y 0).val
    blk_simp [index19]
  · show ((win0_19.blk t).view.emb y 1).val = 0 + (y 1).val
    blk_simp [index19]
  · show ((win0_19.blk t).view.emb y 2).val = 0 + (y 2).val
    blk_simp [index19]

theorem index20 : ∀ t : Fin cfg0.N, win0_20.index t = ![t.val, 0, 0, 0] := (by decide +kernel : ∀ t : Fin grid0.N, _)

/-- Result 2. -/
theorem agree20 (h : SameArgs m m' c) : (dats m 0 c).arrAt 20 cfg0.N = (Cert.ReferenceIdeal.Gen.dats m' 0 c).arrAt 20 Cert.ReferenceIdeal.cfg0.N := by
  refine (dats m 0 c).arrAt_eq_of_covers 20 _ (by decide +kernel) fun t hf y => ?_
  blk_simp
  rw [after0_20, outs_eq m c t.val t.isLt ⟨t.val, lt_trips t⟩ rfl, ← same_operands h]
  refine (Cert.ReferenceIdeal.Gen.arr20_at m' c _ ⟨t.val, lt_trips t⟩ _ fun b => ?_).symm
  rw [off13]
  idx_bounds y
  fin_cases b
  · show ((win0_20.blk t).view.emb y 0).val = t.val + (y 0).val
    blk_simp [index20]
  · show ((win0_20.blk t).view.emb y 1).val = 0 + (y 1).val
    blk_simp [index20]
  · show ((win0_20.blk t).view.emb y 2).val = 0 + (y 2).val
    blk_simp [index20]
  · show ((win0_20.blk t).view.emb y 3).val = 0 + (y 3).val
    blk_simp [index20]

theorem index21 : ∀ t : Fin cfg0.N, win0_21.index t = ![t.val, 0, 0] := (by decide +kernel : ∀ t : Fin grid0.N, _)

/-- Result 3. -/
theorem agree21 (h : SameArgs m m' c) : (dats m 0 c).arrAt 21 cfg0.N = (Cert.ReferenceIdeal.Gen.dats m' 0 c).arrAt 21 Cert.ReferenceIdeal.cfg0.N := by
  refine (dats m 0 c).arrAt_eq_of_covers 21 _ (by decide +kernel) fun t hf y => ?_
  blk_simp
  rw [after0_21, outs_eq m c t.val t.isLt ⟨t.val, lt_trips t⟩ rfl, ← same_operands h]
  refine (Cert.ReferenceIdeal.Gen.arr21_at m' c _ ⟨t.val, lt_trips t⟩ _ fun b => ?_).symm
  rw [off14]
  idx_bounds y
  fin_cases b
  · show ((win0_21.blk t).view.emb y 0).val = t.val + (y 0).val
    blk_simp [index21]
  · show ((win0_21.blk t).view.emb y 1).val = 0 + (y 1).val
    blk_simp [index21]
  · show ((win0_21.blk t).view.emb y 2).val = 0 + (y 2).val
    blk_simp [index21]

theorem index22 : ∀ t : Fin cfg0.N, win0_22.index t = ![t.val, 0, 0] := (by decide +kernel : ∀ t : Fin grid0.N, _)

/-- Result 4. -/
theorem agree22 (h : SameArgs m m' c) : (dats m 0 c).arrAt 22 cfg0.N = (Cert.ReferenceIdeal.Gen.dats m' 0 c).arrAt 22 Cert.ReferenceIdeal.cfg0.N := by
  refine (dats m 0 c).arrAt_eq_of_covers 22 _ (by decide +kernel) fun t hf y => ?_
  blk_simp
  rw [after0_22, outs_eq m c t.val t.isLt ⟨t.val, lt_trips t⟩ rfl, ← same_operands h]
  refine (Cert.ReferenceIdeal.Gen.arr22_at m' c _ ⟨t.val, lt_trips t⟩ _ fun b => ?_).symm
  rw [off15]
  idx_bounds y
  fin_cases b
  · show ((win0_22.blk t).view.emb y 0).val = t.val + (y 0).val
    blk_simp [index22]
  · show ((win0_22.blk t).view.emb y 1).val = 0 + (y 1).val
    blk_simp [index22]
  · show ((win0_22.blk t).view.emb y 2).val = 0 + (y 2).val
    blk_simp [index22]

theorem index23 : ∀ t : Fin cfg0.N, win0_23.index t = ![t.val, 0, 0] := (by decide +kernel : ∀ t : Fin grid0.N, _)

/-- Result 5. -/
theorem agree23 (h : SameArgs m m' c) : (dats m 0 c).arrAt 23 cfg0.N = (Cert.ReferenceIdeal.Gen.dats m' 0 c).arrAt 23 Cert.ReferenceIdeal.cfg0.N := by
  refine (dats m 0 c).arrAt_eq_of_covers 23 _ (by decide +kernel) fun t hf y => ?_
  blk_simp
  rw [after0_23, outs_eq m c t.val t.isLt ⟨t.val, lt_trips t⟩ rfl, ← same_operands h]
  refine (Cert.ReferenceIdeal.Gen.arr23_at m' c _ ⟨t.val, lt_trips t⟩ _ fun b => ?_).symm
  rw [off14]
  idx_bounds y
  fin_cases b
  · show ((win0_23.blk t).view.emb y 0).val = t.val + (y 0).val
    blk_simp [index23]
  · show ((win0_23.blk t).view.emb y 1).val = 0 + (y 1).val
    blk_simp [index23]
  · show ((win0_23.blk t).view.emb y 2).val = 0 + (y 2).val
    blk_simp [index23]

theorem index24 : ∀ t : Fin cfg0.N, win0_24.index t = ![t.val, 0, 0] := (by decide +kernel : ∀ t : Fin grid0.N, _)

/-- Result 6. -/
theorem agree24 (h : SameArgs m m' c) : (dats m 0 c).arrAt 24 cfg0.N = (Cert.ReferenceIdeal.Gen.dats m' 0 c).arrAt 24 Cert.ReferenceIdeal.cfg0.N := by
  refine (dats m 0 c).arrAt_eq_of_covers 24 _ (by decide +kernel) fun t hf y => ?_
  blk_simp
  rw [after0_24, outs_eq m c t.val t.isLt ⟨t.val, lt_trips t⟩ rfl, ← same_operands h]
  refine (Cert.ReferenceIdeal.Gen.arr24_at m' c _ ⟨t.val, lt_trips t⟩ _ fun b => ?_).symm
  rw [off15]
  idx_bounds y
  fin_cases b
  · show ((win0_24.blk t).view.emb y 0).val = t.val + (y 0).val
    blk_simp [index24]
  · show ((win0_24.blk t).view.emb y 1).val = 0 + (y 1).val
    blk_simp [index24]
  · show ((win0_24.blk t).view.emb y 2).val = 0 + (y 2).val
    blk_simp [index24]

end Cert.KernelIdeal.Value
-- ==== Proof.lean ====
module

public import proofs.«01_k».proof.Defs
public import proofs.«01_k».proof.Proof.Run.Kernel.Frame
public import proofs.«01_k».proof.Proof.Run.KernelIdeal.Frame
public import proofs.«01_k».proof.Proof.Gen.ReferenceIdeal.Frame
public import proofs.«01_k».proof.Proof.Gen.ReferenceIdeal.Value
public import proofs.«01_k».proof.Proof.KValue
public import proofs.«01_k».proof.Proof.Agree

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial,
  fun m g m' g' _ h =>
    have s : ∀ c, Cert.KernelIdeal.Value.SameArgs m m' c := fun c => by
      obtain ⟨a0, a1, a2, a3, a4, a5, a6, a7, a8, a9, a10, a11, a12, a13, a14, a15, a16, a17, a18, a19⟩ := h c
      exact ⟨a0, a1, a2, a3, a4, a5, a6, a7, a8, a9, a10, a11, a12, a13, a14, a15, a16, a17, a18, a19⟩
    ⟨fun c => (Cert.KernelIdeal.Gen.dats m 0 c).arrAt 19 Cert.KernelIdeal.cfg0.N,
      fun c => (Cert.KernelIdeal.Gen.dats m 0 c).arrAt 20 Cert.KernelIdeal.cfg0.N,
      fun c => (Cert.KernelIdeal.Gen.dats m 0 c).arrAt 21 Cert.KernelIdeal.cfg0.N,
      fun c => (Cert.KernelIdeal.Gen.dats m 0 c).arrAt 22 Cert.KernelIdeal.cfg0.N,
      fun c => (Cert.KernelIdeal.Gen.dats m 0 c).arrAt 23 Cert.KernelIdeal.cfg0.N,
      fun c => (Cert.KernelIdeal.Gen.dats m 0 c).arrAt 24 Cert.KernelIdeal.cfg0.N,
      Cert.KernelIdeal.Value.run_blocks m g,
      (θ_run _ _ _).mono (fun r hr c => by
        obtain ⟨e0, e1, e2, e3, e4, e5, ha⟩ := hr c
        exact ⟨e0.trans (Cert.KernelIdeal.Value.agree19 (s c)).symm, e1.trans (Cert.KernelIdeal.Value.agree20 (s c)).symm, e2.trans (Cert.KernelIdeal.Value.agree21 (s c)).symm, e3.trans (Cert.KernelIdeal.Value.agree22 (s c)).symm, e4.trans (Cert.KernelIdeal.Value.agree23 (s c)).symm, e5.trans (Cert.KernelIdeal.Value.agree24 (s c)).symm, ha⟩) (Cert.ReferenceIdeal.Value.run_blocks m' g')⟩⟩

end Cert.Proof

end
